-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v127) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v58) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v70) = v0 c
          ∧ r.2.mem ((c.tc : Thread Cert.Reference10Ideal.nD Cert.Reference10Ideal.τ).loc Cert.Reference10Ideal.main_v73) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_inputs.lean ====
abbrev S16896x8192 : Shape := ⟨2, ![16896, 8192]⟩
abbrev S16896x32768 : Shape := ⟨2, ![16896, 32768]⟩
abbrev S4x128 : Shape := ⟨2, ![4, 128]⟩
abbrev S256 : Shape := ⟨1, ![256]⟩
abbrev S16896x4096 : Shape := ⟨2, ![16896, 4096]⟩
abbrev S_ : Shape := ⟨0, ![]⟩

class Facts : Prop where
  slices_S16896x32768_S16896x4096_0_8192 : S16896x32768.Slices ![0, 8192] S16896x4096
  bitsLt_bf16_f32 : FTy.bits .bf16 < FTy.bits .f32
  bcast_S_S16896x8192 : S_.BroadcastsInDim S16896x8192 (![] : Fin 0 → Fin S16896x8192.rank)
  reducesTo_S16896x8192_S_d0_1 : S16896x8192.ReducesTo [0, 1] S_
  h_S_ : 0 < S_.numel
  bcast_S_S16896x4096 : S_.BroadcastsInDim S16896x4096 (![] : Fin 0 → Fin S16896x4096.rank)
  reducesTo_S16896x4096_S_d0_1 : S16896x4096.ReducesTo [0, 1] S_
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S16896x8192 .bf16) (main_arg1 : FVec F S16896x32768 .bf16) (main_arg2 : FVec F S4x128 .f32) (main_arg3 : FVec F S256 .f32) : IVec S_ 1 :=
  let main_v0 : FVec F S16896x4096 .bf16 := (extractStridedSlice S16896x4096 ![0, 8192] · slices_S16896x32768_S16896x4096_0_8192) main_arg1
  let main_v1 : FVec F S16896x8192 .f32 := (extf .f32 · bitsLt_bf16_f32) main_arg0
  let main_v2 : FVec F S16896x8192 .f32 := Host.absf main_v1
  let main_cst : FVec F S_ .f32 := constant S_ .f32 0x7F800000#32
  let main_v3 : FVec F S16896x8192 .f32 := broadcastInDim S16896x8192 ![] bcast_S_S16896x8192 main_cst
  let main_v4 : IVec S16896x8192 1 := cmpf .olt main_v2 main_v3
  let main_c : IVec S_ 1 := constantI S_ 1 1#1
  let main_v5 : IVec S_ 1 := (fun x v => Host.reduce IntOp.andi x v reducesTo_S16896x8192_S_d0_1 h_S_) main_v4 main_c
  let main_v6 : FVec F S16896x4096 .f32 := (extf .f32 · bitsLt_bf16_f32) main_v0
  let main_v7 : FVec F S16896x4096 .f32 := Host.absf main_v6
  let main_cst_0 : FVec F S_ .f32 := constant S_ .f32 0x7F800000#32
  let main_v8 : FVec F S16896x4096 .f32 := broadcastInDim S16896x4096 ![] bcast_S_S16896x4096 main_cst_0
  let main_v9 : IVec S16896x4096 1 := cmpf .olt main_v7 main_v8
  let main_c_1 : IVec S_ 1 := constantI S_ 1 1#1
  let main_v10 : IVec S_ 1 := (fun x v => Host.reduce IntOp.andi x v reducesTo_S16896x4096_S_d0_1 h_S_) main_v9 main_c_1
  let main_v11 : IVec S_ 1 := andi main_v5 main_v10
  let main_v12 : FVec F S4x128 .f32 := Host.absf main_arg2
  let main_cst_2 : FVec F S_ .f32 := constant S_ .f32 0x7F800000#32
  let main_v13 : FVec F S4x128 .f32 := broadcastInDim S4x128 ![] bcast_S_S4x128 main_cst_2
  let main_v14 : IVec S4x128 1 := cmpf .olt main_v12 main_v13
  let main_c_3 : IVec S_ 1 := constantI S_ 1 1#1
  let main_v15 : IVec S_ 1 := (fun x v => Host.reduce IntOp.andi x v reducesTo_S4x128_S_d0_1 h_S_) main_v14 main_c_3
  let main_v16 : IVec S_ 1 := andi main_v11 main_v15
  main_v16
-- ==== Kernel.lean ====
abbrev S16896x8192 : Shape := ⟨2, ![16896, 8192]⟩
abbrev S16896x32768 : Shape := ⟨2, ![16896, 32768]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S1x1 : Shape := ⟨2, ![1, 1]⟩
abbrev S1x256 : Shape := ⟨2, ![1, 256]⟩
abbrev S16896x4096 : Shape := ⟨2, ![16896, 4096]⟩
abbrev S256x256 : Shape := ⟨2, ![256, 256]⟩
abbrev S8192x256 : Shape := ⟨2, ![8192, 256]⟩
abbrev S2x256x1 : Shape := ⟨3, ![2, 256, 1]⟩
abbrev S2x256x256 : Shape := ⟨3, ![2, 256, 256]⟩
abbrev S256x128 : Shape := ⟨2, ![256, 128]⟩
abbrev S1x256x1 : Shape := ⟨3, ![1, 256, 1]⟩
abbrev S256x1 : Shape := ⟨2, ![256, 1]⟩
abbrev S1x256x256 : Shape := ⟨3, ![1, 256, 256]⟩
abbrev S512x256 : Shape := ⟨2, ![512, 256]⟩
abbrev S512x128 : Shape := ⟨2, ![512, 128]⟩
abbrev S256x512 : Shape := ⟨2, ![256, 512]⟩

abbrev nBuf : Space → Nat
  | .hbm => 29
  | .vmem => 17
  | .smem => 0
  | _ => 0

abbrev bufTy : (tb : Table) → Fin (tcTables nBuf tb) → BufTy
  | .hbm, ⟨0, _⟩ => ⟨S16896x8192, .bf16⟩
  | .hbm, ⟨1, _⟩ => ⟨S16896x32768, .bf16⟩
  | .hbm, ⟨2, _⟩ => ⟨S4x128, .f32⟩
  | .hbm, ⟨3, _⟩ => ⟨S256, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S16896x4096, .bf16⟩
  | .local _ .vmem, ⟨0, _⟩ => ⟨S256x256, .bf16⟩
  | .local _ .vmem, ⟨1, _⟩ => ⟨S256x256, .bf16⟩
  | .local _ .vmem, ⟨2, _⟩ => ⟨S8192x256, .bf16⟩
  | .local _ .vmem, ⟨3, _⟩ => ⟨S8192x256, .bf16⟩
  | .local _ .vmem, ⟨4, _⟩ => ⟨S256x256, .bf16⟩
  | .local _ .vmem, ⟨5, _⟩ => ⟨S256x256, .bf16⟩
  | .local _ .vmem, ⟨6, _⟩ => ⟨S8192x256, .bf16⟩
  | .local _ .vmem, ⟨7, _⟩ => ⟨S8192x256, .bf16⟩
  | .local _ .vmem, ⟨8, _⟩ => ⟨S256x256, .bf16⟩
  | .local _ .vmem, ⟨9, _⟩ => ⟨S256x256, .bf16⟩
  | .local _ .vmem, ⟨10, _⟩ => ⟨S1x1, .f32⟩
  | .local _ .vmem, ⟨11, _⟩ => ⟨S1x256, .f32⟩
  | .local _ .vmem, ⟨12, _⟩ => ⟨S256x256, .bf16⟩
  | .local _ .vmem, ⟨13, _⟩ => ⟨S256x256, .bf16⟩
  | .local _ .vmem, ⟨14, _⟩ => ⟨S2x256x1, .f32⟩
  | .local _ .vmem, ⟨15, _⟩ => ⟨S2x256x1, .f32⟩
  | .local _ .vmem, ⟨16, _⟩ => ⟨S2x256x256, .f32⟩
  | _, _ => ⟨S16896x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 33], ![false, false, false]⟩

@[reducible] def k0_t1_loop (i : grid0.Coords) : Scf.Loop 32 :=
  let c0_i32_60 : BitVec 32 := 0#32
  let arg2 : BitVec 32 := BitVec.ofNat 32 (i 2).val
  let c32_i32 : BitVec 32 := 32#32
  let v85 : BitVec 1 := Scalar.cmpi .slt arg2 c32_i32
  let c16_i32 : BitVec 32 := 16#32
  let c0_i32 : BitVec 32 := 0#32
  let v86 : BitVec 32 := Scalar.select v85 c16_i32 c0_i32
  let v87 : BitVec 32 := Scalar.subi v86 c0_i32_60
  let c1_i32 : BitVec 32 := 1#32
  let v89 : BitVec 32 := Scalar.divsi v87 c1_i32
  let v90 : BitVec 32 := Scalar.muli v89 c1_i32
  let v91 : BitVec 32 := Scalar.addi c0_i32_60 v90
  let c1_i32_61 : BitVec 32 := 1#32
  ⟨c0_i32_60, v91, c1_i32_61⟩
def k0_mult1 (i : grid0.Coords) (k0_t1 : Fin (k0_t1_loop i).trips) : BitVec 32 :=
  let c0_i32_60 : BitVec 32 := 0#32
  let c1_i32_61 : BitVec 32 := 1#32
  let arg14 : BitVec 32 := Scf.iv c0_i32_60 c1_i32_61 k0_t1
  let c512_i32 : BitVec 32 := 512#32
  let v125 : BitVec 32 := Scalar.muli arg14 c512_i32
  v125
def k0_off1 (i : grid0.Coords) (k0_t1 : Fin (k0_t1_loop i).trips) : Fin 2 → Nat :=
  let c0_i32_60 : BitVec 32 := 0#32
  let c1_i32_61 : BitVec 32 := 1#32
  let arg14 : BitVec 32 := Scf.iv c0_i32_60 c1_i32_61 k0_t1
  let c512_i32 : BitVec 32 := 512#32
  let v125 : BitVec 32 := Scalar.muli arg14 c512_i32
  let v126 : BitVec 32 := v125
  let v127 : Index := Scalar.indexCast v126
  let c0_84 : Index := 0#32
  ![v127.toNat, 0]
@[reducible] def k0_t2_loop (i : grid0.Coords) : Scf.Loop 32 :=
  let c0_i32_60 : BitVec 32 := 0#32
  let arg2 : BitVec 32 := BitVec.ofNat 32 (i 2).val
  let c32_i32 : BitVec 32 := 32#32
  let v85 : BitVec 1 := Scalar.cmpi .slt arg2 c32_i32
  let c16_i32 : BitVec 32 := 16#32
  let c0_i32 : BitVec 32 := 0#32
  let v86 : BitVec 32 := Scalar.select v85 c16_i32 c0_i32
  let v87 : BitVec 32 := Scalar.subi v86 c0_i32_60
  let c1_i32 : BitVec 32 := 1#32
  let v89 : BitVec 32 := Scalar.divsi v87 c1_i32
  let v90 : BitVec 32 := Scalar.muli v89 c1_i32
  let v91 : BitVec 32 := Scalar.addi c0_i32_60 v90
  let v88 : BitVec 32 := Scalar.addi c0_i32_60 v87
  let c1_i32_62 : BitVec 32 := 1#32
  ⟨v91, v88, c1_i32_62⟩
def k0_mult2 (i : grid0.Coords) (k0_t2 : Fin (k0_t2_loop i).trips) : BitVec 32 :=
  let c0_i32_60 : BitVec 32 := 0#32
  let arg2 : BitVec 32 := BitVec.ofNat 32 (i 2).val
  let c32_i32 : BitVec 32 := 32#32
  let v85 : BitVec 1 := Scalar.cmpi .slt arg2 c32_i32
  let c16_i32 : BitVec 32 := 16#32
  let c0_i32 : BitVec 32 := 0#32
  let v86 : BitVec 32 := Scalar.select v85 c16_i32 c0_i32
  let v87 : BitVec 32 := Scalar.subi v86 c0_i32_60
  let c1_i32 : BitVec 32 := 1#32
  let v89 : BitVec 32 := Scalar.divsi v87 c1_i32
  let v90 : BitVec 32 := Scalar.muli v89 c1_i32
  let v91 : BitVec 32 := Scalar.addi c0_i32_60 v90
  let c1_i32_62 : BitVec 32 := 1#32
  let arg14 : BitVec 32 := Scf.iv v91 c1_i32_62 k0_t2
  let c512_i32 : BitVec 32 := 512#32
  let v125 : BitVec 32 := Scalar.muli arg14 c512_i32
  v125
def k0_off2 (i : grid0.Coords) (k0_t2 : Fin (k0_t2_loop i).trips) : Fin 2 → Nat :=
  let c0_i32_60 : BitVec 32 := 0#32
  let arg2 : BitVec 32 := BitVec.ofNat 32 (i 2).val
  let c32_i32 : BitVec 32 := 32#32
  let v85 : BitVec 1 := Scalar.cmpi .slt arg2 c32_i32
  let c16_i32 : BitVec 32 := 16#32
  let c0_i32 : BitVec 32 := 0#32
  let v86 : BitVec 32 := Scalar.select v85 c16_i32 c0_i32
  let v87 : BitVec 32 := Scalar.subi v86 c0_i32_60
  let c1_i32 : BitVec 32 := 1#32
  let v89 : BitVec 32 := Scalar.divsi v87 c1_i32
  let v90 : BitVec 32 := Scalar.muli v89 c1_i32
  let v91 : BitVec 32 := Scalar.addi c0_i32_60 v90
  let c1_i32_62 : BitVec 32 := 1#32
  let arg14 : BitVec 32 := Scf.iv v91 c1_i32_62 k0_t2
  let c512_i32 : BitVec 32 := 512#32
  let v125 : BitVec 32 := Scalar.muli arg14 c512_i32
  let v126 : BitVec 32 := v125
  let v127 : Index := Scalar.indexCast v126
  let c0_84 : Index := 0#32
  ![v127.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 1 := Scalar.cmpi .slt arg2 c32_i32
  let c32_i32_0 : BitVec 32 := 32#32
  let v1 : BitVec 32 := Scalar.muli arg0 c32_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c32_i32_1 : BitVec 32 := 32#32
  let v5 : BitVec 32 := Scalar.subi arg2 c32_i32_1
  let v6 : BitVec 32 := Scalar.addi v4 v5
  let v7 : BitVec 32 := Scalar.select v0 v2 v6
  let c0_i32 : BitVec 32 := 0#32
  ![v7.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c32_i32 : BitVec 32 := 32#32
  let v1 : BitVec 32 := Scalar.addi c32_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 1 := Scalar.cmpi .slt arg2 c32_i32
  let c32_i32_0 : BitVec 32 := 32#32
  let v1 : BitVec 32 := Scalar.muli arg0 c32_i32_0
  let v2 : BitVec 32 := Scalar.addi v1 arg2
  let c1_i32 : BitVec 32 := 1#32
  let v3 : BitVec 32 := Scalar.muli arg0 c1_i32
  let c64_i32 : BitVec 32 := 64#32
  let v4 : BitVec 32 := Scalar.addi c64_i32 v3
  let c32_i32_1 : BitVec 32 := 32#32
  let v5 : BitVec 32 := Scalar.subi arg2 c32_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16896x8192 : Shape := ⟨2, ![16896, 8192]⟩
abbrev S16896x32768 : Shape := ⟨2, ![16896, 32768]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S16384x8192 : Shape := ⟨2, ![16384, 8192]⟩
abbrev S16384x4096 : Shape := ⟨2, ![16384, 4096]⟩
abbrev S2x8192x16x2x128 : Shape := ⟨5, ![2, 8192, 16, 2, 128]⟩
abbrev S2x8192x16x256 : Shape := ⟨4, ![2, 8192, 16, 256]⟩
abbrev S512x8192 : Shape := ⟨2, ![512, 8192]⟩
abbrev S512x4096 : Shape := ⟨2, ![512, 4096]⟩
abbrev S2x256x16x2x128 : Shape := ⟨5, ![2, 256, 16, 2, 128]⟩
abbrev S2x256x16x256 : Shape := ⟨4, ![2, 256, 16, 256]⟩
abbrev S2x8448x16x2x128 : Shape := ⟨5, ![2, 8448, 16, 2, 128]⟩
abbrev S2x8448x16x256 : Shape := ⟨4, ![2, 8448, 16, 256]⟩
abbrev S2x16x2x8192x8448 : Shape := ⟨5, ![2, 16, 2, 8192, 8448]⟩
abbrev S2x16x2x8192 : Shape := ⟨4, ![2, 16, 2, 8192]⟩
abbrev S2x16x2x8192x1 : Shape := ⟨5, ![2, 16, 2, 8192, 1]⟩
abbrev S2x16x1x8192x8448 : Shape := ⟨5, ![2, 16, 1, 8192, 8448]⟩
abbrev S2x16x8192x8448 : Shape := ⟨4, ![2, 16, 8192, 8448]⟩
abbrev S2x16x256x8192 : Shape := ⟨4, ![2, 16, 256, 8192]⟩
abbrev S2x16x2x256x256 : Shape := ⟨5, ![2, 16, 2, 256, 256]⟩
abbrev S2x16x2x256 : Shape := ⟨4, ![2, 16, 2, 256]⟩
abbrev S2x16x2x256x1 : Shape := ⟨5, ![2, 16, 2, 256, 1]⟩
abbrev S2x16x1x256x256 : Shape := ⟨5, ![2, 16, 1, 256, 256]⟩
abbrev S2x16x256x256 : Shape := ⟨4, ![2, 16, 256, 256]⟩
abbrev S2x8192x16 : Shape := ⟨3, ![2, 8192, 16]⟩
abbrev S2x8192x16x1 : Shape := ⟨4, ![2, 8192, 16, 1]⟩
abbrev S1x1x1x256 : Shape := ⟨4, ![1, 1, 1, 256]⟩
abbrev S2x256x16 : Shape := ⟨3, ![2, 256, 16]⟩
abbrev S2x256x16x1 : Shape := ⟨4, ![2, 256, 16, 1]⟩
abbrev S16896x4096 : Shape := ⟨2, ![16896, 4096]⟩

abbrev nBuf : Space → Nat
  | .hbm => 133
  | .vmem => 0
  | .smem => 0
  | _ => 0

abbrev hbmTy0_0 (i : Nat) : BufTy := match i % 128 with
  | 0 => ⟨S16896x8192, .bf16⟩
  | 1 => ⟨S16896x32768, .bf16⟩
  | 2 => ⟨S4x128, .f32⟩
  | 3 => ⟨S256, .f32⟩
  | 4 => ⟨S1x128, .f32⟩
  | 5 => ⟨S128, .f32⟩
  | 6 => ⟨S1x128, .f32⟩
  | 7 => ⟨S128, .f32⟩
  | 8 => ⟨S128, .f32⟩
  | 9 => ⟨S_, .f32⟩
  | 10 => ⟨S_, .f32⟩
  | 11 => ⟨S_, .f32⟩
  | 12 => ⟨S1x128, .f32⟩
  | 13 => ⟨S128, .f32⟩
  | 14 => ⟨S1x128, .f32⟩
  | 15 => ⟨S128, .f32⟩
  | 16 => ⟨S128, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16384x8192, .bf16⟩
  | 24 => ⟨S16384x8192, .f32⟩
  | 25 => ⟨S16384x4096, .bf16⟩
  | 26 => ⟨S16384x4096, .f32⟩
  | 27 => ⟨S16384x4096, .f32⟩
  | 28 => ⟨S2x8192x16x2x128, .f32⟩
  | 29 => ⟨S16384x4096, .f32⟩
  | 30 => ⟨S2x8192x16x2x128, .f32⟩
  | 31 => ⟨S2x8192x16x256, .f32⟩
  | 32 => ⟨S512x8192, .bf16⟩
  | 33 => ⟨S512x8192, .f32⟩
  | 34 => ⟨S512x4096, .bf16⟩
  | 35 => ⟨S512x4096, .f32⟩
  | 36 => ⟨S512x4096, .f32⟩
  | 37 => ⟨S2x256x16x2x128, .f32⟩
  | 38 => ⟨S512x4096, .f32⟩
  | 39 => ⟨S2x256x16x2x128, .f32⟩
  | 40 => ⟨S2x256x16x256, .f32⟩
  | 41 => ⟨S2x8448x16x2x128, .f32⟩
  | 42 => ⟨S2x8448x16x256, .f32⟩
  | 43 => ⟨S2x16x2x8192x8448, .f32⟩
  | 44 => ⟨S_, .f32⟩
  | 45 => ⟨S2x16x2x8192, .f32⟩
  | 46 => ⟨S_, .f32⟩
  | 47 => ⟨S2x16x2x8192, .f32⟩
  | 48 => ⟨S2x16x2x8192, .f32⟩
  | 49 => ⟨S2x16x2x8192x1, .f32⟩
  | 50 => ⟨S2x16x2x8192x8448, .f32⟩
  | 51 => ⟨S2x16x2x8192x8448, .f32⟩
  | 52 => ⟨S2x16x2x8192x8448, .f32⟩
  | 53 => ⟨S_, .f32⟩
  | 54 => ⟨S2x16x2x8192, .f32⟩
  | 55 => ⟨S2x16x2x8192x1, .f32⟩
  | 56 => ⟨S2x16x2x8192x8448, .f32⟩
  | 57 => ⟨S2x16x2x8192x8448, .f32⟩
  | 58 => ⟨S2x16x1x8192x8448, .f32⟩
  | 59 => ⟨S2x16x8192x8448, .f32⟩
  | 60 => ⟨S2x16x1x8192x8448, .f32⟩
  | 61 => ⟨S2x16x8192x8448, .f32⟩
  | 62 => ⟨S2x16x8192x8448, .f32⟩
  | 63 => ⟨S2x16x8192x8448, .f32⟩
  | 64 => ⟨S2x16x8192x8448, .f32⟩
  | 65 => ⟨S2x16x256x8192, .f32⟩
  | 66 => ⟨S2x8192x16x256, .f32⟩
  | 67 => ⟨S2x16x2x256x256, .f32⟩
  | 68 => ⟨S_, .f32⟩
  | 69 => ⟨S2x16x2x256, .f32⟩
  | 70 => ⟨S_, .f32⟩
  | 71 => ⟨S2x16x2x256, .f32⟩
  | 72 => ⟨S2x16x2x256, .f32⟩
  | 73 => ⟨S2x16x2x256x1, .f32⟩
  | 74 => ⟨S2x16x2x256x256, .f32⟩
  | 75 => ⟨S2x16x2x256x256, .f32⟩
  | 76 => ⟨S2x16x2x256x256, .f32⟩
  | 77 => ⟨S_, .f32⟩
  | 78 => ⟨S2x16x2x256, .f32⟩
  | 79 => ⟨S2x16x2x256x1, .f32⟩
  | 80 => ⟨S2x16x2x256x256, .f32⟩
  | 81 => ⟨S2x16x2x256x256, .f32⟩
  | 82 => ⟨S2x16x1x256x256, .f32⟩
  | 83 => ⟨S2x16x256x256, .f32⟩
  | 84 => ⟨S2x16x1x256x256, .f32⟩
  | 85 => ⟨S2x16x256x256, .f32⟩
  | 86 => ⟨S2x16x256x256, .f32⟩
  | 87 => ⟨S2x16x256x256, .f32⟩
  | 88 => ⟨S2x16x256x256, .f32⟩
  | 89 => ⟨S2x16x256x256, .f32⟩
  | 90 => ⟨S2x256x16x256, .f32⟩
  | 91 => ⟨S2x8192x16x256, .f32⟩
  | 92 => ⟨S_, .f32⟩
  | 93 => ⟨S2x8192x16, .f32⟩
  | 94 => ⟨S2x8192x16x1, .f32⟩
  | 95 => ⟨S_, .f32⟩
  | 96 => ⟨S2x8192x16x1, .f32⟩
  | 97 => ⟨S2x8192x16x1, .f32⟩
  | 98 => ⟨S_, .f32⟩
  | 99 => ⟨S2x8192x16x1, .f32⟩
  | 100 => ⟨S2x8192x16x1, .f32⟩
  | 101 => ⟨S2x8192x16x1, .f32⟩
  | 102 => ⟨S2x8192x16x256, .f32⟩
  | 103 => ⟨S2x8192x16x256, .f32⟩
  | 104 => ⟨S1x1x1x256, .f32⟩
  | 105 => ⟨S2x8192x16x256, .f32⟩
  | 106 => ⟨S2x8192x16x256, .f32⟩
  | 107 => ⟨S_, .f32⟩
  | 108 => ⟨S2x8192x16x256, .f32⟩
  | 109 => ⟨S2x8192x16x256, .f32⟩
  | 110 => ⟨S16384x4096, .f32⟩
  | 111 => ⟨S2x256x16x256, .f32⟩
  | 112 => ⟨S_, .f32⟩
  | 113 => ⟨S2x256x16, .f32⟩
  | 114 => ⟨S2x256x16x1, .f32⟩
  | 115 => ⟨S_, .f32⟩
  | 116 => ⟨S2x256x16x1, .f32⟩
  | 117 => ⟨S2x256x16x1, .f32⟩
  | 118 => ⟨S_, .f32⟩
  | 119 => ⟨S2x256x16x1, .f32⟩
  | 120 => ⟨S2x256x16x1, .f32⟩
  | 121 => ⟨S2x256x16x1, .f32⟩
  | 122 => ⟨S2x256x16x256, .f32⟩
  | 123 => ⟨S2x256x16x256, .f32⟩
  | 124 => ⟨S1x1x1x256, .f32⟩
  | 125 => ⟨S2x256x16x256, .f32⟩
  | 126 => ⟨S2x256x16x256, .f32⟩
  | 127 => ⟨S_, .f32⟩
  | _ => ⟨S16896x8192, .bf16⟩

abbrev hbmTy0_1 (i : Nat) : BufTy := match i % 128 with
  | 0 => ⟨S2x256x16x256, .f32⟩
  | 1 => ⟨S2x256x16x256, .f32⟩
  | 2 => ⟨S512x4096, .f32⟩
  | 3 => ⟨S16896x4096, .f32⟩
  | 4 => ⟨S16896x4096, .bf16⟩
  | _ => ⟨S16896x8192, .bf16⟩

abbrev hbmTy (i : Nat) : BufTy := match i / 128 with
  | 0 => hbmTy0_0 i
  | 1 => hbmTy0_1 i
  | _ => ⟨S16896x8192, .bf16⟩

abbrev bufTy : (tb : Table) → Fin (tcTables nBuf tb) → BufTy
  | .hbm, ⟨i, _⟩ => hbmTy i
  | _, _ => ⟨S16896x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_8 : Ref sig .tc := ⟨.hbm, 92, rfl⟩
abbrev main_v79 : Ref sig .tc := ⟨.hbm, 93, rfl⟩
abbrev main_v80 : Ref sig .tc := ⟨.hbm, 94, rfl⟩
abbrev main_cst_9 : Ref sig .tc := ⟨.hbm, 95, rfl⟩
abbrev main_v81 : Ref sig .tc := ⟨.hbm, 96, rfl⟩
abbrev main_v82 : Ref sig .tc := ⟨.hbm, 97, rfl⟩
abbrev main_cst_10 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_cst_11 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_12 : Ref sig .tc := ⟨.hbm, 112, rfl⟩
abbrev main_v95 : Ref sig .tc := ⟨.hbm, 113, rfl⟩
abbrev main_v96 : Ref sig .tc := ⟨.hbm, 114, rfl⟩
abbrev main_cst_13 : Ref sig .tc := ⟨.hbm, 115, rfl⟩
abbrev main_v97 : Ref sig .tc := ⟨.hbm, 116, rfl⟩
abbrev main_v98 : Ref sig .tc := ⟨.hbm, 117, rfl⟩
abbrev main_cst_14 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_15 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩

abbrev nD : Nat := 1
abbrev τ : Topo := Topo.v7x

variable {F : FTy → Type} [FloatOps F]
-- ==== Kernel2.lean ====
abbrev S16896x4096 : Shape := ⟨2, ![16896, 4096]⟩
abbrev S4096x32800 : Shape := ⟨2, ![4096, 32800]⟩
abbrev S4096x24576 : Shape := ⟨2, ![4096, 24576]⟩
abbrev S4096x8192 : Shape := ⟨2, ![4096, 8192]⟩
abbrev S4096x32768 : Shape := ⟨2, ![4096, 32768]⟩
abbrev S16896x32768 : Shape := ⟨2, ![16896, 32768]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x32800, .f32⟩
  | .hbm, ⟨2, _⟩ => ⟨S4096x24576, .f32⟩
  | .hbm, ⟨3, _⟩ => ⟨S4096x8192, .f32⟩
  | .hbm, ⟨4, _⟩ => ⟨S4096x32768, .f32⟩
  | .hbm, ⟨5, _⟩ => ⟨S4096x32768, .bf16⟩
  | .hbm, ⟨6, _⟩ => ⟨S16896x32768, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16896x4096 : Shape := ⟨2, ![16896, 4096]⟩
abbrev S4096x32800 : Shape := ⟨2, ![4096, 32800]⟩
abbrev S16896x32800 : Shape := ⟨2, ![16896, 32800]⟩
abbrev S16896x24576 : Shape := ⟨2, ![16896, 24576]⟩
abbrev S16896x8192 : Shape := ⟨2, ![16896, 8192]⟩
abbrev S16896x32768 : Shape := ⟨2, ![16896, 32768]⟩

abbrev nBuf : Space → Nat
  | .hbm => 8
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x32800, .f32⟩
  | .hbm, ⟨2, _⟩ => ⟨S16896x4096, .f32⟩
  | .hbm, ⟨3, _⟩ => ⟨S16896x32800, .f32⟩
  | .hbm, ⟨4, _⟩ => ⟨S16896x24576, .f32⟩
  | .hbm, ⟨5, _⟩ => ⟨S16896x8192, .f32⟩
  | .hbm, ⟨6, _⟩ => ⟨S16896x32768, .f32⟩
  | .hbm, ⟨7, _⟩ => ⟨S16896x32768, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S16896x4096 : Shape := ⟨2, ![16896, 4096]⟩
abbrev S4096x4096 : Shape := ⟨2, ![4096, 4096]⟩
abbrev S16896x32768 : Shape := ⟨2, ![16896, 32768]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .bf16⟩
  | .hbm, ⟨2, _⟩ => ⟨S4096x4096, .f32⟩
  | .hbm, ⟨3, _⟩ => ⟨S4096x4096, .f32⟩
  | .hbm, ⟨4, _⟩ => ⟨S16896x32768, .bf16⟩
  | .hbm, ⟨5, _⟩ => ⟨S4096x4096, .bf16⟩
  | .hbm, ⟨6, _⟩ => ⟨S4096x4096, .bf16⟩
  | .hbm, ⟨7, _⟩ => ⟨S16896x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16896x4096 : Shape := ⟨2, ![16896, 4096]⟩
abbrev S4096x4096 : Shape := ⟨2, ![4096, 4096]⟩
abbrev S16896x32768 : Shape := ⟨2, ![16896, 32768]⟩
abbrev S16896x8192 : Shape := ⟨2, ![16896, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S16896x4096, .bf16⟩
  | .hbm, ⟨2, _⟩ => ⟨S4096x4096, .f32⟩
  | .hbm, ⟨3, _⟩ => ⟨S4096x4096, .f32⟩
  | .hbm, ⟨4, _⟩ => ⟨S16896x32768, .bf16⟩
  | .hbm, ⟨5, _⟩ => ⟨S16896x8192, .bf16⟩
  | .hbm, ⟨6, _⟩ => ⟨S16896x8192, .f32⟩
  | .hbm, ⟨7, _⟩ => ⟨S16896x4096, .f32⟩
  | .hbm, ⟨8, _⟩ => ⟨S16896x4096, .f32⟩
  | .hbm, ⟨9, _⟩ => ⟨S16896x4096, .f32⟩
  | .hbm, ⟨10, _⟩ => ⟨S16896x4096, .f32⟩
  | .hbm, ⟨11, _⟩ => ⟨S_, .f32⟩
  | .hbm, ⟨12, _⟩ => ⟨S16896x4096, .f32⟩
  | .hbm, ⟨13, _⟩ => ⟨S16896x4096, .f32⟩
  | .hbm, ⟨14, _⟩ => ⟨S_, .f32⟩
  | .hbm, ⟨15, _⟩ => ⟨S16896x4096, .f32⟩
  | .hbm, ⟨16, _⟩ => ⟨S16896x4096, .f32⟩
  | .hbm, ⟨17, _⟩ => ⟨S16896x4096, .f32⟩
  | .hbm, ⟨18, _⟩ => ⟨S16896x4096, .f32⟩
  | .hbm, ⟨19, _⟩ => ⟨S16896x4096, .f32⟩
  | .hbm, ⟨20, _⟩ => ⟨S16896x4096, .f32⟩
  | .hbm, ⟨21, _⟩ => ⟨S16896x4096, .f32⟩
  | .hbm, ⟨22, _⟩ => ⟨S_, .f32⟩
  | .hbm, ⟨23, _⟩ => ⟨S16896x4096, .f32⟩
  | .hbm, ⟨24, _⟩ => ⟨S16896x4096, .f32⟩
  | .hbm, ⟨25, _⟩ => ⟨S_, .f32⟩
  | .hbm, ⟨26, _⟩ => ⟨S16896x4096, .f32⟩
  | .hbm, ⟨27, _⟩ => ⟨S16896x4096, .f32⟩
  | .hbm, ⟨28, _⟩ => ⟨S16896x4096, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S16896x4096 : Shape := ⟨2, ![16896, 4096]⟩
abbrev S4096x4096 : Shape := ⟨2, ![4096, 4096]⟩
abbrev S96x1x4096 : Shape := ⟨3, ![96, 1, 4096]⟩
abbrev S512x4096 : Shape := ⟨2, ![512, 4096]⟩
abbrev S4096x512 : Shape := ⟨2, ![4096, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S96x1x4096, .f32⟩
  | .hbm, ⟨4, _⟩ => ⟨S4096x4096, .bf16⟩
  | .hbm, ⟨5, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c16_i32 : BitVec 32 := 16#32
  let v1 : BitVec 32 := Scalar.divsi arg1 c16_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg1 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c6_i32 : BitVec 32 := 6#32
  let v20 : BitVec 32 := Scalar.muli v19 c6_i32
  let c2_i32_5 : BitVec 32 := 2#32
  let v21 : BitVec 32 := Scalar.addi v20 c2_i32_5
  let c0_i32_6 : BitVec 32 := 0#32
  let c0_i32_7 : BitVec 32 := 0#32
  ![v21.toNat, c0_i32_6.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16896x4096 : Shape := ⟨2, ![16896, 4096]⟩
abbrev S4096x4096 : Shape := ⟨2, ![4096, 4096]⟩
abbrev S96x1x4096 : Shape := ⟨3, ![96, 1, 4096]⟩
abbrev S2x8x6x4096 : Shape := ⟨4, ![2, 8, 6, 4096]⟩
abbrev S1x8x1x4096 : Shape := ⟨4, ![1, 8, 1, 4096]⟩
abbrev S8x4096 : Shape := ⟨2, ![8, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S96x1x4096, .f32⟩
  | .hbm, ⟨4, _⟩ => ⟨S2x8x6x4096, .f32⟩
  | .hbm, ⟨5, _⟩ => ⟨S1x8x1x4096, .f32⟩
  | .hbm, ⟨6, _⟩ => ⟨S8x4096, .f32⟩
  | .hbm, ⟨7, _⟩ => ⟨S16896x4096, .f32⟩
  | .hbm, ⟨8, _⟩ => ⟨S16896x4096, .f32⟩
  | .hbm, ⟨9, _⟩ => ⟨S16384x4096, .f32⟩
  | .hbm, ⟨10, _⟩ => ⟨S2x8192x4096, .f32⟩
  | .hbm, ⟨11, _⟩ => ⟨S2x4096, .f32⟩
  | .hbm, ⟨12, _⟩ => ⟨S2x1x4096, .f32⟩
  | .hbm, ⟨13, _⟩ => ⟨S16384x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S512x4096, .f32⟩
  | .hbm, ⟨19, _⟩ => ⟨S1x4096, .f32⟩
  | .hbm, ⟨20, _⟩ => ⟨S4096, .f32⟩
  | .hbm, ⟨21, _⟩ => ⟨S512x4096, .f32⟩
  | .hbm, ⟨22, _⟩ => ⟨S1x4096, .f32⟩
  | .hbm, ⟨23, _⟩ => ⟨S512x4096, .f32⟩
  | .hbm, ⟨24, _⟩ => ⟨S512x4096, .f32⟩
  | .hbm, ⟨25, _⟩ => ⟨S512x4096, .f32⟩
  | .hbm, ⟨26, _⟩ => ⟨S16384x4096, .f32⟩
  | .hbm, ⟨27, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel5.lean ====
abbrev S16896x4096 : Shape := ⟨2, ![16896, 4096]⟩
abbrev S16896x32768 : Shape := ⟨2, ![16896, 32768]⟩
abbrev S16896x32 : Shape := ⟨2, ![16896, 32]⟩
abbrev S32x16896 : Shape := ⟨2, ![32, 16896]⟩
abbrev S2x16896x4096 : Shape := ⟨3, ![2, 16896, 4096]⟩
abbrev S128x256 : Shape := ⟨2, ![128, 256]⟩
abbrev S128x512 : Shape := ⟨2, ![128, 512]⟩
abbrev S128x32 : Shape := ⟨2, ![128, 32]⟩
abbrev S32x128 : Shape := ⟨2, ![32, 128]⟩
abbrev S1x128x512 : Shape := ⟨3, ![1, 128, 512]⟩
abbrev S256x512 : Shape := ⟨2, ![256, 512]⟩
abbrev S1x256 : Shape := ⟨2, ![1, 256]⟩
abbrev S1x1 : Shape := ⟨2, ![1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1 : Shape := ⟨1, ![1]⟩
abbrev S256 : Shape := ⟨1, ![256]⟩

abbrev nBuf : Space → Nat
  | .hbm => 7
  | .vmem => 19
  | .smem => 0
  | _ => 0

abbrev bufTy : (tb : Table) → Fin (tcTables nBuf tb) → BufTy
  | .hbm, ⟨0, _⟩ => ⟨S16896x4096, .bf16⟩
  | .hbm, ⟨1, _⟩ => ⟨S16896x32768, .bf16⟩
  | .hbm, ⟨2, _⟩ => ⟨S16896x32, .f32⟩
  | .hbm, ⟨3, _⟩ => ⟨S16896x32, .f32⟩
  | .hbm, ⟨4, _⟩ => ⟨S32x16896, .f32⟩
  | .hbm, ⟨5, _⟩ => ⟨S32x16896, .f32⟩
  | .hbm, ⟨6, _⟩ => ⟨S2x16896x4096, .bf16⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S1x128x512, .bf16⟩
  | .local _ .vmem, ⟨15, _⟩ => ⟨S1x128x512, .bf16⟩
  | .local _ .vmem, ⟨16, _⟩ => ⟨S256x512, .f32⟩
  | .local _ .vmem, ⟨17, _⟩ => ⟨S1x256, .f32⟩
  | .local _ .vmem, ⟨18, _⟩ => ⟨S1x1, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨4, ![2, 2, 8, 66], ![false, false, false, false]⟩

def k0_off1 (i : grid0.Coords) : Fin 2 → Nat :=
  let arg0 : BitVec 32 := BitVec.ofNat 32 (i 0).val
  let c2_i32 : BitVec 32 := 2#32
  let v3 : BitVec 32 := Scalar.muli arg0 c2_i32
  let c8_i32 : BitVec 32 := 8#32
  let v4 : BitVec 32 := Scalar.muli v3 c8_i32
  let arg2 : BitVec 32 := BitVec.ofNat 32 (i 2).val
  let v5 : BitVec 32 := Scalar.addi v4 arg2
  let v22 : Index := Scalar.indexCast v5
  let c0_8 : Index := 0#32
  ![v22.toNat, 0]
def k0_off2 (i : grid0.Coords) : Fin 2 → Nat :=
  let arg0 : BitVec 32 := BitVec.ofNat 32 (i 0).val
  let c2_i32 : BitVec 32 := 2#32
  let v3 : BitVec 32 := Scalar.muli arg0 c2_i32
  let c8_i32 : BitVec 32 := 8#32
  let v4 : BitVec 32 := Scalar.muli v3 c8_i32
  let arg2 : BitVec 32 := BitVec.ofNat 32 (i 2).val
  let v5 : BitVec 32 := Scalar.addi v4 arg2
  let c8_i32_1 : BitVec 32 := 8#32
  let v6 : BitVec 32 := Scalar.addi v5 c8_i32_1
  let v25 : Index := Scalar.indexCast v6
  let c0_9 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  ![v12.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c8_i32 : BitVec 32 := 8#32
  let v13 : BitVec 32 := Scalar.addi c8_i32 arg2
  let c0_i32_4 : BitVec 32 := 0#32
  ![v12.toNat, v13.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c32_i32 : BitVec 32 := 32#32
  let v13 : BitVec 32 := Scalar.addi c32_i32 arg2
  let c0_i32_4 : BitVec 32 := 0#32
  ![v12.toNat, v13.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  let c0_i32_5 : BitVec 32 := 0#32
  ![v12.toNat, c0_i32_4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  let c0_i32_5 : BitVec 32 := 0#32
  ![v12.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  let c0_i32_5 : BitVec 32 := 0#32
  ![c0_i32_4.toNat, v12.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  let c0_i32_5 : BitVec 32 := 0#32
  ![c0_i32_4.toNat, v12.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c2_i32_0 : BitVec 32 := 2#32
  let v1 : BitVec 32 := Scalar.subi arg3 c2_i32_0
  let v2 : BitVec 32 := Scalar.select v0 arg3 v1
  let c2_i32_1 : BitVec 32 := 2#32
  let c64_i32 : BitVec 32 := 64#32
  let v3 : BitVec 32 := Scalar.select v0 c2_i32_1 c64_i32
  let c0_i32 : BitVec 32 := 0#32
  let v4 : BitVec 1 := Scalar.cmpi .eq arg0 c0_i32
  let c1_i32 : BitVec 32 := 1#32
  let v5 : BitVec 32 := Scalar.subi v3 c1_i32
  let v6 : BitVec 32 := Scalar.subi v5 v2
  let v7 : BitVec 32 := Scalar.select v4 v2 v6
  let c2_i32_2 : BitVec 32 := 2#32
  let v8 : BitVec 32 := Scalar.muli arg1 c2_i32_2
  let c128_i32 : BitVec 32 := 128#32
  let v9 : BitVec 32 := Scalar.addi c128_i32 v8
  let c64_i32_3 : BitVec 32 := 64#32
  let v10 : BitVec 32 := Scalar.muli arg1 c64_i32_3
  let v11 : BitVec 32 := Scalar.select v0 v9 v10
  let v12 : BitVec 32 := Scalar.addi v11 v7
  let c0_i32_4 : BitVec 32 := 0#32
  ![arg0.toNat, v12.toNat, arg2.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, true]
-- ==== Kernel5Ideal.lean ====
variable {F : FTy → Type} [FloatOps F] [Named F]
def κ : String → Option EReal := fun
  | "mask" => some ⊥
  | _ => none
-- ==== Reference5Ideal.lean ====
abbrev S16896x4096 : Shape := ⟨2, ![16896, 4096]⟩
abbrev S16896x32768 : Shape := ⟨2, ![16896, 32768]⟩
abbrev S16896x32 : Shape := ⟨2, ![16896, 32]⟩
abbrev S16896x2048 : Shape := ⟨2, ![16896, 2048]⟩
abbrev S16896x8 : Shape := ⟨2, ![16896, 8]⟩
abbrev S512x8 : Shape := ⟨2, ![512, 8]⟩
abbrev S2x256x8 : Shape := ⟨3, ![2, 256, 8]⟩
abbrev S16384x8 : Shape := ⟨2, ![16384, 8]⟩
abbrev S2x8192x8 : Shape := ⟨3, ![2, 8192, 8]⟩
abbrev S2x8448x8 : Shape := ⟨3, ![2, 8448, 8]⟩
abbrev S1x2x8448x8 : Shape := ⟨4, ![1, 2, 8448, 8]⟩
abbrev S2x2x8448x8 : Shape := ⟨4, ![2, 2, 8448, 8]⟩
abbrev S2x2x66x128x8x1 : Shape := ⟨6, ![2, 2, 66, 128, 8, 1]⟩
abbrev S66x2x2x8x128x1 : Shape := ⟨6, ![66, 2, 2, 8, 128, 1]⟩
abbrev S66x2x2x8x128 : Shape := ⟨5, ![66, 2, 2, 8, 128]⟩
abbrev S_ : Shape := ⟨0, ![]⟩
abbrev S2x2x8x256x512 : Shape := ⟨5, ![2, 2, 8, 256, 512]⟩
abbrev S2x2x8x256 : Shape := ⟨4, ![2, 2, 8, 256]⟩
abbrev S2x2x8 : Shape := ⟨3, ![2, 2, 8]⟩
abbrev S512x2048 : Shape := ⟨2, ![512, 2048]⟩
abbrev S2x256x2048 : Shape := ⟨3, ![2, 256, 2048]⟩
abbrev S16384x2048 : Shape := ⟨2, ![16384, 2048]⟩
abbrev S2x8192x2048 : Shape := ⟨3, ![2, 8192, 2048]⟩
abbrev S2x8448x2048 : Shape := ⟨3, ![2, 8448, 2048]⟩
abbrev S1x2x8448x2048 : Shape := ⟨4, ![1, 2, 8448, 2048]⟩
abbrev S2x2x8448x2048 : Shape := ⟨4, ![2, 2, 8448, 2048]⟩
abbrev S2x2x66x128x8x256 : Shape := ⟨6, ![2, 2, 66, 128, 8, 256]⟩
abbrev S66x2x2x8x128x256 : Shape := ⟨6, ![66, 2, 2, 8, 128, 256]⟩
abbrev S512x4096 : Shape := ⟨2, ![512, 4096]⟩
abbrev S2x256x4096 : Shape := ⟨3, ![2, 256, 4096]⟩
abbrev S16384x4096 : Shape := ⟨2, ![16384, 4096]⟩
abbrev S2x8192x4096 : Shape := ⟨3, ![2, 8192, 4096]⟩
abbrev S2x8448x4096 : Shape := ⟨3, ![2, 8448, 4096]⟩
abbrev S1x2x8448x4096 : Shape := ⟨4, ![1, 2, 8448, 4096]⟩
abbrev S2x2x8448x4096 : Shape := ⟨4, ![2, 2, 8448, 4096]⟩
abbrev S2x2x66x128x8x512 : Shape := ⟨6, ![2, 2, 66, 128, 8, 512]⟩
abbrev S66x2x2x8x128x512 : Shape := ⟨6, ![66, 2, 2, 8, 128, 512]⟩
abbrev S128x128 : Shape := ⟨2, ![128, 128]⟩
abbrev S1x2x2x8x128x256 : Shape := ⟨6, ![1, 2, 2, 8, 128, 256]⟩
abbrev S2x2x8x128x256 : Shape := ⟨5, ![2, 2, 8, 128, 256]⟩
abbrev S1x2x2x8x128x512 : Shape := ⟨6, ![1, 2, 2, 8, 128, 512]⟩
abbrev S2x2x8x128x512 : Shape := ⟨5, ![2, 2, 8, 128, 512]⟩
abbrev S1x2x2x8x128 : Shape := ⟨5, ![1, 2, 2, 8, 128]⟩
abbrev S2x2x8x128 : Shape := ⟨4, ![2, 2, 8, 128]⟩
abbrev S2x2x8x128x1 : Shape := ⟨5, ![2, 2, 8, 128, 1]⟩
abbrev S2x2x8x1x128 : Shape := ⟨5, ![2, 2, 8, 1, 128]⟩
abbrev S2x2x8x128x128 : Shape := ⟨5, ![2, 2, 8, 128, 128]⟩
abbrev S2x2x8x1 : Shape := ⟨4, ![2, 2, 8, 1]⟩
abbrev S2x2x8x1x1 : Shape := ⟨5, ![2, 2, 8, 1, 1]⟩
abbrev S2x2x256x4096 : Shape := ⟨4, ![2, 2, 256, 4096]⟩
abbrev S2x2x8192x4096 : Shape := ⟨4, ![2, 2, 8192, 4096]⟩
abbrev S1x2x8192x4096 : Shape := ⟨4, ![1, 2, 8192, 4096]⟩
abbrev S1x2x256x4096 : Shape := ⟨4, ![1, 2, 256, 4096]⟩
abbrev S1x16896x4096 : Shape := ⟨3, ![1, 16896, 4096]⟩
abbrev S2x16896x4096 : Shape := ⟨3, ![2, 16896, 4096]⟩

abbrev nBuf : Space → Nat
  | .hbm => 276
  | .vmem => 0
  | .smem => 0
  | _ => 0

abbrev hbmTy0_0 (i : Nat) : BufTy := match i % 128 with
  | 0 => ⟨S16896x4096, .bf16⟩
  | 1 => ⟨S16896x32768, .bf16⟩
  | 2 => ⟨S16896x32, .f32⟩
  | 3 => ⟨S16896x32, .f32⟩
  | 4 => ⟨S16896x2048, .bf16⟩
  | 5 => ⟨S16896x2048, .bf16⟩
  | 6 => ⟨S16896x4096, .bf16⟩
  | 7 => ⟨S16896x8, .f32⟩
  | 8 => ⟨S16896x8, .f32⟩
  | 9 => ⟨S512x8, .f32⟩
  | 10 => ⟨S2x256x8, .f32⟩
  | 11 => ⟨S16384x8, .f32⟩
  | 12 => ⟨S2x8192x8, .f32⟩
  | 13 => ⟨S512x8, .f32⟩
  | 14 => ⟨S2x256x8, .f32⟩
  | 15 => ⟨S16384x8, .f32⟩
  | 16 => ⟨S2x8192x8, .f32⟩
  | 17 => ⟨S2x8448x8, .f32⟩
  | 18 => ⟨S2x256x8, .f32⟩
  | 19 => ⟨S2x8192x8, .f32⟩
  | 20 => ⟨S2x8448x8, .f32⟩
  | 21 => ⟨S1x2x8448x8, .f32⟩
  | 22 => ⟨S1x2x8448x8, .f32⟩
  | 23 => ⟨S2x2x8448x8, .f32⟩
  | 24 => ⟨S2x2x66x128x8x1, .f32⟩
  | 25 => ⟨S66x2x2x8x128x1, .f32⟩
  | 26 => ⟨S66x2x2x8x128, .f32⟩
  | 27 => ⟨S16896x8, .f32⟩
  | 28 => ⟨S16896x8, .f32⟩
  | 29 => ⟨S512x8, .f32⟩
  | 30 => ⟨S2x256x8, .f32⟩
  | 31 => ⟨S16384x8, .f32⟩
  | 32 => ⟨S2x8192x8, .f32⟩
  | 33 => ⟨S512x8, .f32⟩
  | 34 => ⟨S2x256x8, .f32⟩
  | 35 => ⟨S16384x8, .f32⟩
  | 36 => ⟨S2x8192x8, .f32⟩
  | 37 => ⟨S2x8448x8, .f32⟩
  | 38 => ⟨S2x256x8, .f32⟩
  | 39 => ⟨S2x8192x8, .f32⟩
  | 40 => ⟨S2x8448x8, .f32⟩
  | 41 => ⟨S1x2x8448x8, .f32⟩
  | 42 => ⟨S1x2x8448x8, .f32⟩
  | 43 => ⟨S2x2x8448x8, .f32⟩
  | 44 => ⟨S2x2x66x128x8x1, .f32⟩
  | 45 => ⟨S66x2x2x8x128x1, .f32⟩
  | 46 => ⟨S66x2x2x8x128, .f32⟩
  | 47 => ⟨S_, .f32⟩
  | 48 => ⟨S2x2x8x256x512, .f32⟩
  | 49 => ⟨S_, .f32⟩
  | 50 => ⟨S2x2x8x256, .f32⟩
  | 51 => ⟨S_, .f32⟩
  | 52 => ⟨S2x2x8, .f32⟩
  | 53 => ⟨S512x2048, .bf16⟩
  | 54 => ⟨S2x256x2048, .bf16⟩
  | 55 => ⟨S16384x2048, .bf16⟩
  | 56 => ⟨S2x8192x2048, .bf16⟩
  | 57 => ⟨S512x2048, .bf16⟩
  | 58 => ⟨S2x256x2048, .bf16⟩
  | 59 => ⟨S16384x2048, .bf16⟩
  | 60 => ⟨S2x8192x2048, .bf16⟩
  | 61 => ⟨S2x8448x2048, .bf16⟩
  | 62 => ⟨S2x256x2048, .bf16⟩
  | 63 => ⟨S2x8192x2048, .bf16⟩
  | 64 => ⟨S2x8448x2048, .bf16⟩
  | 65 => ⟨S1x2x8448x2048, .bf16⟩
  | 66 => ⟨S1x2x8448x2048, .bf16⟩
  | 67 => ⟨S2x2x8448x2048, .bf16⟩
  | 68 => ⟨S2x2x8448x2048, .f32⟩
  | 69 => ⟨S2x2x66x128x8x256, .f32⟩
  | 70 => ⟨S66x2x2x8x128x256, .f32⟩
  | 71 => ⟨S512x2048, .bf16⟩
  | 72 => ⟨S2x256x2048, .bf16⟩
  | 73 => ⟨S16384x2048, .bf16⟩
  | 74 => ⟨S2x8192x2048, .bf16⟩
  | 75 => ⟨S512x2048, .bf16⟩
  | 76 => ⟨S2x256x2048, .bf16⟩
  | 77 => ⟨S16384x2048, .bf16⟩
  | 78 => ⟨S2x8192x2048, .bf16⟩
  | 79 => ⟨S2x8448x2048, .bf16⟩
  | 80 => ⟨S2x256x2048, .bf16⟩
  | 81 => ⟨S2x8192x2048, .bf16⟩
  | 82 => ⟨S2x8448x2048, .bf16⟩
  | 83 => ⟨S1x2x8448x2048, .bf16⟩
  | 84 => ⟨S1x2x8448x2048, .bf16⟩
  | 85 => ⟨S2x2x8448x2048, .bf16⟩
  | 86 => ⟨S2x2x8448x2048, .f32⟩
  | 87 => ⟨S2x2x66x128x8x256, .f32⟩
  | 88 => ⟨S66x2x2x8x128x256, .f32⟩
  | 89 => ⟨S512x4096, .bf16⟩
  | 90 => ⟨S2x256x4096, .bf16⟩
  | 91 => ⟨S16384x4096, .bf16⟩
  | 92 => ⟨S2x8192x4096, .bf16⟩
  | 93 => ⟨S512x4096, .bf16⟩
  | 94 => ⟨S2x256x4096, .bf16⟩
  | 95 => ⟨S16384x4096, .bf16⟩
  | 96 => ⟨S2x8192x4096, .bf16⟩
  | 97 => ⟨S2x8448x4096, .bf16⟩
  | 98 => ⟨S2x256x4096, .bf16⟩
  | 99 => ⟨S2x8192x4096, .bf16⟩
  | 100 => ⟨S2x8448x4096, .bf16⟩
  | 101 => ⟨S1x2x8448x4096, .bf16⟩
  | 102 => ⟨S1x2x8448x4096, .bf16⟩
  | 103 => ⟨S2x2x8448x4096, .bf16⟩
  | 104 => ⟨S2x2x8448x4096, .f32⟩
  | 105 => ⟨S2x2x66x128x8x512, .f32⟩
  | 106 => ⟨S66x2x2x8x128x512, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S_, .f32⟩
  | 119 => ⟨S66x2x2x8x128x512, .f32⟩
  | 120 => ⟨S_, .i32⟩
  | 121 => ⟨S66x2x2x8x128x256, .f32⟩
  | 122 => ⟨S66x2x2x8x128x256, .f32⟩
  | 123 => ⟨S66x2x2x8x128x512, .f32⟩
  | 124 => ⟨S66x2x2x8x128, .f32⟩
  | 125 => ⟨S66x2x2x8x128, .f32⟩
  | 126 => ⟨S128x128, .i1⟩
  | 127 => ⟨S_, .i32⟩
  | _ => ⟨S16896x4096, .bf16⟩

abbrev hbmTy0_1 (i : Nat) : BufTy := match i % 128 with
  | 0 => ⟨S2x2x8x256x512, .f32⟩
  | 1 => ⟨S2x2x8x256, .f32⟩
  | 2 => ⟨S2x2x8, .f32⟩
  | 3 => ⟨S66x2x2x8x128x512, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x2x2x8x128x256, .f32⟩
  | 12 => ⟨S2x2x8x128x256, .f32⟩
  | 13 => ⟨S_, .i32⟩
  | 14 => ⟨S_, .i32⟩
  | 15 => ⟨S_, .i32⟩
  | 16 => ⟨S_, .i32⟩
  | 17 => ⟨S_, .i32⟩
  | 18 => ⟨S1x2x2x8x128x256, .f32⟩
  | 19 => ⟨S2x2x8x128x256, .f32⟩
  | 20 => ⟨S_, .i32⟩
  | 21 => ⟨S_, .i32⟩
  | 22 => ⟨S_, .i32⟩
  | 23 => ⟨S_, .i32⟩
  | 24 => ⟨S_, .i32⟩
  | 25 => ⟨S1x2x2x8x128x512, .f32⟩
  | 26 => ⟨S2x2x8x128x512, .f32⟩
  | 27 => ⟨S_, .i32⟩
  | 28 => ⟨S_, .i32⟩
  | 29 => ⟨S_, .i32⟩
  | 30 => ⟨S_, .i32⟩
  | 31 => ⟨S1x2x2x8x128, .f32⟩
  | 32 => ⟨S2x2x8x128, .f32⟩
  | 33 => ⟨S_, .i32⟩
  | 34 => ⟨S_, .i32⟩
  | 35 => ⟨S_, .i32⟩
  | 36 => ⟨S_, .i32⟩
  | 37 => ⟨S1x2x2x8x128, .f32⟩
  | 38 => ⟨S2x2x8x128, .f32⟩
  | 39 => ⟨S2x2x8x128x1, .f32⟩
  | 40 => ⟨S2x2x8x1x128, .f32⟩
  | 41 => ⟨S2x2x8x128x128, .f32⟩
  | 42 => ⟨S2x2x8x128x128, .f32⟩
  | 43 => ⟨S2x2x8x128x128, .f32⟩
  | 44 => ⟨S2x2x8x1x128, .f32⟩
  | 45 => ⟨S2x2x8x128x128, .f32⟩
  | 46 => ⟨S2x2x8x128x128, .f32⟩
  | 47 => ⟨S_, .f32⟩
  | 48 => ⟨S_, .f32⟩
  | 49 => ⟨S2x2x8x128x128, .i1⟩
  | 50 => ⟨S2x2x8x128x128, .f32⟩
  | 51 => ⟨S2x2x8x128x128, .f32⟩
  | 52 => ⟨S2x2x8x1, .f32⟩
  | 53 => ⟨S2x2x8x128, .f32⟩
  | 54 => ⟨S2x2x8x128, .f32⟩
  | 55 => ⟨S_, .f32⟩
  | 56 => ⟨S2x2x8x128, .f32⟩
  | 57 => ⟨S2x2x8x128, .f32⟩
  | 58 => ⟨S2x2x8x128x1, .f32⟩
  | 59 => ⟨S2x2x8x128x128, .f32⟩
  | 60 => ⟨S2x2x8x128x128, .f32⟩
  | 61 => ⟨S2x2x8x128x128, .f32⟩
  | 62 => ⟨S2x2x8x128, .f32⟩
  | 63 => ⟨S2x2x8x128, .f32⟩
  | 64 => ⟨S2x2x8x128x128, .f32⟩
  | 65 => ⟨S2x2x8x128x128, .f32⟩
  | 66 => ⟨S2x2x8x128x512, .f32⟩
  | 67 => ⟨S2x2x8x128x1, .f32⟩
  | 68 => ⟨S2x2x8x128x512, .f32⟩
  | 69 => ⟨S2x2x8x128x512, .f32⟩
  | 70 => ⟨S2x2x8x128x512, .f32⟩
  | 71 => ⟨S2x2x8x128x512, .f32⟩
  | 72 => ⟨S_, .f32⟩
  | 73 => ⟨S2x2x8x128, .f32⟩
  | 74 => ⟨S2x2x8x128, .f32⟩
  | 75 => ⟨S2x2x8x128, .f32⟩
  | 76 => ⟨S2x2x8x128, .f32⟩
  | 77 => ⟨S2x2x8x128, .f32⟩
  | 78 => ⟨S2x2x8x128, .f32⟩
  | 79 => ⟨S2x2x8x128, .f32⟩
  | 80 => ⟨S2x2x8x128, .f32⟩
  | 81 => ⟨S2x2x8x128x1, .f32⟩
  | 82 => ⟨S2x2x8x128x512, .f32⟩
  | 83 => ⟨S2x2x8x128x512, .f32⟩
  | 84 => ⟨S2x2x8x1, .f32⟩
  | 85 => ⟨S2x2x8, .f32⟩
  | 86 => ⟨S2x2x8x1, .f32⟩
  | 87 => ⟨S2x2x8x128, .f32⟩
  | 88 => ⟨S2x2x8x128, .f32⟩
  | 89 => ⟨S2x2x8x128, .f32⟩
  | 90 => ⟨S2x2x8, .f32⟩
  | 91 => ⟨S_, .f32⟩
  | 92 => ⟨S2x2x8, .f32⟩
  | 93 => ⟨S2x2x8, .f32⟩
  | 94 => ⟨S2x2x8, .f32⟩
  | 95 => ⟨S2x2x8, .f32⟩
  | 96 => ⟨S2x2x8, .f32⟩
  | 97 => ⟨S2x2x8x1, .f32⟩
  | 98 => ⟨S2x2x8x128, .f32⟩
  | 99 => ⟨S2x2x8x128, .f32⟩
  | 100 => ⟨S2x2x8x128, .f32⟩
  | 101 => ⟨S2x2x8x128x1, .f32⟩
  | 102 => ⟨S2x2x8x128x256, .f32⟩
  | 103 => ⟨S2x2x8x128x256, .f32⟩
  | 104 => ⟨S2x2x8x1x1, .f32⟩
  | 105 => ⟨S2x2x8x256x512, .f32⟩
  | 106 => ⟨S2x2x8x256x512, .f32⟩
  | 107 => ⟨S2x2x8x256x512, .f32⟩
  | 108 => ⟨S2x2x8x256x512, .f32⟩
  | 109 => ⟨S2x2x8x1, .f32⟩
  | 110 => ⟨S2x2x8x256, .f32⟩
  | 111 => ⟨S2x2x8x256, .f32⟩
  | 112 => ⟨S_, .f32⟩
  | 113 => ⟨S2x2x8x256, .f32⟩
  | 114 => ⟨S2x2x8x256, .f32⟩
  | 115 => ⟨S1x2x2x8x128x512, .f32⟩
  | 116 => ⟨S_, .i32⟩
  | 117 => ⟨S_, .i32⟩
  | 118 => ⟨S_, .i32⟩
  | 119 => ⟨S_, .i32⟩
  | 120 => ⟨S_, .i32⟩
  | 121 => ⟨S66x2x2x8x128x512, .f32⟩
  | 122 => ⟨S_, .i32⟩
  | 123 => ⟨S_, .i32⟩
  | 124 => ⟨S2x2x66x128x8x512, .f32⟩
  | 125 => ⟨S2x2x8448x4096, .f32⟩
  | 126 => ⟨S2x2x256x4096, .f32⟩
  | 127 => ⟨S2x2x8192x4096, .f32⟩
  | _ => ⟨S16896x4096, .bf16⟩

abbrev hbmTy0_2 (i : Nat) : BufTy := match i % 128 with
  | 0 => ⟨S1x2x8192x4096, .f32⟩
  | 1 => ⟨S2x8192x4096, .f32⟩
  | 2 => ⟨S16384x4096, .f32⟩
  | 3 => ⟨S1x2x256x4096, .f32⟩
  | 4 => ⟨S2x256x4096, .f32⟩
  | 5 => ⟨S512x4096, .f32⟩
  | 6 => ⟨S16896x4096, .f32⟩
  | 7 => ⟨S1x2x8192x4096, .f32⟩
  | 8 => ⟨S2x8192x4096, .f32⟩
  | 9 => ⟨S2x8192x4096, .f32⟩
  | 10 => ⟨S16384x4096, .f32⟩
  | 11 => ⟨S1x2x256x4096, .f32⟩
  | 12 => ⟨S2x256x4096, .f32⟩
  | 13 => ⟨S2x256x4096, .f32⟩
  | 14 => ⟨S512x4096, .f32⟩
  | 15 => ⟨S16896x4096, .f32⟩
  | 16 => ⟨S1x16896x4096, .f32⟩
  | 17 => ⟨S1x16896x4096, .f32⟩
  | 18 => ⟨S2x16896x4096, .f32⟩
  | 19 => ⟨S2x16896x4096, .bf16⟩
  | _ => ⟨S16896x4096, .bf16⟩

abbrev hbmTy (i : Nat) : BufTy := match i / 128 with
  | 0 => hbmTy0_0 i
  | 1 => hbmTy0_1 i
  | 2 => hbmTy0_2 i
  | _ => ⟨S16896x4096, .bf16⟩

abbrev bufTy : (tb : Table) → Fin (tcTables nBuf tb) → BufTy
  | .hbm, ⟨i, _⟩ => hbmTy i
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst : Ref sig .tc := ⟨.hbm, 47, rfl⟩
abbrev main_v43 : Ref sig .tc := ⟨.hbm, 48, rfl⟩
abbrev main_cst_0 : Ref sig .tc := ⟨.hbm, 49, rfl⟩
abbrev main_v44 : Ref sig .tc := ⟨.hbm, 50, rfl⟩
abbrev main_cst_1 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_c : Ref sig .tc := ⟨.hbm, 107, rfl⟩
abbrev main_v100 : Ref sig .tc := ⟨.hbm, 108, rfl⟩
abbrev main_call10_v0 : Ref sig .tc := ⟨.hbm, 109, rfl⟩
abbrev main_call10_c : Ref sig .tc := ⟨.hbm, 110, rfl⟩
abbrev main_call10_v1 : Ref sig .tc := ⟨.hbm, 111, rfl⟩
abbrev main_call10_v2 : Ref sig .tc := ⟨.hbm, 112, rfl⟩
abbrev main_call10_v3 : Ref sig .tc := ⟨.hbm, 113, rfl⟩
abbrev main_call10_v4 : Ref sig .tc := ⟨.hbm, 114, rfl⟩
abbrev main_call10_c_0 : Ref sig .tc := ⟨.hbm, 115, rfl⟩
abbrev main_call10_v5 : Ref sig .tc := ⟨.hbm, 116, rfl⟩
abbrev main_v101 : Ref sig .tc := ⟨.hbm, 117, rfl⟩
abbrev main_cst_2 : Ref sig .tc := ⟨.hbm, 118, rfl⟩
abbrev main_v102 : Ref sig .tc := ⟨.hbm, 119, rfl⟩
abbrev main_c_3 : Ref sig .tc := ⟨.hbm, 120, rfl⟩
abbrev main_v103_0 : Ref sig .tc := ⟨.hbm, 121, rfl⟩
abbrev main_v103_1 : Ref sig .tc := ⟨.hbm, 122, rfl⟩
abbrev main_v103_2 : Ref sig .tc := ⟨.hbm, 123, rfl⟩
abbrev main_v103_3 : Ref sig .tc := ⟨.hbm, 124, rfl⟩
abbrev main_v103_4 : Ref sig .tc := ⟨.hbm, 125, rfl⟩
abbrev main_v103_5 : Ref sig .tc := ⟨.hbm, 126, rfl⟩
abbrev main_v103_6 : Ref sig .tc := ⟨.hbm, 127, rfl⟩
abbrev main_v103_7 : Ref sig .tc := ⟨.hbm, 128, rfl⟩
abbrev main_v103_8 : Ref sig .tc := ⟨.hbm, 129, rfl⟩
abbrev main_v103_9 : Ref sig .tc := ⟨.hbm, 130, rfl⟩
abbrev main_v103_10 : Ref sig .tc := ⟨.hbm, 131, rfl⟩
abbrev main_while0c_c_14 : Ref sig .tc := ⟨.hbm, 132, rfl⟩
abbrev main_while0c_v128 : Ref sig .tc := ⟨.hbm, 133, rfl⟩
abbrev main_while0b_call11_c : Ref sig .tc := ⟨.hbm, 134, rfl⟩
abbrev main_while0b_call11_c_0 : Ref sig .tc := ⟨.hbm, 135, rfl⟩
abbrev main_while0b_call11_c_1 : Ref sig .tc := ⟨.hbm, 136, rfl⟩
abbrev main_while0b_call11_c_2 : Ref sig .tc := ⟨.hbm, 137, rfl⟩
abbrev main_while0b_call11_c_3 : Ref sig .tc := ⟨.hbm, 138, rfl⟩
abbrev main_while0b_call11_v0 : Ref sig .tc := ⟨.hbm, 139, rfl⟩
abbrev main_while0b_v128 : Ref sig .tc := ⟨.hbm, 140, rfl⟩
abbrev main_while0b_call12_c : Ref sig .tc := ⟨.hbm, 141, rfl⟩
abbrev main_while0b_call12_c_0 : Ref sig .tc := ⟨.hbm, 142, rfl⟩
abbrev main_while0b_call12_c_1 : Ref sig .tc := ⟨.hbm, 143, rfl⟩
abbrev main_while0b_call12_c_2 : Ref sig .tc := ⟨.hbm, 144, rfl⟩
abbrev main_while0b_call12_c_3 : Ref sig .tc := ⟨.hbm, 145, rfl⟩
abbrev main_while0b_call12_v0 : Ref sig .tc := ⟨.hbm, 146, rfl⟩
abbrev main_while0b_v129 : Ref sig .tc := ⟨.hbm, 147, rfl⟩
abbrev main_while0b_call13_c : Ref sig .tc := ⟨.hbm, 148, rfl⟩
abbrev main_while0b_call13_c_0 : Ref sig .tc := ⟨.hbm, 149, rfl⟩
abbrev main_while0b_call13_c_1 : Ref sig .tc := ⟨.hbm, 150, rfl⟩
abbrev main_while0b_call13_c_2 : Ref sig .tc := ⟨.hbm, 151, rfl⟩
abbrev main_while0b_call13_c_3 : Ref sig .tc := ⟨.hbm, 152, rfl⟩
abbrev main_while0b_call13_v0 : Ref sig .tc := ⟨.hbm, 153, rfl⟩
abbrev main_while0b_v130 : Ref sig .tc := ⟨.hbm, 154, rfl⟩
abbrev main_while0b_call14_c : Ref sig .tc := ⟨.hbm, 155, rfl⟩
abbrev main_while0b_call14_c_0 : Ref sig .tc := ⟨.hbm, 156, rfl⟩
abbrev main_while0b_call14_c_1 : Ref sig .tc := ⟨.hbm, 157, rfl⟩
abbrev main_while0b_call14_c_2 : Ref sig .tc := ⟨.hbm, 158, rfl⟩
abbrev main_while0b_call14_v0 : Ref sig .tc := ⟨.hbm, 159, rfl⟩
abbrev main_while0b_v131 : Ref sig .tc := ⟨.hbm, 160, rfl⟩
abbrev main_while0b_call15_c : Ref sig .tc := ⟨.hbm, 161, rfl⟩
abbrev main_while0b_call15_c_0 : Ref sig .tc := ⟨.hbm, 162, rfl⟩
abbrev main_while0b_call15_c_1 : Ref sig .tc := ⟨.hbm, 163, rfl⟩
abbrev main_while0b_call15_c_2 : Ref sig .tc := ⟨.hbm, 164, rfl⟩
abbrev main_while0b_call15_v0 : Ref sig .tc := ⟨.hbm, 165, rfl⟩
abbrev main_while0b_v132 : Ref sig .tc := ⟨.hbm, 166, rfl⟩
abbrev main_while0b_v133 : Ref sig .tc := ⟨.hbm, 167, rfl⟩
abbrev main_while0b_v134 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_cst_14 : Ref sig .tc := ⟨.hbm, 175, rfl⟩
abbrev main_while0b_call16_v0 : Ref sig .tc := ⟨.hbm, 176, rfl⟩
abbrev main_while0b_call16_v1 : Ref sig .tc := ⟨.hbm, 177, rfl⟩
abbrev main_while0b_call16_v2 : Ref sig .tc := ⟨.hbm, 178, rfl⟩
abbrev main_while0b_v141 : Ref sig .tc := ⟨.hbm, 179, rfl⟩
abbrev main_while0b_v142 : Ref sig .tc := ⟨.hbm, 180, rfl⟩
abbrev main_while0b_v143 : Ref sig .tc := ⟨.hbm, 181, rfl⟩
abbrev main_while0b_v144 : Ref sig .tc := ⟨.hbm, 182, rfl⟩
abbrev main_while0b_cst_15 : Ref sig .tc := ⟨.hbm, 183, rfl⟩
abbrev main_while0b_v145 : Ref sig .tc := ⟨.hbm, 184, rfl⟩
abbrev main_while0b_v146 : Ref sig .tc := ⟨.hbm, 185, rfl⟩
abbrev main_while0b_v147 : Ref sig .tc := ⟨.hbm, 186, rfl⟩
abbrev main_while0b_v148 : Ref sig .tc := ⟨.hbm, 187, rfl⟩
abbrev main_while0b_v149 : Ref sig .tc := ⟨.hbm, 188, rfl⟩
abbrev main_while0b_v150 : Ref sig .tc := ⟨.hbm, 189, rfl⟩
abbrev main_while0b_v151 : Ref sig .tc := ⟨.hbm, 190, rfl⟩
abbrev main_while0b_v152 : Ref sig .tc := ⟨.hbm, 191, rfl⟩
abbrev main_while0b_v153 : Ref sig .tc := ⟨.hbm, 192, rfl⟩
abbrev main_while0b_v154 : Ref sig .tc := ⟨.hbm, 193, rfl⟩
abbrev main_while0b_v155 : Ref sig .tc := ⟨.hbm, 194, rfl⟩
abbrev main_while0b_v156 : Ref sig .tc := ⟨.hbm, 195, rfl⟩
abbrev main_while0b_v157 : Ref sig .tc := ⟨.hbm, 196, rfl⟩
abbrev main_while0b_v158 : Ref sig .tc := ⟨.hbm, 197, rfl⟩
abbrev main_while0b_v159 : Ref sig .tc := ⟨.hbm, 198, rfl⟩
abbrev main_while0b_v160 : Ref sig .tc := ⟨.hbm, 199, rfl⟩
abbrev main_while0b_cst_16 : Ref sig .tc := ⟨.hbm, 200, rfl⟩
abbrev main_while0b_v161 : Ref sig .tc := ⟨.hbm, 201, rfl⟩
abbrev main_while0b_v162 : Ref sig .tc := ⟨.hbm, 202, rfl⟩
abbrev main_while0b_v163 : Ref sig .tc := ⟨.hbm, 203, rfl⟩
abbrev main_while0b_v164 : Ref sig .tc := ⟨.hbm, 204, rfl⟩
abbrev main_while0b_v165 : Ref sig .tc := ⟨.hbm, 205, rfl⟩
abbrev main_while0b_v166 : Ref sig .tc := ⟨.hbm, 206, rfl⟩
abbrev main_while0b_v167 : Ref sig .tc := ⟨.hbm, 207, rfl⟩
abbrev main_while0b_v168 : Ref sig .tc := ⟨.hbm, 208, rfl⟩
abbrev main_while0b_v169 : Ref sig .tc := ⟨.hbm, 209, rfl⟩
abbrev main_while0b_v170 : Ref sig .tc := ⟨.hbm, 210, rfl⟩
abbrev main_while0b_v171 : Ref sig .tc := ⟨.hbm, 211, rfl⟩
abbrev main_while0b_v172 : Ref sig .tc := ⟨.hbm, 212, rfl⟩
abbrev main_while0b_v173 : Ref sig .tc := ⟨.hbm, 213, rfl⟩
abbrev main_while0b_v174 : Ref sig .tc := ⟨.hbm, 214, rfl⟩
abbrev main_while0b_v175 : Ref sig .tc := ⟨.hbm, 215, rfl⟩
abbrev main_while0b_v176 : Ref sig .tc := ⟨.hbm, 216, rfl⟩
abbrev main_while0b_v177 : Ref sig .tc := ⟨.hbm, 217, rfl⟩
abbrev main_while0b_v178 : Ref sig .tc := ⟨.hbm, 218, rfl⟩
abbrev main_while0b_cst_17 : Ref sig .tc := ⟨.hbm, 219, rfl⟩
abbrev main_while0b_v179 : Ref sig .tc := ⟨.hbm, 220, rfl⟩
abbrev main_while0b_v180 : Ref sig .tc := ⟨.hbm, 221, rfl⟩
abbrev main_while0b_v181 : Ref sig .tc := ⟨.hbm, 222, rfl⟩
abbrev main_while0b_v182 : Ref sig .tc := ⟨.hbm, 223, rfl⟩
abbrev main_while0b_v183 : Ref sig .tc := ⟨.hbm, 224, rfl⟩
abbrev main_while0b_v184 : Ref sig .tc := ⟨.hbm, 225, rfl⟩
abbrev main_while0b_v185 : Ref sig .tc := ⟨.hbm, 226, rfl⟩
abbrev main_while0b_v186 : Ref sig .tc := ⟨.hbm, 227, rfl⟩
abbrev main_while0b_v187 : Ref sig .tc := ⟨.hbm, 228, rfl⟩
abbrev main_while0b_v188 : Ref sig .tc := ⟨.hbm, 229, rfl⟩
abbrev main_while0b_v189 : Ref sig .tc := ⟨.hbm, 230, rfl⟩
abbrev main_while0b_v190 : Ref sig .tc := ⟨.hbm, 231, rfl⟩
abbrev main_while0b_v191 : Ref sig .tc := ⟨.hbm, 232, rfl⟩
abbrev main_while0b_v192 : Ref sig .tc := ⟨.hbm, 233, rfl⟩
abbrev main_while0b_v193 : Ref sig .tc := ⟨.hbm, 234, rfl⟩
abbrev main_while0b_v194 : Ref sig .tc := ⟨.hbm, 235, rfl⟩
abbrev main_while0b_v195 : Ref sig .tc := ⟨.hbm, 236, rfl⟩
abbrev main_while0b_v196 : Ref sig .tc := ⟨.hbm, 237, rfl⟩
abbrev main_while0b_v197 : Ref sig .tc := ⟨.hbm, 238, rfl⟩
abbrev main_while0b_v198 : Ref sig .tc := ⟨.hbm, 239, rfl⟩
abbrev main_while0b_cst_18 : Ref sig .tc := ⟨.hbm, 240, rfl⟩
abbrev main_while0b_v199 : Ref sig .tc := ⟨.hbm, 241, rfl⟩
abbrev main_while0b_v200 : Ref sig .tc := ⟨.hbm, 242, rfl⟩
abbrev main_while0b_call17_v0 : Ref sig .tc := ⟨.hbm, 243, rfl⟩
abbrev main_while0b_call17_c : Ref sig .tc := ⟨.hbm, 244, rfl⟩
abbrev main_while0b_call17_c_0 : Ref sig .tc := ⟨.hbm, 245, rfl⟩
abbrev main_while0b_call17_c_1 : Ref sig .tc := ⟨.hbm, 246, rfl⟩
abbrev main_while0b_call17_c_2 : Ref sig .tc := ⟨.hbm, 247, rfl⟩
abbrev main_while0b_call17_c_3 : Ref sig .tc := ⟨.hbm, 248, rfl⟩
abbrev main_while0b_v201 : Ref sig .tc := ⟨.hbm, 249, rfl⟩
abbrev main_while0b_c_19 : Ref sig .tc := ⟨.hbm, 250, rfl⟩
abbrev main_while0b_v202 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_v108 : Ref sig .tc := ⟨.hbm, 256, rfl⟩
abbrev main_v109 : Ref sig .tc := ⟨.hbm, 257, rfl⟩
abbrev main_v110 : Ref sig .tc := ⟨.hbm, 258, rfl⟩
abbrev main_v111 : Ref sig .tc := ⟨.hbm, 259, rfl⟩
abbrev main_v112 : Ref sig .tc := ⟨.hbm, 260, rfl⟩
abbrev main_v113 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_v117 : Ref sig .tc := ⟨.hbm, 265, rfl⟩
abbrev main_v118 : Ref sig .tc := ⟨.hbm, 266, rfl⟩
abbrev main_v119 : Ref sig .tc := ⟨.hbm, 267, rfl⟩
abbrev main_v120 : Ref sig .tc := ⟨.hbm, 268, rfl⟩
abbrev main_v121 : Ref sig .tc := ⟨.hbm, 269, rfl⟩
abbrev main_v122 : Ref sig .tc := ⟨.hbm, 270, rfl⟩
abbrev main_v123 : Ref sig .tc := ⟨.hbm, 271, rfl⟩
abbrev main_v124 : Ref sig .tc := ⟨.hbm, 272, rfl⟩
abbrev main_v125 : Ref sig .tc := ⟨.hbm, 273, rfl⟩
abbrev main_v126 : Ref sig .tc := ⟨.hbm, 274, rfl⟩
abbrev main_v127 : Ref sig .tc := ⟨.hbm, 275, rfl⟩

abbrev nD : Nat := 1
abbrev τ : Topo := Topo.v7x

variable {F : FTy → Type} [FloatOps F]

abbrev main_while0_count : Scf.Loop 32 := ⟨0#32, 66#32, 1#32⟩
-- ==== Kernel6.lean ====
abbrev S2x16896x4096 : Shape := ⟨3, ![2, 16896, 4096]⟩
abbrev S16896x32768 : Shape := ⟨2, ![16896, 32768]⟩
abbrev S8x512 : Shape := ⟨2, ![8, 512]⟩
abbrev S8x1x512 : Shape := ⟨3, ![8, 1, 512]⟩
abbrev S16896x4096 : Shape := ⟨2, ![16896, 4096]⟩
abbrev S2x256x512 : Shape := ⟨3, ![2, 256, 512]⟩
abbrev S256x512 : Shape := ⟨2, ![256, 512]⟩
abbrev S1x1x512 : Shape := ⟨3, ![1, 1, 512]⟩
abbrev S1x256x512 : Shape := ⟨3, ![1, 256, 512]⟩
abbrev S256 : Shape := ⟨1, ![256]⟩
abbrev S256x1 : Shape := ⟨2, ![256, 1]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S2x16896x4096, .bf16⟩
  | .hbm, ⟨1, _⟩ => ⟨S16896x32768, .bf16⟩
  | .hbm, ⟨2, _⟩ => ⟨S8x512, .f32⟩
  | .hbm, ⟨3, _⟩ => ⟨S8x1x512, .f32⟩
  | .hbm, ⟨4, _⟩ => ⟨S16896x4096, .bf16⟩
  | .local _ .vmem, ⟨0, _⟩ => ⟨S2x256x512, .bf16⟩
  | .local _ .vmem, ⟨1, _⟩ => ⟨S2x256x512, .bf16⟩
  | .local _ .vmem, ⟨2, _⟩ => ⟨S256x512, .bf16⟩
  | .local _ .vmem, ⟨3, _⟩ => ⟨S256x512, .bf16⟩
  | .local _ .vmem, ⟨4, _⟩ => ⟨S1x1x512, .f32⟩
  | .local _ .vmem, ⟨5, _⟩ => ⟨S1x1x512, .f32⟩
  | .local _ .vmem, ⟨6, _⟩ => ⟨S256x512, .bf16⟩
  | .local _ .vmem, ⟨7, _⟩ => ⟨S256x512, .bf16⟩
  | _, _ => ⟨S2x16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![66, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x16896x4096 : Shape := ⟨3, ![2, 16896, 4096]⟩
abbrev S16896x32768 : Shape := ⟨2, ![16896, 32768]⟩
abbrev S8x512 : Shape := ⟨2, ![8, 512]⟩
abbrev S16896x4096 : Shape := ⟨2, ![16896, 4096]⟩
abbrev S1x16896x4096 : Shape := ⟨3, ![1, 16896, 4096]⟩
abbrev S16896x8x512 : Shape := ⟨3, ![16896, 8, 512]⟩
abbrev S_ : Shape := ⟨0, ![]⟩
abbrev S16896x8 : Shape := ⟨2, ![16896, 8]⟩
abbrev S16896x8x1 : Shape := ⟨3, ![16896, 8, 1]⟩
abbrev S1x8x512 : Shape := ⟨3, ![1, 8, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x16896x4096, .bf16⟩
  | .hbm, ⟨1, _⟩ => ⟨S16896x32768, .bf16⟩
  | .hbm, ⟨2, _⟩ => ⟨S8x512, .f32⟩
  | .hbm, ⟨3, _⟩ => ⟨S16896x4096, .bf16⟩
  | .hbm, ⟨4, _⟩ => ⟨S16896x4096, .f32⟩
  | .hbm, ⟨5, _⟩ => ⟨S1x16896x4096, .bf16⟩
  | .hbm, ⟨6, _⟩ => ⟨S16896x4096, .bf16⟩
  | .hbm, ⟨7, _⟩ => ⟨S16896x4096, .f32⟩
  | .hbm, ⟨8, _⟩ => ⟨S1x16896x4096, .bf16⟩
  | .hbm, ⟨9, _⟩ => ⟨S16896x4096, .bf16⟩
  | .hbm, ⟨10, _⟩ => ⟨S16896x4096, .f32⟩
  | .hbm, ⟨11, _⟩ => ⟨S16896x4096, .f32⟩
  | .hbm, ⟨12, _⟩ => ⟨S16896x8x512, .f32⟩
  | .hbm, ⟨13, _⟩ => ⟨S16896x8x512, .f32⟩
  | .hbm, ⟨14, _⟩ => ⟨S_, .f32⟩
  | .hbm, ⟨15, _⟩ => ⟨S16896x8, .f32⟩
  | .hbm, ⟨16, _⟩ => ⟨S16896x8x1, .f32⟩
  | .hbm, ⟨17, _⟩ => ⟨S_, .f32⟩
  | .hbm, ⟨18, _⟩ => ⟨S16896x8x1, .f32⟩
  | .hbm, ⟨19, _⟩ => ⟨S16896x8x1, .f32⟩
  | .hbm, ⟨20, _⟩ => ⟨S_, .f32⟩
  | .hbm, ⟨21, _⟩ => ⟨S16896x8x1, .f32⟩
  | .hbm, ⟨22, _⟩ => ⟨S16896x8x1, .f32⟩
  | .hbm, ⟨23, _⟩ => ⟨S16896x8x1, .f32⟩
  | .hbm, ⟨24, _⟩ => ⟨S16896x8x512, .f32⟩
  | .hbm, ⟨25, _⟩ => ⟨S16896x8x512, .f32⟩
  | .hbm, ⟨26, _⟩ => ⟨S1x8x512, .f32⟩
  | .hbm, ⟨27, _⟩ => ⟨S16896x8x512, .f32⟩
  | .hbm, ⟨28, _⟩ => ⟨S16896x8x512, .f32⟩
  | .hbm, ⟨29, _⟩ => ⟨S16896x8x512, .f32⟩
  | .hbm, ⟨30, _⟩ => ⟨S16896x8x512, .f32⟩
  | .hbm, ⟨31, _⟩ => ⟨S16896x8x512, .f32⟩
  | .hbm, ⟨32, _⟩ => ⟨S_, .f32⟩
  | .hbm, ⟨33, _⟩ => ⟨S16896x8x512, .f32⟩
  | .hbm, ⟨34, _⟩ => ⟨S16896x8x512, .f32⟩
  | .hbm, ⟨35, _⟩ => ⟨S_, .f32⟩
  | .hbm, ⟨36, _⟩ => ⟨S16896x8x512, .f32⟩
  | .hbm, ⟨37, _⟩ => ⟨S16896x8x512, .f32⟩
  | .hbm, ⟨38, _⟩ => ⟨S16896x8x512, .f32⟩
  | .hbm, ⟨39, _⟩ => ⟨S16896x4096, .f32⟩
  | .hbm, ⟨40, _⟩ => ⟨S16896x4096, .bf16⟩
  | _, _ => ⟨S2x16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel7.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 40
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S1x4096x24576, .f32⟩
  | .hbm, ⟨30, _⟩ => ⟨S4096x24576, .f32⟩
  | .hbm, ⟨31, _⟩ => ⟨S8x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S8x24576, .f32⟩
  | .hbm, ⟨36, _⟩ => ⟨S8x24576, .f32⟩
  | .hbm, ⟨37, _⟩ => ⟨S1x8x24576, .f32⟩
  | .hbm, ⟨38, _⟩ => ⟨S1x8x24576, .f32⟩
  | .hbm, ⟨39, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel8.lean ====
abbrev S16896x4096 : Shape := ⟨2, ![16896, 4096]⟩
abbrev S4096 : Shape := ⟨1, ![4096]⟩
abbrev S96x1x4096 : Shape := ⟨3, ![96, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S96x1x4096, .f32⟩
  | .hbm, ⟨3, _⟩ => ⟨S1x4096, .f32⟩
  | .hbm, ⟨4, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c6_i32 : BitVec 32 := 6#32
  let v20 : BitVec 32 := Scalar.muli v19 c6_i32
  let c0_i32_5 : BitVec 32 := 0#32
  let v21 : BitVec 32 := Scalar.addi v20 c0_i32_5
  let c0_i32_6 : BitVec 32 := 0#32
  let c0_i32_7 : BitVec 32 := 0#32
  let c0_i32_8 : BitVec 32 := 0#32
  ![v21.toNat, c0_i32_6.toNat, c0_i32_7.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c6_i32 : BitVec 32 := 6#32
  let v20 : BitVec 32 := Scalar.muli v19 c6_i32
  let c1_i32_5 : BitVec 32 := 1#32
  let v21 : BitVec 32 := Scalar.addi v20 c1_i32_5
  let c0_i32_6 : BitVec 32 := 0#32
  let c0_i32_7 : BitVec 32 := 0#32
  let c0_i32_8 : BitVec 32 := 0#32
  ![v21.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16896x4096 : Shape := ⟨2, ![16896, 4096]⟩
abbrev S4096 : Shape := ⟨1, ![4096]⟩
abbrev S96x1x4096 : Shape := ⟨3, ![96, 1, 4096]⟩
abbrev S2x8x6x4096 : Shape := ⟨4, ![2, 8, 6, 4096]⟩
abbrev S1x8x6x4096 : Shape := ⟨4, ![1, 8, 6, 4096]⟩
abbrev S8x6x4096 : Shape := ⟨3, ![8, 6, 4096]⟩
abbrev S16384x4096 : Shape := ⟨2, ![16384, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x4096 : Shape := ⟨2, ![2, 4096]⟩
abbrev S512x4096 : Shape := ⟨2, ![512, 4096]⟩
abbrev S512 : Shape := ⟨1, ![512]⟩
abbrev S512x1 : Shape := ⟨2, ![512, 1]⟩
abbrev S1x4096 : Shape := ⟨2, ![1, 4096]⟩

abbrev nBuf : Space → Nat
  | .hbm => 70
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S96x1x4096, .f32⟩
  | .hbm, ⟨3, _⟩ => ⟨S2x8x6x4096, .f32⟩
  | .hbm, ⟨4, _⟩ => ⟨S1x8x6x4096, .f32⟩
  | .hbm, ⟨5, _⟩ => ⟨S8x6x4096, .f32⟩
  | .hbm, ⟨6, _⟩ => ⟨S16384x4096, .f32⟩
  | .hbm, ⟨7, _⟩ => ⟨S2x8192x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x1x4096, .f32⟩
  | .hbm, ⟨25, _⟩ => ⟨S2x4096, .f32⟩
  | .hbm, ⟨26, _⟩ => ⟨S2x1x4096, .f32⟩
  | .hbm, ⟨27, _⟩ => ⟨S_, .f32⟩
  | .hbm, ⟨28, _⟩ => ⟨S2x1x4096, .f32⟩
  | .hbm, ⟨29, _⟩ => ⟨S2x1x4096, .f32⟩
  | .hbm, ⟨30, _⟩ => ⟨S2x8192x4096, .f32⟩
  | .hbm, ⟨31, _⟩ => ⟨S2x8192x4096, .f32⟩
  | .hbm, ⟨32, _⟩ => ⟨S2x1x4096, .f32⟩
  | .hbm, ⟨33, _⟩ => ⟨S2x4096, .f32⟩
  | .hbm, ⟨34, _⟩ => ⟨S2x1x4096, .f32⟩
  | .hbm, ⟨35, _⟩ => ⟨S2x8192x4096, .f32⟩
  | .hbm, ⟨36, _⟩ => ⟨S2x8192x4096, .f32⟩
  | .hbm, ⟨37, _⟩ => ⟨S512x4096, .f32⟩
  | .hbm, ⟨38, _⟩ => ⟨S512x4096, .f32⟩
  | .hbm, ⟨39, _⟩ => ⟨S_, .f32⟩
  | .hbm, ⟨40, _⟩ => ⟨S512, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x4096, .f32⟩
  | .hbm, ⟨50, _⟩ => ⟨S512x4096, .f32⟩
  | .hbm, ⟨51, _⟩ => ⟨S1x4096, .f32⟩
  | .hbm, ⟨52, _⟩ => ⟨S512x4096, .f32⟩
  | .hbm, ⟨53, _⟩ => ⟨S512x4096, .f32⟩
  | .hbm, ⟨54, _⟩ => ⟨S1x1x4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S1x4096, .f32⟩
  | .hbm, ⟨60, _⟩ => ⟨S512x4096, .f32⟩
  | .hbm, ⟨61, _⟩ => ⟨S512x4096, .f32⟩
  | .hbm, ⟨62, _⟩ => ⟨S1x1x4096, .f32⟩
  | .hbm, ⟨63, _⟩ => ⟨S4096, .f32⟩
  | .hbm, ⟨64, _⟩ => ⟨S1x4096, .f32⟩
  | .hbm, ⟨65, _⟩ => ⟨S512x4096, .f32⟩
  | .hbm, ⟨66, _⟩ => ⟨S512x4096, .f32⟩
  | .hbm, ⟨67, _⟩ => ⟨S16384x4096, .f32⟩
  | .hbm, ⟨68, _⟩ => ⟨S16896x4096, .f32⟩
  | .hbm, ⟨69, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Kernel9.lean ====
abbrev S16896x4096 : Shape := ⟨2, ![16896, 4096]⟩
abbrev S16384x4096 : Shape := ⟨2, ![16384, 4096]⟩
abbrev S96x1x4096 : Shape := ⟨3, ![96, 1, 4096]⟩
abbrev S256x4096 : Shape := ⟨2, ![256, 4096]⟩
abbrev S1x1x4096 : Shape := ⟨3, ![1, 1, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S16896x4096, .f32⟩
  | .hbm, ⟨1, _⟩ => ⟨S16384x4096, .f32⟩
  | .hbm, ⟨2, _⟩ => ⟨S96x1x4096, .f32⟩
  | .hbm, ⟨3, _⟩ => ⟨S16896x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S256x4096, .f32⟩
  | .local _ .vmem, ⟨7, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c6_i32 : BitVec 32 := 6#32
  let v20 : BitVec 32 := Scalar.muli v19 c6_i32
  let c5_i32 : BitVec 32 := 5#32
  let v21 : BitVec 32 := Scalar.addi v20 c5_i32
  let c0_i32_4 : BitVec 32 := 0#32
  let c0_i32_5 : BitVec 32 := 0#32
  let c0_i32_6 : BitVec 32 := 0#32
  ![v21.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16896x4096 : Shape := ⟨2, ![16896, 4096]⟩
abbrev S16384x4096 : Shape := ⟨2, ![16384, 4096]⟩
abbrev S96x1x4096 : Shape := ⟨3, ![96, 1, 4096]⟩
abbrev S2x8x6x4096 : Shape := ⟨4, ![2, 8, 6, 4096]⟩
abbrev S1x2x1x4096 : Shape := ⟨4, ![1, 2, 1, 4096]⟩
abbrev S2x4096 : Shape := ⟨2, ![2, 4096]⟩
abbrev S2x8192x4096 : Shape := ⟨3, ![2, 8192, 4096]⟩
abbrev S2x1x4096 : Shape := ⟨3, ![2, 1, 4096]⟩
abbrev S512x4096 : Shape := ⟨2, ![512, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16384x4096, .f32⟩
  | .hbm, ⟨2, _⟩ => ⟨S96x1x4096, .f32⟩
  | .hbm, ⟨3, _⟩ => ⟨S2x8x6x4096, .f32⟩
  | .hbm, ⟨4, _⟩ => ⟨S1x2x1x4096, .f32⟩
  | .hbm, ⟨5, _⟩ => ⟨S2x4096, .f32⟩
  | .hbm, ⟨6, _⟩ => ⟨S16384x4096, .f32⟩
  | .hbm, ⟨7, _⟩ => ⟨S2x8192x4096, .f32⟩
  | .hbm, ⟨8, _⟩ => ⟨S2x1x4096, .f32⟩
  | .hbm, ⟨9, _⟩ => ⟨S2x8192x4096, .f32⟩
  | .hbm, ⟨10, _⟩ => ⟨S2x8192x4096, .f32⟩
  | .hbm, ⟨11, _⟩ => ⟨S2x8192x4096, .f32⟩
  | .hbm, ⟨12, _⟩ => ⟨S2x8192x4096, .f32⟩
  | .hbm, ⟨13, _⟩ => ⟨S16384x4096, .f32⟩
  | .hbm, ⟨14, _⟩ => ⟨S512x4096, .f32⟩
  | .hbm, ⟨15, _⟩ => ⟨S16896x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel10.lean ====
abbrev S16896x4096 : Shape := ⟨2, ![16896, 4096]⟩
abbrev S4096 : Shape := ⟨1, ![4096]⟩
abbrev S96x1x4096 : Shape := ⟨3, ![96, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 15
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S96x1x4096, .f32⟩
  | .hbm, ⟨4, _⟩ => ⟨S1x4096, .f32⟩
  | .hbm, ⟨5, _⟩ => ⟨S16896x4096, .f32⟩
  | .hbm, ⟨6, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c6_i32 : BitVec 32 := 6#32
  let v20 : BitVec 32 := Scalar.muli v19 c6_i32
  let c5_i32 : BitVec 32 := 5#32
  let v21 : BitVec 32 := Scalar.addi v20 c5_i32
  let c0_i32_5 : BitVec 32 := 0#32
  let c0_i32_6 : BitVec 32 := 0#32
  let c0_i32_7 : BitVec 32 := 0#32
  ![v21.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c6_i32 : BitVec 32 := 6#32
  let v20 : BitVec 32 := Scalar.muli v19 c6_i32
  let c0_i32_4 : BitVec 32 := 0#32
  let v21 : BitVec 32 := Scalar.addi v20 c0_i32_4
  let c0_i32_5 : BitVec 32 := 0#32
  let c0_i32_6 : BitVec 32 := 0#32
  let c0_i32_7 : BitVec 32 := 0#32
  ![v21.toNat, c0_i32_5.toNat, c0_i32_6.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c6_i32 : BitVec 32 := 6#32
  let v20 : BitVec 32 := Scalar.muli v19 c6_i32
  let c1_i32_4 : BitVec 32 := 1#32
  let v21 : BitVec 32 := Scalar.addi v20 c1_i32_4
  let c0_i32_5 : BitVec 32 := 0#32
  let c0_i32_6 : BitVec 32 := 0#32
  let c0_i32_7 : BitVec 32 := 0#32
  ![v21.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S16896x4096 : Shape := ⟨2, ![16896, 4096]⟩
abbrev S4096 : Shape := ⟨1, ![4096]⟩
abbrev S96x1x4096 : Shape := ⟨3, ![96, 1, 4096]⟩
abbrev S2x8x6x4096 : Shape := ⟨4, ![2, 8, 6, 4096]⟩
abbrev S16384x4096 : Shape := ⟨2, ![16384, 4096]⟩
abbrev S2x8192x4096 : Shape := ⟨3, ![2, 8192, 4096]⟩
abbrev S1x2x1x4096 : Shape := ⟨4, ![1, 2, 1, 4096]⟩
abbrev S2x4096 : Shape := ⟨2, ![2, 4096]⟩
abbrev S2x1x4096 : Shape := ⟨3, ![2, 1, 4096]⟩
abbrev S512x4096 : Shape := ⟨2, ![512, 4096]⟩
abbrev S1x1x1x4096 : Shape := ⟨4, ![1, 1, 1, 4096]⟩
abbrev S1x4096 : Shape := ⟨2, ![1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S512 : Shape := ⟨1, ![512]⟩
abbrev S512x1 : Shape := ⟨2, ![512, 1]⟩

abbrev nBuf : Space → Nat
  | .hbm => 86
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S16896x4096, .f32⟩
  | .hbm, ⟨2, _⟩ => ⟨S4096, .f32⟩
  | .hbm, ⟨3, _⟩ => ⟨S96x1x4096, .f32⟩
  | .hbm, ⟨4, _⟩ => ⟨S2x8x6x4096, .f32⟩
  | .hbm, ⟨5, _⟩ => ⟨S16384x4096, .f32⟩
  | .hbm, ⟨6, _⟩ => ⟨S2x8192x4096, .f32⟩
  | .hbm, ⟨7, _⟩ => ⟨S1x2x1x4096, .f32⟩
  | .hbm, ⟨8, _⟩ => ⟨S2x4096, .f32⟩
  | .hbm, ⟨9, _⟩ => ⟨S2x1x4096, .f32⟩
  | .hbm, ⟨10, _⟩ => ⟨S16384x4096, .f32⟩
  | .hbm, ⟨11, _⟩ => ⟨S2x8192x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S512x4096, .f32⟩
  | .hbm, ⟨16, _⟩ => ⟨S1x1x1x4096, .f32⟩
  | .hbm, ⟨17, _⟩ => ⟨S4096, .f32⟩
  | .hbm, ⟨18, _⟩ => ⟨S512x4096, .f32⟩
  | .hbm, ⟨19, _⟩ => ⟨S1x4096, .f32⟩
  | .hbm, ⟨20, _⟩ => ⟨S512x4096, .f32⟩
  | .hbm, ⟨21, _⟩ => ⟨S512x4096, .f32⟩
  | .hbm, ⟨22, _⟩ => ⟨S512x4096, .f32⟩
  | .hbm, ⟨23, _⟩ => ⟨S2x8192x4096, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x4096, .f32⟩
  | .hbm, ⟨35, _⟩ => ⟨S2x8192x4096, .f32⟩
  | .hbm, ⟨36, _⟩ => ⟨S1x1x4096, .f32⟩
  | .hbm, ⟨37, _⟩ => ⟨S2x8192x4096, .f32⟩
  | .hbm, ⟨38, _⟩ => ⟨S2x8192x4096, .f32⟩
  | .hbm, ⟨39, _⟩ => ⟨S1x2x1x4096, .f32⟩
  | .hbm, ⟨40, _⟩ => ⟨S2x4096, .f32⟩
  | .hbm, ⟨41, _⟩ => ⟨S2x1x4096, .f32⟩
  | .hbm, ⟨42, _⟩ => ⟨S_, .f32⟩
  | .hbm, ⟨43, _⟩ => ⟨S2x1x4096, .f32⟩
  | .hbm, ⟨44, _⟩ => ⟨S2x1x4096, .f32⟩
  | .hbm, ⟨45, _⟩ => ⟨S2x8192x4096, .f32⟩
  | .hbm, ⟨46, _⟩ => ⟨S2x8192x4096, .f32⟩
  | .hbm, ⟨47, _⟩ => ⟨S1x2x1x4096, .f32⟩
  | .hbm, ⟨48, _⟩ => ⟨S2x4096, .f32⟩
  | .hbm, ⟨49, _⟩ => ⟨S2x1x4096, .f32⟩
  | .hbm, ⟨50, _⟩ => ⟨S2x8192x4096, .f32⟩
  | .hbm, ⟨51, _⟩ => ⟨S2x8192x4096, .f32⟩
  | .hbm, ⟨52, _⟩ => ⟨S512x4096, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S_, .f32⟩
  | .hbm, ⟨57, _⟩ => ⟨S512x1, .f32⟩
  | .hbm, ⟨58, _⟩ => ⟨S512x1, .f32⟩
  | .hbm, ⟨59, _⟩ => ⟨S_, .f32⟩
  | .hbm, ⟨60, _⟩ => ⟨S512x1, .f32⟩
  | .hbm, ⟨61, _⟩ => ⟨S512x1, .f32⟩
  | .hbm, ⟨62, _⟩ => ⟨S512x1, .f32⟩
  | .hbm, ⟨63, _⟩ => ⟨S512x4096, .f32⟩
  | .hbm, ⟨64, _⟩ => ⟨S512x4096, .f32⟩
  | .hbm, ⟨65, _⟩ => ⟨S1x4096, .f32⟩
  | .hbm, ⟨66, _⟩ => ⟨S512x4096, .f32⟩
  | .hbm, ⟨67, _⟩ => ⟨S512x4096, .f32⟩
  | .hbm, ⟨68, _⟩ => ⟨S1x1x1x4096, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S1x4096, .f32⟩
  | .hbm, ⟨74, _⟩ => ⟨S512x4096, .f32⟩
  | .hbm, ⟨75, _⟩ => ⟨S512x4096, .f32⟩
  | .hbm, ⟨76, _⟩ => ⟨S1x1x1x4096, .f32⟩
  | .hbm, ⟨77, _⟩ => ⟨S4096, .f32⟩
  | .hbm, ⟨78, _⟩ => ⟨S1x4096, .f32⟩
  | .hbm, ⟨79, _⟩ => ⟨S512x4096, .f32⟩
  | .hbm, ⟨80, _⟩ => ⟨S512x4096, .f32⟩
  | .hbm, ⟨81, _⟩ => ⟨S16384x4096, .f32⟩
  | .hbm, ⟨82, _⟩ => ⟨S16896x4096, .f32⟩
  | .hbm, ⟨83, _⟩ => ⟨S16384x4096, .f32⟩
  | .hbm, ⟨84, _⟩ => ⟨S16896x4096, .f32⟩
  | .hbm, ⟨85, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Proof.Soft.lean ====
module

public import Idealize.ShloMosaic.Lib.Pipeline.ValueKit
public import Idealize.ShloMosaic.Lib.Pointwise

/-! # Streaming softmax over the reals

A softmax average `Σ exp s_k · v_k / Σ exp s_k` is gathered one chunk of keys at a time. The state
holds the greatest score so far, the sum of the weights and the weighted sum of the values, both
scaled by `exp (-greatest)`. `Held` says that the state stands for an unscaled sum of weights `Z` and
an unscaled weighted sum `W`; a chunk adds its own weights to both (`Held.step`), and the quotient of
the last state is `W / Z` (`Held.quot`), whatever the greatest score was. -/

@[expose] public section

noncomputable section

open Idealize.ShloMosaic

namespace Cert.Proof.Soft

/-- The state `(m, l, a)` stands for the sum of weights `Z` and the weighted sum `W`. -/
def Held (m l a : EReal) (Z W : ℝ) : Prop :=
  ∃ μ : ℝ, m = (μ : EReal) ∧ l = ((Real.exp (-μ) * Z : ℝ) : EReal) ∧ a = ((Real.exp (-μ) * W : ℝ) : EReal)

/-- The greatest of a real and of finitely many reals is a real. -/
theorem max_fold_real {ι : Type*} (S : Finset ι) (μ : ℝ) (s : ι → ℝ) :
    ∃ ν : ℝ, max (μ : EReal) (S.fold max ⊥ fun k => (s k : EReal)) = (ν : EReal) := by
  classical
  induction S using Finset.induction_on generalizing μ with
  | empty => exact ⟨μ, by simp⟩
  | insert k S hk ih =>
    obtain ⟨ν, hν⟩ := ih (max μ (s k))
    refine ⟨ν, ?_⟩
    rw [Finset.fold_insert hk, ← max_assoc, ← hν, EReal.coe_strictMono.monotone.map_max]

/-- The greatest of finitely many reals, at least one, is a real. -/
theorem fold_real {ι : Type*} (S : Finset ι) (hS : S.Nonempty) (s : ι → ℝ) :
    ∃ ν : ℝ, (S.fold max ⊥ fun k => (s k : EReal)) = (ν : EReal) := by
  classical
  obtain ⟨k, hk⟩ := hS
  obtain ⟨ν, hν⟩ := max_fold_real (S.erase k) (s k) s
  have e := Finset.fold_insert (op := max) (b := ⊥) (f := fun k => (s k : EReal)) (Finset.notMem_erase k S)
  rw [Finset.insert_erase hk] at e
  exact ⟨ν, e.trans hν⟩

/-- A finite sum of reals, taken among the extended reals, is the real sum. -/
theorem coe_sum {ι : Type*} (S : Finset ι) (f : ι → ℝ) :
    (∑ k ∈ S, ((f k : ℝ) : EReal)) = ((∑ k ∈ S, f k : ℝ) : EReal) := by
  classical
  induction S using Finset.induction_on with
  | empty => simp
  | insert k S hk ih => rw [Finset.sum_insert hk, Finset.sum_insert hk, ih, EReal.coe_add]

theorem Held.of_eq {m l a m' l' a' : EReal} {Z W : ℝ} (hm : m = m') (hl : l = l') (ha : a = a') (h : Held m' l' a' Z W) :
    Held m l a Z W := by
  subst hm hl ha
  exact h

theorem Held.of_eq_zero {m l a m' l' a' : EReal} {Z W : ℝ} (hm : m = m') (hl : l = l') (ha : a = a')
    (h : Held m' l' a' (0 + Z) (0 + W)) : Held m l a Z W := by
  subst hm hl ha
  rwa [zero_add, zero_add] at h

/-- A state with nothing gathered, started at any real. -/
theorem Held.start (μ : ℝ) : Held (μ : EReal) 0 0 0 0 := ⟨μ, rfl, by simp, by simp⟩

/-- One chunk of keys with real scores `s` and real values `v`. -/
theorem Held.step {ι : Type*} [Fintype ι] {m l a : EReal} {Z W : ℝ} (h : Held m l a Z W) (s v : ι → ℝ)
    (m' l' a' : EReal)
    (hm : m' = max m (Finset.univ.fold max ⊥ fun k => (s k : EReal)))
    (hl : l' = Ideal.exp (m - m') * l + ∑ k, Ideal.exp ((s k : EReal) - m'))
    (ha : a' = Ideal.exp (m - m') * a + ∑ k, Ideal.exp ((s k : EReal) - m') * (v k : EReal)) :
    Held m' l' a' (Z + ∑ k, Real.exp (s k)) (W + ∑ k, Real.exp (s k) * v k) := by
  obtain ⟨μ, rfl, rfl, rfl⟩ := h
  obtain ⟨ν, hν⟩ := max_fold_real Finset.univ μ s
  rw [hν] at hm
  subst hm
  have e1 : Real.exp (μ - ν) * Real.exp (-μ) = Real.exp (-ν) := by rw [← Real.exp_add]; congr 1; ring
  have e2 : ∀ k, Real.exp (s k - ν) = Real.exp (-ν) * Real.exp (s k) := fun k => by
    rw [← Real.exp_add]; congr 1; ring
  refine ⟨ν, rfl, ?_, ?_⟩
  · rw [hl]
    simp only [← EReal.coe_sub, Ideal.exp_coe, ← EReal.coe_mul, coe_sum, ← EReal.coe_add, e2, ← mul_assoc, e1,
      ← Finset.mul_sum, mul_add]
  · rw [ha]
    simp only [← EReal.coe_sub, Ideal.exp_coe, ← EReal.coe_mul, coe_sum, ← EReal.coe_add, e2]
    congr 1
    rw [← mul_assoc, e1, mul_add, Finset.mul_sum]
    simp only [mul_assoc]

/-- The quotient of a state with a positive sum of weights. -/
theorem Held.quot {m l a : EReal} {Z W : ℝ} (h : Held m l a Z W) (hZ : 0 < Z) :
    Ideal.div a l = ((W / Z : ℝ) : EReal) := by
  obtain ⟨μ, -, rfl, rfl⟩ := h
  have hp := Real.exp_pos (-μ)
  rw [Ideal.div_coe (mul_pos hp hZ).ne', ← EReal.coe_mul]
  congr 1
  field_simp

end Cert.Proof.Soft

end
-- ==== Proof.Trip.lean ====
module

public import proofs.«01_k».proof.Proof.Gen.KernelIdeal.Value
public import Idealize.ShloMosaic.Lib.Pipeline.ValueKit
public import Idealize.ShloMosaic.Lib.Pointwise
public import Idealize.ShloMosaic.Lib.Tactic
public import Idealize.ShloMosaic.Lib.WritesUnit
public import Idealize.ShloMosaic.Lib.WholeRead
public import proofs.«01_k».proof.Proof.Soft

/-! # What one trip of the attention's key loop leaves

The body keeps, for each of the two maps and each query row, the state of a streaming softmax: the
greatest score, the sum of the weights, and the weighted sum of the values. A trip reads a chunk of
512 keys and moves both maps' states by one step (`trip`); the chunk of context keys does the same
(`ctx0`, `ctx1`). -/

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

open Cert.Proof.Soft

/-- The score of query row `r` against key row `k` under map `mp`, over the reals. -/
def sc (Q K : ℕ → ℕ → ℝ) (mp r k : ℕ) : ℝ := ∑ d : Fin 128, Q r (mp * 128 + d.val) * K k (mp * 128 + d.val)

theorem neg_inf : Ideal.ofBits .f32 0xFF800000#32 = ⊥ := by simp [Ideal.ofBits, Ideal.ieee]

/-- Scores of real rows are real. -/
theorem sc_coe (Q K : ℕ → ℕ → ℝ) (mp r k : ℕ) (a b : Fin 128 → EReal) (ha : ∀ d, a d = (Q r (mp * 128 + d.val) : EReal))
    (hb : ∀ d, b d = (K k (mp * 128 + d.val) : EReal)) : (∑ d, a d * b d) = (sc Q K mp r k : EReal) := by
  simp only [ha, hb, ← EReal.coe_mul, coe_sum]
  rfl

section Payloads
variable (q : Vec Ideal S256x256 .bf16) (K V : Vec Ideal S512x256 .bf16) (Kc Vc : Vec Ideal S256x256 .bf16)
  (m l : Vec Ideal S1x256x1 .f32) (a : Vec Ideal S1x256x256 .f32) (r e : Fin 256) {Z W : ℝ}

theorem trip0 (s v : Fin 512 → ℝ) (h : Held (m (ix3 0 r 0)) (l (ix3 0 r 0)) (a (ix3 0 r e)) Z W)
    (hs : ∀ k, (∑ d : Fin 128, q (ix2 r ⟨d.val, by omega⟩) * K (ix2 k ⟨d.val, by omega⟩)) = (s k : EReal))
    (hv : ∀ k, V (ix2 k e) = (v k : EReal)) :
    Held (k0_pay10 (k0_pay4 q K m) (ix3 0 r 0)) (k0_pay7 q K m l (ix3 0 r 0)) (k0_pay9 (k0_pay8 q K V m a) (ix3 0 r e))
      (Z + ∑ k, Real.exp (s k)) (W + ∑ k, Real.exp (s k) * v k) := by
  refine h.step s v _ _ _ ?_ ?_ ?_
  · pointwise [k0_pay10, k0_pay4, k0_pay3, k0_pay2]
    simp only [hs, neg_inf]
  · pointwise [k0_pay10, k0_pay7, k0_pay6, k0_pay5, k0_pay4, k0_pay3, k0_pay2]
    simp only [hs, neg_inf]
  · pointwise [k0_pay10, k0_pay9, k0_pay8, k0_pay6, k0_pay5, k0_pay4, k0_pay3, k0_pay2]
    simp only [hs, hv, neg_inf]

theorem trip1 (s v : Fin 512 → ℝ) (h : Held (m (ix3 0 r 0)) (l (ix3 0 r 0)) (a (ix3 0 r e)) Z W)
    (hs : ∀ k, (∑ d : Fin 128, q (ix2 r ⟨128 + d.val, by omega⟩) * K (ix2 k ⟨128 + d.val, by omega⟩)) = (s k : EReal))
    (hv : ∀ k, V (ix2 k e) = (v k : EReal)) :
    Held (k0_pay54 (k0_pay13 q K m) (ix3 0 r 0)) (k0_pay16 q K m l (ix3 0 r 0)) (k0_pay53 (k0_pay17 q K V m a) (ix3 0 r e))
      (Z + ∑ k, Real.exp (s k)) (W + ∑ k, Real.exp (s k) * v k) := by
  refine h.step s v _ _ _ ?_ ?_ ?_
  · pointwise [k0_pay54, k0_pay13, k0_pay12, k0_pay11]
    simp only [hs, neg_inf]
  · pointwise [k0_pay54, k0_pay16, k0_pay15, k0_pay14, k0_pay13, k0_pay12, k0_pay11]
    simp only [hs, neg_inf]
  · pointwise [k0_pay54, k0_pay53, k0_pay17, k0_pay15, k0_pay14, k0_pay13, k0_pay12, k0_pay11]
    simp only [hs, hv, neg_inf]

theorem ctx0 (s v : Fin 256 → ℝ) (h : Held (m (ix3 0 r 0)) (l (ix3 0 r 0)) (a (ix3 0 r e)) Z W)
    (hs : ∀ k, (∑ d : Fin 128, q (ix2 r ⟨d.val, by omega⟩) * Kc (ix2 k ⟨d.val, by omega⟩)) = (s k : EReal))
    (hv : ∀ k, Vc (ix2 k e) = (v k : EReal)) :
    Held (k0_pay44 (k0_pay39 q Kc m) (ix3 0 r 0)) (k0_pay42 (k0_pay40 q Kc m) (k0_pay41 q Kc m) l (ix3 0 r 0))
      (k0_pay43 Vc (k0_pay40 q Kc m) (k0_pay41 q Kc m) a (ix3 0 r e))
      (Z + ∑ k, Real.exp (s k)) (W + ∑ k, Real.exp (s k) * v k) := by
  refine h.step s v _ _ _ ?_ ?_ ?_
  · pointwise [k0_pay44, k0_pay39, k0_pay38, k0_pay37]
    simp only [hs, neg_inf]
  · pointwise [k0_pay44, k0_pay42, k0_pay41, k0_pay40, k0_pay39, k0_pay38, k0_pay37]
    simp only [hs, neg_inf]
  · pointwise [k0_pay44, k0_pay43, k0_pay41, k0_pay40, k0_pay39, k0_pay38, k0_pay37]
    simp only [hs, hv, neg_inf]

theorem ctx1 (s v : Fin 256 → ℝ) (h : Held (m (ix3 0 r 0)) (l (ix3 0 r 0)) (a (ix3 0 r e)) Z W)
    (hs : ∀ k, (∑ d : Fin 128, q (ix2 r ⟨128 + d.val, by omega⟩) * Kc (ix2 k ⟨128 + d.val, by omega⟩)) = (s k : EReal))
    (hv : ∀ k, Vc (ix2 k e) = (v k : EReal)) :
    Held (k0_pay52 (k0_pay47 q Kc m) (ix3 0 r 0)) (k0_pay50 (k0_pay48 q Kc m) (k0_pay49 q Kc m) l (ix3 0 r 0))
      (k0_pay51 Vc (k0_pay48 q Kc m) (k0_pay49 q Kc m) a (ix3 0 r e))
      (Z + ∑ k, Real.exp (s k)) (W + ∑ k, Real.exp (s k) * v k) := by
  refine h.step s v _ _ _ ?_ ?_ ?_
  · pointwise [k0_pay52, k0_pay47, k0_pay46, k0_pay45]
    simp only [hs, neg_inf]
  · pointwise [k0_pay52, k0_pay50, k0_pay49, k0_pay48, k0_pay47, k0_pay46, k0_pay45]
    simp only [hs, neg_inf]
  · pointwise [k0_pay52, k0_pay51, k0_pay49, k0_pay48, k0_pay47, k0_pay46, k0_pay45]
    simp only [hs, hv, neg_inf]
end Payloads

/-! ## Reading a buffer of two planes -/

section Planes
variable {n : ℕ} (M : Memref sig .tc .vmem ⟨3, ![2, 256, n]⟩ .f32) (f : BufTy.Contents (Elt Ideal) M.view.ty)
  (L : List (View.Piece (Elt Ideal) ⟨3, ![2, 256, n]⟩ .f32)) (r : Fin 256) (e : Fin n)

/-- A store over plane 0 is read back in plane 0. -/
theorem plane_zero (inb : ∀ a, ![0, 0, 0] a + ![1, 256, n] a ≤ ![2, 256, n] a) (w : (⟨3, ![1, 256, n]⟩ : Shape).Idx → Elt Ideal .f32) :
    M.view.read (Elt Ideal) (M.view.writes (Elt Ideal) f (⟨Rect.unit ![0, 0, 0] ![1, 256, n] inb, w⟩ :: L)) (ix3 0 r e) = w (ix3 0 r e) :=
  View.read_writes_cons_unit_of_mem M.view f inb w L _ (ix3 0 r e) rfl fun a => by fin_cases a <;> simp [ix3]

/-- A store over plane 1 is read back in plane 1. -/
theorem plane_one (inb : ∀ a, ![1, 0, 0] a + ![1, 256, n] a ≤ ![2, 256, n] a) (w : (⟨3, ![1, 256, n]⟩ : Shape).Idx → Elt Ideal .f32) :
    M.view.read (Elt Ideal) (M.view.writes (Elt Ideal) f (⟨Rect.unit ![1, 0, 0] ![1, 256, n] inb, w⟩ :: L)) (ix3 1 r e) = w (ix3 0 r e) :=
  View.read_writes_cons_unit_of_mem M.view f inb w L _ (ix3 0 r e) rfl fun a => by fin_cases a <;> simp [ix3]

/-- A store over plane 1 leaves plane 0. -/
theorem plane_one_skip (inb : ∀ a, ![1, 0, 0] a + ![1, 256, n] a ≤ ![2, 256, n] a) (w : (⟨3, ![1, 256, n]⟩ : Shape).Idx → Elt Ideal .f32) :
    M.view.read (Elt Ideal) (M.view.writes (Elt Ideal) f (⟨Rect.unit ![1, 0, 0] ![1, 256, n] inb, w⟩ :: L)) (ix3 0 r e)
      = M.view.read (Elt Ideal) (M.view.writes (Elt Ideal) f L) (ix3 0 r e) :=
  View.read_writes_cons_unit_of_not_mem M.view f inb w L _ rfl 0 (Or.inl Nat.zero_lt_one)

/-- A store over plane 0 leaves plane 1. -/
theorem plane_zero_skip (inb : ∀ a, ![0, 0, 0] a + ![1, 256, n] a ≤ ![2, 256, n] a) (w : (⟨3, ![1, 256, n]⟩ : Shape).Idx → Elt Ideal .f32) :
    M.view.read (Elt Ideal) (M.view.writes (Elt Ideal) f (⟨Rect.unit ![0, 0, 0] ![1, 256, n] inb, w⟩ :: L)) (ix3 1 r e)
      = M.view.read (Elt Ideal) (M.view.writes (Elt Ideal) f L) (ix3 1 r e) :=
  View.read_writes_cons_unit_of_not_mem M.view f inb w L _ rfl 0 (Or.inr (Nat.le_refl 1))

/-- A store over both planes is read back. -/
theorem plane_both (mp : Fin 2) (inb : ∀ a, ![0, 0, 0] a + ![2, 256, n] a ≤ ![2, 256, n] a) (w : (⟨3, ![2, 256, n]⟩ : Shape).Idx → Elt Ideal .f32) :
    M.view.read (Elt Ideal) (M.view.writes (Elt Ideal) f (⟨Rect.unit ![0, 0, 0] ![2, 256, n] inb, w⟩ :: L)) (ix3 mp r e) = w (ix3 mp r e) :=
  View.read_writes_cons_unit_of_mem M.view f inb w L _ (ix3 mp r e) rfl fun a => by fin_cases a <;> simp [ix3]

/-- A load of one plane. -/
theorem plane_load (b : Fin 2) (o : ℕ) (ho : o = b.val) (inb : ∀ a, ![o, 0, 0] a + ![1, 256, n] a ≤ ![2, 256, n] a) :
    View.readAt (Elt Ideal) M.view (Rect.unit (s := ⟨3, ![2, 256, n]⟩) ![o, 0, 0] ![1, 256, n] inb).toLoadRect f (ix3 0 r e)
      = M.view.read (Elt Ideal) f (ix3 b r e) := by
  rw [View.readAt_eq_ld]
  refine congrArg (M.view.read (Elt Ideal) f) (funext fun a => Fin.ext ?_)
  fin_cases a <;> simp [ix3, Rect.unit, ho]
end Planes

/-! ## One trip -/

/-- The two maps' states stand for the sums `Z`, `W`. -/
def HeldAll (M L : (⟨3, ![2, 256, 1]⟩ : Shape).Idx → EReal) (A : (⟨3, ![2, 256, 256]⟩ : Shape).Idx → EReal)
    (Z : ℕ → ℕ → ℝ) (W : ℕ → ℕ → ℕ → ℝ) : Prop :=
  ∀ (mp : Fin 2) (r e : Fin 256), Held (M (ix3 mp r 0)) (L (ix3 mp r 0)) (A (ix3 mp r e)) (Z mp r) (W mp r e)

theorem trips1 (i : grid0.Coords) : (k0_t1_loop i).trips = if (i 2).val < 32 then 16 else 0 :=
  (by decide +kernel : ∀ j : Fin 33, (k0_t1_loop (fun a => match a with | 0 => (0 : Fin 2) | 1 => (0 : Fin 16) | 2 => j)).trips
    = if j.val < 32 then 16 else 0) (i 2)

theorem trips2 (i : grid0.Coords) : (k0_t2_loop i).trips = 0 :=
  (by decide +kernel : ∀ j : Fin 33, (k0_t2_loop (fun a => match a with | 0 => (0 : Fin 2) | 1 => (0 : Fin 16) | 2 => j)).trips = 0) (i 2)

theorem off1 (i : grid0.Coords) (k : Fin (k0_t1_loop i).trips) : k0_off1 i k = ![k.val * 512, 0] := by
  have hk : k.val < 16 := by
    have h := Nat.lt_of_lt_of_eq k.isLt (trips1 i)
    split at h <;> omega
  exact (by decide +kernel : ∀ k : Fin 16, (![(Scalar.indexCast (Scalar.muli (Scf.iv (0#32 : BitVec 32) 1#32 k.val) 512#32)).toNat, 0] : Fin 2 → ℕ)
    = ![k.val * 512, 0]) ⟨k.val, hk⟩

section Loop
variable (𝒱 : Variants) (c : Dev nD) (bd : Option 𝒱.V) (i : grid0.Coords)
  (arg3 : Memref sig .tc .vmem S256x256 .bf16) (harg3 : arg3.IsWhole) (arg4 : Memref sig .tc .vmem S8192x256 .bf16) (harg4 : arg4.IsWhole) (arg5 : Memref sig .tc .vmem S256x256 .bf16) (harg5 : arg5.IsWhole) (arg6 : Memref sig .tc .vmem S8192x256 .bf16) (harg6 : arg6.IsWhole) (arg7 : Memref sig .tc .vmem S256x256 .bf16) (harg7 : arg7.IsWhole) (arg8 : Memref sig .tc .vmem S1x1 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x256 .f32) (harg13 : arg13.IsWhole)
  (arg2 : BitVec 32) (v0 v14 : Vec Ideal S256x256 .bf16) (v57 v59 : FVec Ideal S256x1 .f32) (v62 : FVec Ideal S256x256 .f32)
  (x1 x3 : Vec Ideal S8192x256 .bf16) (Q KX VX : ℕ → ℕ → ℝ)
  (hq : ∀ (r d : Fin 256), v0 (ix2 r d) = (Q r d : EReal))
  (hk : ∀ (j : Fin 8192) (d : Fin 256), x1 (ix2 j d) = (KX j d : EReal))
  (hv : ∀ (j : Fin 8192) (d : Fin 256), x3 (ix2 j d) = (VX j d : EReal))
  (f11 : BufTy.Contents (Elt Ideal) arg11.view.ty) (f12 : BufTy.Contents (Elt Ideal) arg12.view.ty) (f13 : BufTy.Contents (Elt Ideal) arg13.view.ty)

/-- A load of 512 rows of a whole buffer. -/
theorem chunk (M : Memref sig .tc .vmem S8192x256 .bf16) (hM : M.IsWhole) (x : Vec Ideal S8192x256 .bf16)
    (k : Fin (k0_t1_loop i).trips) (inb : ∀ a, k0_off1 i k a + S512x256.size a ≤ S8192x256.size a) (j : Fin 512) (d : Fin 256)
    (h : k.val * 512 + j.val < 8192) :
    View.readAt (Elt Ideal) M.view (Rect.unit (s := S8192x256) (k0_off1 i k) S512x256.size inb).toLoadRect (hM.unread x) (ix2 j d)
      = x (ix2 ⟨k.val * 512 + j.val, h⟩ d) := by
  refine (hM.readAt_unread x _ _).trans (congrArg x (funext fun a => Fin.ext ?_))
  have e := off1 i k
  fin_cases a
  · show k0_off1 i k 0 + 1 * j.val = k.val * 512 + j.val
    rw [e]; simp
  · show k0_off1 i k 1 + 1 * d.val = d.val
    rw [e]; simp

include hq hk hv in
theorem trip (k : Fin (k0_t1_loop i).trips) (L11 L12 : List (View.Piece (Elt Ideal) S2x256x1 .f32))
    (L13 : List (View.Piece (Elt Ideal) S2x256x256 .f32)) (Z : ℕ → ℕ → ℝ) (W : ℕ → ℕ → ℕ → ℝ)
    (T : List (View.Piece (Elt Ideal) S2x256x1 .f32) × List (View.Piece (Elt Ideal) S2x256x1 .f32) × List (View.Piece (Elt Ideal) S2x256x256 .f32))
    (hT : T = tripL_k0_t1 (F := Ideal) 𝒱 c bd i arg3 harg3 arg4 harg4 arg5 harg5 arg6 harg6 arg7 harg7 arg8 harg8 arg9 harg9 arg10 harg10 arg11 harg11 arg12 harg12 arg13 harg13 arg2 v0 v14 v57 v59 v62 (harg4.unread x1) (harg6.unread x3) k
      (arg11.view.writes (Elt Ideal) f11 L11) (arg12.view.writes (Elt Ideal) f12 L12) (arg13.view.writes (Elt Ideal) f13 L13))
    (H : HeldAll (arg11.view.read (Elt Ideal) (arg11.view.writes (Elt Ideal) f11 L11)) (arg12.view.read (Elt Ideal) (arg12.view.writes (Elt Ideal) f12 L12))
      (arg13.view.read (Elt Ideal) (arg13.view.writes (Elt Ideal) f13 L13)) Z W) :
    HeldAll (arg11.view.read (Elt Ideal) (arg11.view.writes (Elt Ideal) f11 (T.1 ++ L11)))
      (arg12.view.read (Elt Ideal) (arg12.view.writes (Elt Ideal) f12 (T.2.1 ++ L12)))
      (arg13.view.read (Elt Ideal) (arg13.view.writes (Elt Ideal) f13 (T.2.2 ++ L13)))
      (fun mp r => Z mp r + ∑ j : Fin 512, Real.exp (sc Q KX mp r (k.val * 512 + j.val)))
      (fun mp r e => W mp r e + ∑ j : Fin 512, Real.exp (sc Q KX mp r (k.val * 512 + j.val)) * VX (k.val * 512 + j.val) e) := by
  have hk16 : k.val < 16 := by
    have h := Nat.lt_of_lt_of_eq k.isLt (trips1 i)
    split at h <;> omega
  unfold tripL_k0_t1 at hT
  unfold trip_k0_t1 at hT
  dsimp only at hT
  subst hT
  intro mp r e
  fin_cases mp
  · have h := H 0 r e
    rw [← plane_load arg11 (arg11.view.writes (Elt Ideal) f11 L11) r (0 : Fin 1) 0 0 rfl inb_S2x256x1_S1x256x1_0_0_0,
      ← plane_load arg12 (arg12.view.writes (Elt Ideal) f12 L12) r (0 : Fin 1) 0 0 rfl inb_S2x256x1_S1x256x1_0_0_0,
      ← plane_load arg13 (arg13.view.writes (Elt Ideal) f13 L13) r e 0 0 rfl inb_S2x256x256_S1x256x256_0_0_0] at h
    have h' := trip0 v0 (View.readAt (Elt Ideal) arg4.view (Rect.unit (s := S8192x256) (k0_off1 i k) S512x256.size (k0_off1_inb i k)).toLoadRect (harg4.unread x1))
      (View.readAt (Elt Ideal) arg6.view (Rect.unit (s := S8192x256) (k0_off1 i k) S512x256.size (k0_off1_inb i k)).toLoadRect (harg6.unread x3)) _ _ _ r e
      (fun j => sc Q KX 0 r (k.val * 512 + j.val)) (fun j => VX (k.val * 512 + j.val) e) h
      (fun j => sc_coe Q KX 0 r _ _ _ (fun d => by rw [hq]; simp) fun d => by
        rw [chunk i arg4 harg4 x1 k _ j _ (by omega), hk]; simp)
      (fun j => by rw [chunk i arg6 harg6 x3 k _ j _ (by omega), hv])
    exact h'.of_eq ((plane_one_skip arg11 _ _ r 0 _ _).trans (plane_zero arg11 _ _ r 0 _ _)) ((plane_one_skip arg12 _ _ r 0 _ _).trans (plane_zero arg12 _ _ r 0 _ _))
      ((plane_one_skip arg13 _ _ r e _ _).trans (plane_zero arg13 _ _ r e _ _))
  · have h := H 1 r e
    rw [← plane_load arg11 (arg11.view.writes (Elt Ideal) f11 L11) r (0 : Fin 1) 1 1 rfl inb_S2x256x1_S1x256x1_1_0_0,
      ← plane_load arg12 (arg12.view.writes (Elt Ideal) f12 L12) r (0 : Fin 1) 1 1 rfl inb_S2x256x1_S1x256x1_1_0_0,
      ← plane_load arg13 (arg13.view.writes (Elt Ideal) f13 L13) r e 1 1 rfl inb_S2x256x256_S1x256x256_1_0_0] at h
    have h' := trip1 v0 (View.readAt (Elt Ideal) arg4.view (Rect.unit (s := S8192x256) (k0_off1 i k) S512x256.size (k0_off1_inb i k)).toLoadRect (harg4.unread x1))
      (View.readAt (Elt Ideal) arg6.view (Rect.unit (s := S8192x256) (k0_off1 i k) S512x256.size (k0_off1_inb i k)).toLoadRect (harg6.unread x3)) _ _ _ r e
      (fun j => sc Q KX 1 r (k.val * 512 + j.val)) (fun j => VX (k.val * 512 + j.val) e) h
      (fun j => sc_coe Q KX 1 r _ _ _ (fun d => by rw [hq]) fun d => by
        rw [chunk i arg4 harg4 x1 k _ j _ (by omega), hk])
      (fun j => by rw [chunk i arg6 harg6 x3 k _ j _ (by omega), hv])
    exact h'.of_eq (plane_one arg11 _ _ r 0 _ _) (plane_one arg12 _ _ r 0 _ _)
      (plane_one arg13 _ _ r e _ _)

include hq hk hv in
/-- All the trips before trip `n`: the sums have grown by the keys before `512 n`. -/
theorem loop (n : ℕ) (hn : n ≤ (k0_t1_loop i).trips) (Z : ℕ → ℕ → ℝ) (W : ℕ → ℕ → ℕ → ℝ)
    (T : List (View.Piece (Elt Ideal) S2x256x1 .f32) × List (View.Piece (Elt Ideal) S2x256x1 .f32) × List (View.Piece (Elt Ideal) S2x256x256 .f32))
    (hT : T = pb_k0_t1 (F := Ideal) 𝒱 c bd i arg3 harg3 arg4 harg4 arg5 harg5 arg6 harg6 arg7 harg7 arg8 harg8 arg9 harg9 arg10 harg10 arg11 harg11 arg12 harg12 arg13 harg13 arg2 v0 v14 v57 v59 v62 (harg4.unread x1) (harg6.unread x3) f11 f12 f13 n)
    (H : HeldAll (arg11.view.read (Elt Ideal) f11) (arg12.view.read (Elt Ideal) f12) (arg13.view.read (Elt Ideal) f13) Z W) :
    HeldAll (arg11.view.read (Elt Ideal) (arg11.view.writes (Elt Ideal) f11 T.1))
      (arg12.view.read (Elt Ideal) (arg12.view.writes (Elt Ideal) f12 T.2.1))
      (arg13.view.read (Elt Ideal) (arg13.view.writes (Elt Ideal) f13 T.2.2))
      (fun mp r => Z mp r + ∑ j ∈ Finset.range (n * 512), Real.exp (sc Q KX mp r j))
      (fun mp r e => W mp r e + ∑ j ∈ Finset.range (n * 512), Real.exp (sc Q KX mp r j) * VX j e) := by
  induction n generalizing T with
  | zero =>
    subst hT
    simp only [Nat.zero_mul, Finset.range_zero, Finset.sum_empty, add_zero]
    exact H
  | succ n ih =>
    have h := trip 𝒱 c bd i arg3 harg3 arg4 harg4 arg5 harg5 arg6 harg6 arg7 harg7 arg8 harg8 arg9 harg9 arg10 harg10 arg11 harg11 arg12 harg12 arg13 harg13 arg2 v0 v14 v57 v59 v62 x1 x3 Q KX VX hq hk hv f11 f12 f13 ⟨n, hn⟩ _ _ _ _ _ _ rfl (ih (by omega) _ rfl)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg2 v0 v14 v57 v59 v62 (harg4.unread x1) (harg6.unread x3) f11 f12 f13 ⟨n, hn⟩
    rw [← hT] at e
    subst e
    intro mp r e
    have h' := h mp r e
    simp only [Nat.succ_mul, Finset.sum_range_add, ← add_assoc]
    simp only [Finset.sum_range] at h' ⊢
    exact h'
end Loop

end Cert.Proof.Attn

end
-- ==== Proof.Body.lean ====
module

public import proofs.«01_k».proof.Proof.Gen.KernelIdeal.Value
public import Idealize.ShloMosaic.Lib.Pipeline.ValueKit
public import Idealize.ShloMosaic.Lib.Pointwise
public import Idealize.ShloMosaic.Lib.Tactic
public import Idealize.ShloMosaic.Lib.WritesUnit
public import Idealize.ShloMosaic.Lib.WholeRead
public import proofs.«01_k».proof.Proof.Trip

/-! # What the attention's body writes at one grid point

The two maps' states start empty, take the context keys, then the latent keys in chunks of 512 (all of
them for a latent query block, none for a context one). The block written is the difference of the two
softmax averages, normalised along the head and scaled by the gain. -/

@[expose] public section

set_option maxRecDepth 16384

noncomputable section

open Idealize.ShloMosaic Idealize.ShloMosaic.TcCoe Idealize.SL.Sem
open Idealize.ShloMosaic.Pipeline (Dat)

namespace Cert.Proof.Attn

open Cert.KernelIdeal Cert.KernelIdeal.Gen

open Cert.Proof.Soft

/-- The sum of the weights of query row `r` over the context keys and the first `n` latent keys. -/
def den (Q KC KX : ℕ → ℕ → ℝ) (n mp r : ℕ) : ℝ :=
  ∑ j : Fin 256, Real.exp (sc Q KC mp r j) + ∑ j ∈ Finset.range n, Real.exp (sc Q KX mp r j)

/-- The weighted sum of the values' column `e` over the same keys. -/
def num (Q KC KX VC VX : ℕ → ℕ → ℝ) (n mp r e : ℕ) : ℝ :=
  ∑ j : Fin 256, Real.exp (sc Q KC mp r j) * VC j e + ∑ j ∈ Finset.range n, Real.exp (sc Q KX mp r j) * VX j e

theorem den_pos (Q KC KX : ℕ → ℕ → ℝ) (n mp r : ℕ) : 0 < den Q KC KX n mp r :=
  add_pos_of_pos_of_nonneg (Finset.sum_pos (fun _ _ => Real.exp_pos _) ⟨0, Finset.mem_univ _⟩)
    (Finset.sum_nonneg fun _ _ => (Real.exp_pos _).le)

/-- The difference of the two maps' averages. -/
def diff (Q KC KX VC VX : ℕ → ℕ → ℝ) (lam : EReal) (n r e : ℕ) : EReal :=
  ((num Q KC KX VC VX n 0 r e / den Q KC KX n 0 r : ℝ) : EReal) - lam * ((num Q KC KX VC VX n 1 r e / den Q KC KX n 1 r : ℝ) : EReal)

/-- A row of 256 numbers divided by its root mean square. -/
def normed (a : Fin 256 → EReal) (e : Fin 256) : EReal :=
  a e * Ideal.rsqrt (Ideal.div (∑ x, a x * a x) (Ideal.ofBits .f32 0x43800000#32) + Ideal.ofBits .f32 0x358637BD#32)

/-- The real the running maximum starts at. -/
theorem neg_real : ∃ ν : ℝ, Ideal.ofBits .f32 0xF149F2CA#32 = (ν : EReal) :=
  ⟨_, by simp [Ideal.ofBits, Ideal.ieee]; rfl⟩

def neg : ℝ := neg_real.choose

theorem start_m (mp : Fin 2) (r : Fin 256) : k0_pay34 (F := Ideal) (ix3 mp r 0) = (neg : EReal) := by
  refine Eq.trans ?_ neg_real.choose_spec
  pointwise [k0_pay34]

theorem start_l (mp : Fin 2) (r : Fin 256) : k0_pay35 (F := Ideal) (ix3 mp r 0) = 0 := by pointwise [k0_pay35]

theorem start_a (mp : Fin 2) (r e : Fin 256) : k0_pay36 (F := Ideal) (ix3 mp r e) = 0 := by pointwise [k0_pay36]

variable (c : Dev nD) (i : grid0.Coords)
  (arg3 : Memref sig .tc .vmem S256x256 .bf16) (harg3 : arg3.IsWhole) (arg4 : Memref sig .tc .vmem S8192x256 .bf16) (harg4 : arg4.IsWhole) (arg5 : Memref sig .tc .vmem S256x256 .bf16) (harg5 : arg5.IsWhole) (arg6 : Memref sig .tc .vmem S8192x256 .bf16) (harg6 : arg6.IsWhole) (arg7 : Memref sig .tc .vmem S256x256 .bf16) (harg7 : arg7.IsWhole) (arg8 : Memref sig .tc .vmem S1x1 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S2x256x1 .f32) (harg11 : arg11.IsWhole) (arg12 : Memref sig .tc .vmem S2x256x1 .f32) (harg12 : arg12.IsWhole) (arg13 : Memref sig .tc .vmem S2x256x256 .f32) (harg13 : arg13.IsWhole)
  (x0 : Vec Ideal S256x256 .bf16) (x1 : Vec Ideal S8192x256 .bf16) (x2 : Vec Ideal S256x256 .bf16)
  (x3 : Vec Ideal S8192x256 .bf16) (x4 : Vec Ideal S256x256 .bf16) (x5 : Vec Ideal S1x1 .f32) (x6 : Vec Ideal S1x256 .f32)

theorem no_trip2 {𝒱 c bd i} {arg3} {harg3} {arg4} {harg4} {arg5} {harg5} {arg6} {harg6} {arg7} {harg7} {arg8} {harg8} {arg9} {harg9} {arg10} {harg10} {arg11} {harg11} {arg12} {harg12} {arg13} {harg13} {arg2 v0 v14 v57 v59 v62 v91 a b f g h} :
    pb_k0_t2 (F := Ideal) 𝒱 c bd i arg3 harg3 arg4 harg4 arg5 harg5 arg6 harg6 arg7 harg7 arg8 harg8 arg9 harg9 arg10 harg10 arg11 harg11 arg12 harg12 arg13 harg13 arg2 v0 v14 v57 v59 v62 v91 a b f g h (k0_t2_loop i).trips = ([], [], []) := by
  rw [trips2]; rfl

/-- The block's value, the state's sums named. -/
theorem held (Q KC VC KX VX : ℕ → ℕ → ℝ)
    (hq : ∀ (r d : Fin 256), x0 (ix2 r d) = (Q r d : EReal))
    (hkc : ∀ (j d : Fin 256), x2 (ix2 j d) = (KC j d : EReal)) (hvc : ∀ (j d : Fin 256), x4 (ix2 j d) = (VC j d : EReal))
    (hk : ∀ (j : Fin 8192) (d : Fin 256), x1 (ix2 j d) = (KX j d : EReal))
    (hv : ∀ (j : Fin 8192) (d : Fin 256), x3 (ix2 j d) = (VX j d : EReal)) :
    ∃ (M : (⟨3, ![2, 256, 1]⟩ : Shape).Idx → EReal) (L12 : List (View.Piece (Elt Ideal) S2x256x1 .f32)) (L13 : List (View.Piece (Elt Ideal) S2x256x256 .f32)),
      out0_A_7 (F := Ideal) c i arg3 harg3 arg4 harg4 arg5 harg5 arg6 harg6 arg7 harg7 arg8 harg8 arg9 harg9 arg10 harg10 arg11 harg11 arg12 harg12 arg13 harg13 x0 x1 x2 x3 x4 x5 x6
        = k0_pay1 (arg13.view.readCov L13 (Rect.unit (s := S2x256x256) ![0, 0, 0] ![1, 256, 256] inb_S2x256x256_S1x256x256_0_0_0).toLoadRect)
            (arg12.view.readCov L12 (Rect.unit (s := S2x256x1) ![0, 0, 0] ![1, 256, 1] inb_S2x256x1_S1x256x1_0_0_0).toLoadRect) x5
            (arg13.view.readCov L13 (Rect.unit (s := S2x256x256) ![1, 0, 0] ![1, 256, 256] inb_S2x256x256_S1x256x256_1_0_0).toLoadRect)
            (arg12.view.readCov L12 (Rect.unit (s := S2x256x1) ![1, 0, 0] ![1, 256, 1] inb_S2x256x1_S1x256x1_1_0_0).toLoadRect) x6
      ∧ HeldAll M (arg12.view.read (Elt Ideal) (arg12.view.writes (Elt Ideal) arg12.view.junk L12))
          (arg13.view.read (Elt Ideal) (arg13.view.writes (Elt Ideal) arg13.view.junk L13))
          (fun mp r => den Q KC KX ((k0_t1_loop i).trips * 512) mp r)
          (fun mp r e => num Q KC KX VC VX ((k0_t1_loop i).trips * 512) mp r e) := by
  refine ⟨?_, ?_, ?_, ?_, ?_⟩
  rotate_left 3
  · frame_out
    rfl
  · rw [no_trip2]
    simp only [List.nil_append]
    rw [View.writes_append, View.writes_append]
    refine loop Variants.none c none i arg3 harg3 arg4 harg4 arg5 harg5 arg6 harg6 arg7 harg7 arg8 harg8 arg9 harg9 arg10 harg10 arg11 harg11 arg12 harg12 arg13 harg13 (BitVec.ofNat 32 (i 2).val) x0 x4 _ _ _ x1 x3 Q KX VX hq hk hv _ _ _ _ le_rfl
      (fun mp r => ∑ j : Fin 256, Real.exp (sc Q KC mp r j)) (fun mp r e => ∑ j : Fin 256, Real.exp (sc Q KC mp r j) * VC j e) _ rfl ?_
    intro mp r e
    fin_cases mp
    · exact Held.of_eq_zero ((plane_one_skip arg11 _ _ r 0 _ _).trans (plane_zero arg11 _ _ r 0 _ _)) ((plane_one_skip arg12 _ _ r 0 _ _).trans (plane_zero arg12 _ _ r 0 _ _)) ((plane_one_skip arg13 _ _ r e _ _).trans (plane_zero arg13 _ _ r e _ _))
        (ctx0 x0 x2 x4 _ _ _ r e (fun j => sc Q KC 0 r j) (fun j => VC j e)
          (Held.of_eq (((plane_load arg11 _ r 0 0 0 rfl _).trans (plane_both arg11 _ _ r 0 0 _ _)).trans (start_m 0 r))
            (((plane_load arg12 _ r 0 0 0 rfl _).trans (plane_both arg12 _ _ r 0 0 _ _)).trans (start_l 0 r)) (((plane_load arg13 _ r e 0 0 rfl _).trans (plane_both arg13 _ _ r e 0 _ _)).trans (start_a 0 r e)) (Held.start neg))
          (fun j => sc_coe Q KC 0 r _ _ _ (fun d => by rw [hq]; simp) fun d => by rw [hkc]; simp)
          (fun j => hvc j e))
    · exact Held.of_eq_zero (plane_one arg11 _ _ r 0 _ _) (plane_one arg12 _ _ r 0 _ _) (plane_one arg13 _ _ r e _ _)
        (ctx1 x0 x2 x4 _ _ _ r e (fun j => sc Q KC 1 r j) (fun j => VC j e)
          (Held.of_eq (((plane_load arg11 _ r 0 1 1 rfl _).trans ((plane_zero_skip arg11 _ _ r 0 _ _).trans (plane_both arg11 _ _ r 0 1 _ _))).trans (start_m 1 r))
            (((plane_load arg12 _ r 0 1 1 rfl _).trans ((plane_zero_skip arg12 _ _ r 0 _ _).trans (plane_both arg12 _ _ r 0 1 _ _))).trans (start_l 1 r)) (((plane_load arg13 _ r e 1 1 rfl _).trans ((plane_zero_skip arg13 _ _ r e _ _).trans (plane_both arg13 _ _ r e 1 _ _))).trans (start_a 1 r e)) (Held.start neg))
          (fun j => sc_coe Q KC 1 r _ _ _ (fun d => by rw [hq]) fun d => by rw [hkc])
          (fun j => hvc j e))

/-- The block's value at an index. -/
theorem out_at (Q KC VC KX VX : ℕ → ℕ → ℝ)
    (hq : ∀ (r d : Fin 256), x0 (ix2 r d) = (Q r d : EReal))
    (hkc : ∀ (j d : Fin 256), x2 (ix2 j d) = (KC j d : EReal)) (hvc : ∀ (j d : Fin 256), x4 (ix2 j d) = (VC j d : EReal))
    (hk : ∀ (j : Fin 8192) (d : Fin 256), x1 (ix2 j d) = (KX j d : EReal))
    (hv : ∀ (j : Fin 8192) (d : Fin 256), x3 (ix2 j d) = (VX j d : EReal)) (r e : Fin 256) :
    out0_A_7 (F := Ideal) c i arg3 harg3 arg4 harg4 arg5 harg5 arg6 harg6 arg7 harg7 arg8 harg8 arg9 harg9 arg10 harg10 arg11 harg11 arg12 harg12 arg13 harg13 x0 x1 x2 x3 x4 x5 x6 (ix2 r e)
      = normed (fun x => diff Q KC KX VC VX (x5 (ix2 0 0)) (if (i 2).val < 32 then 8192 else 0) r x) e * x6 (ix2 0 e) := by
  obtain ⟨M, L12, L13, ho, H⟩ := held c i arg3 harg3 arg4 harg4 arg5 harg5 arg6 harg6 arg7 harg7 arg8 harg8 arg9 harg9 arg10 harg10 arg11 harg11 arg12 harg12 arg13 harg13 x0 x1 x2 x3 x4 x5 x6 Q KC VC KX VX hq hkc hvc hk hv
  have hn : (k0_t1_loop i).trips * 512 = if (i 2).val < 32 then 8192 else 0 := by rw [trips1]; split <;> rfl
  rw [hn] at H
  have h0 : ∀ x, Ideal.div _ _ = _ := fun x => (H 0 r x).quot (den_pos _ _ _ _ _ _)
  have h1 : ∀ x, Ideal.div _ _ = _ := fun x => (H 1 r x).quot (den_pos _ _ _ _ _ _)
  rw [ho]
  pointwise [k0_pay1, normed, diff]
  have a0 : ∀ x, arg13.view.readCov L13 (Rect.unit (s := S2x256x256) ![0, 0, 0] ![1, 256, 256] inb_S2x256x256_S1x256x256_0_0_0).toLoadRect (ix3 0 r x) = _ :=
    fun x => plane_load arg13 _ r x 0 0 rfl _
  have a1 : ∀ x, arg13.view.readCov L13 (Rect.unit (s := S2x256x256) ![1, 0, 0] ![1, 256, 256] inb_S2x256x256_S1x256x256_1_0_0).toLoadRect (ix3 0 r x) = _ :=
    fun x => plane_load arg13 _ r x 1 1 rfl _
  have l0 : arg12.view.readCov L12 (Rect.unit (s := S2x256x1) ![0, 0, 0] ![1, 256, 1] inb_S2x256x1_S1x256x1_0_0_0).toLoadRect (ix3 0 r 0) = _ :=
    plane_load arg12 _ r 0 0 0 rfl _
  have l1 : arg12.view.readCov L12 (Rect.unit (s := S2x256x1) ![1, 0, 0] ![1, 256, 1] inb_S2x256x1_S1x256x1_1_0_0).toLoadRect (ix3 0 r 0) = _ :=
    plane_load arg12 _ r 0 1 1 rfl _
  simp only [a0, a1, l0, l1, h0, h1]
  rfl
end Cert.Proof.Attn

end
-- ==== Proof.Attn.lean ====
module

public import proofs.«01_k».proof.Proof.Gen.KernelIdeal.Value
public import proofs.«01_k».proof.Proof.Gen.ReferenceIdeal.Read
public import proofs.«01_k».proof.Defs
public import proofs.«01_k».proof.Proof.Body
public import Idealize.ShloMosaic.Lib.Pipeline.ValueKit
public import Idealize.ShloMosaic.Lib.Pointwise
public import Idealize.ShloMosaic.Lib.Claim

/-! # The attention

Both programs compute, for every row and head, the difference of two softmax averages of the value
rows, normalised along the head and scaled. The kernel gathers the averages by streaming, a block of
rows of one head at a grid point; the reference states them with `softmax`. -/

@[expose] public section

set_option maxRecDepth 16384
set_option backward.proofsInPublic true

noncomputable section

open Idealize.ShloMosaic Idealize.ShloMosaic.TcCoe Idealize.SL.Sem
open Idealize.ShloMosaic.Pipeline (Dat)

namespace Cert.Proof.Attn

open Cert.KernelIdeal Cert.KernelIdeal.Gen

variable (m : (ℓ : Loc nD τ sig) → Buf (Elt Ideal) ℓ)

/-- The number of latent keys that row `r` sees. -/
def seen (r : ℕ) : ℕ := if r < 16384 then 8192 else 0

/-- The batch of row `r`. -/
def batch (r : ℕ) : ℕ := if r < 16384 then r / 8192 else r / 256 - 64

/-- The attention of row `r` under head `h`, column `x` of the head, before its normalisation. -/
def att (QK VV : ℕ → ℕ → ℝ) (lam : EReal) (r h x : ℕ) : EReal :=
  diff (fun r d => QK r (h * 256 + d)) (fun j d => QK ((64 + batch r) * 256 + j) ((16 + h) * 256 + d)) (fun j d => QK (batch r * 8192 + j) ((16 + h) * 256 + d))
    (fun j e => VV ((64 + batch r) * 256 + j) ((32 + h) * 256 + e)) (fun j e => VV (batch r * 8192 + j) ((32 + h) * 256 + e)) lam (seen r) r x

/-- The weight of the second map, from the layer's four vectors. -/
def lamOf (d : FVec Ideal S4x128 .f32) : EReal :=
  Ideal.exp (∑ x : Fin 128, d (ix2 0 x) * d (ix2 1 x)) - Ideal.exp (∑ x : Fin 128, d (ix2 2 x) * d (ix2 3 x)) + Ideal.ofBits .f32 0x3E4CCCCD#32

/-- What both programs state. -/
def spec (QK VV : ℕ → ℕ → ℝ) (lam : EReal) (g : FVec Ideal S256 .f32) : FVec Ideal S16896x4096 .bf16 := fun i =>
  normed (fun x => att QK VV lam (i 0).val ((i 1).val / 256) x) ⟨(i 1).val % 256, Nat.mod_lt _ (by decide)⟩
    * (g (ix1 ⟨(i 1).val % 256, Nat.mod_lt _ (by decide)⟩) * Ideal.ofBits .f32 0x3F4CCCCD#32)

/-- The row block of point `t`. -/
def qb (t : Fin cfg0.N) : ℕ := if (grid0.coords t 2).val < 32 then (grid0.coords t 0).val * 32 + (grid0.coords t 2).val else 64 + (grid0.coords t 0).val

theorem idx : ∀ t : Fin cfg0.N,
    win0_0.index t = ![if (grid0.coords t 2).val < 32 then (grid0.coords t 0).val * 32 + (grid0.coords t 2).val else 64 + (grid0.coords t 0).val, (grid0.coords t 1).val]
    ∧ win0_1.index t = ![(grid0.coords t 0).val, 16 + (grid0.coords t 1).val]
    ∧ win0_2.index t = ![64 + (grid0.coords t 0).val, 16 + (grid0.coords t 1).val]
    ∧ win0_3.index t = ![(grid0.coords t 0).val, 32 + (grid0.coords t 1).val]
    ∧ win0_4.index t = ![64 + (grid0.coords t 0).val, 32 + (grid0.coords t 1).val]
    ∧ win0_5.index t = ![0, 0] ∧ win0_6.index t = ![0, 0]
    ∧ win0_7.index t = ![if (grid0.coords t 2).val < 32 then (grid0.coords t 0).val * 32 + (grid0.coords t 2).val else 64 + (grid0.coords t 0).val, (grid0.coords t 1).val] :=
  (by decide +kernel : ∀ t : Fin grid0.N, _)

/-- What both programs state, at a place given by its block and its place in the block. -/
theorem spec_at (QK VV : ℕ → ℕ → ℝ) (lam : EReal) (g : FVec Ideal S256 .f32) (i : S16896x4096.Idx) (b h q : ℕ) (hb : b < 2) (hq : q < 33)
    (y0 y1 : Fin 256) (e0 : (i 0).val = (if q < 32 then b * 32 + q else 64 + b) * 256 + y0.val) (e1 : (i 1).val = h * 256 + y1.val) :
    spec QK VV lam g i = normed (fun x : Fin 256 =>
        diff (fun r d => QK ((if q < 32 then b * 32 + q else 64 + b) * 256 + r) (h * 256 + d))
          (fun j d => QK ((64 + b) * 256 + j) ((16 + h) * 256 + d)) (fun j d => QK (b * 8192 + j) ((16 + h) * 256 + d))
          (fun j d => VV ((64 + b) * 256 + j) ((32 + h) * 256 + d)) (fun j d => VV (b * 8192 + j) ((32 + h) * 256 + d))
          lam (if q < 32 then 8192 else 0) y0.val x.val) y1
      * (g (ix1 y1) * Ideal.ofBits .f32 0x3F4CCCCD#32) := by
  have ed : (i 1).val / 256 = h := by omega
  have em : (⟨(i 1).val % 256, Nat.mod_lt _ (by decide)⟩ : Fin 256) = y1 := Fin.ext (by show _ % 256 = _; omega)
  have eb : batch ((if q < 32 then b * 32 + q else 64 + b) * 256 + y0.val) = b := by
    unfold batch; split <;> split <;> omega
  have es : seen ((if q < 32 then b * 32 + q else 64 + b) * 256 + y0.val) = if q < 32 then 8192 else 0 := by
    unfold seen; split <;> split <;> first | rfl | omega
  unfold spec att
  rw [em, ed, e0, eb, es]
  rfl

section Blocks
variable (c : Dev nD) (t : Fin cfg0.N) (QK VV : ℕ → ℕ → ℝ)
  (hqk : ∀ (r : Fin 16896) (d : Fin 8192), m ((c : Thread nD τ).loc main_arg0) (ix2 r d) = (QK r d : EReal))
  (hvv : ∀ (r : Fin 16896) (d : ℕ) (_ : 8192 ≤ d) (h : d < 12288), m ((c : Thread nD τ).loc main_arg1) (ix2 r ⟨d, by omega⟩) = (VV r d : EReal))

theorem qb_lt : qb t < 66 := by
  have h0 : (grid0.coords t 0).val < 2 := (grid0.coords t 0).isLt
  have h2 : (grid0.coords t 2).val < 33 := (grid0.coords t 2).isLt
  unfold qb
  split <;> omega

include hqk in
theorem blk_q (r d : Fin 256) : iblk m c 0 t (ix2 r d) = (QK (qb t * 256 + r.val) ((grid0.coords t 1).val * 256 + d.val) : EReal) := by
  have h1 : (grid0.coords t 1).val < 16 := (grid0.coords t 1).isLt
  have := qb_lt t
  refine Eq.trans ?_ (hqk ⟨qb t * 256 + r.val, by omega⟩ ⟨(grid0.coords t 1).val * 256 + d.val, by omega⟩)
  unfold qb
  blk_point [iblk, V, idx t]

include hqk in
theorem blk_kc (r d : Fin 256) : iblk m c 2 t (ix2 r d) = (QK ((64 + (grid0.coords t 0).val) * 256 + r.val) ((16 + (grid0.coords t 1).val) * 256 + d.val) : EReal) := by
  have h0 : (grid0.coords t 0).val < 2 := (grid0.coords t 0).isLt
  have h1 : (grid0.coords t 1).val < 16 := (grid0.coords t 1).isLt
  refine Eq.trans ?_ (hqk ⟨(64 + (grid0.coords t 0).val) * 256 + r.val, by omega⟩ ⟨(16 + (grid0.coords t 1).val) * 256 + d.val, by omega⟩)
  blk_point [iblk, V, idx t]

include hvv in
theorem blk_vc (r d : Fin 256) : iblk m c 4 t (ix2 r d) = (VV ((64 + (grid0.coords t 0).val) * 256 + r.val) ((32 + (grid0.coords t 1).val) * 256 + d.val) : EReal) := by
  have h0 : (grid0.coords t 0).val < 2 := (grid0.coords t 0).isLt
  have h1 : (grid0.coords t 1).val < 16 := (grid0.coords t 1).isLt
  refine Eq.trans ?_ (hvv ⟨(64 + (grid0.coords t 0).val) * 256 + r.val, by omega⟩ ((32 + (grid0.coords t 1).val) * 256 + d.val) (by omega) (by omega))
  blk_point [iblk, V, idx t]

include hqk in
theorem blk_kx (r : Fin 8192) (d : Fin 256) : X0_1 m c t (ix2 r d) = (QK ((grid0.coords t 0).val * 8192 + r.val) ((16 + (grid0.coords t 1).val) * 256 + d.val) : EReal) := by
  have h0 : (grid0.coords t 0).val < 2 := (grid0.coords t 0).isLt
  have h1 : (grid0.coords t 1).val < 16 := (grid0.coords t 1).isLt
  refine Eq.trans ?_ (hqk ⟨(grid0.coords t 0).val * 8192 + r.val, by omega⟩ ⟨(16 + (grid0.coords t 1).val) * 256 + d.val, by omega⟩)
  unfold X0_1 Pipeline.Window.fill
  rw [dif_pos (moved0_1 t _)]
  blk_point [iblk, V, idx t]

include hvv in
theorem blk_vx (r : Fin 8192) (d : Fin 256) : X0_3 m c t (ix2 r d) = (VV ((grid0.coords t 0).val * 8192 + r.val) ((32 + (grid0.coords t 1).val) * 256 + d.val) : EReal) := by
  have h0 : (grid0.coords t 0).val < 2 := (grid0.coords t 0).isLt
  have h1 : (grid0.coords t 1).val < 16 := (grid0.coords t 1).isLt
  refine Eq.trans ?_ (hvv ⟨(grid0.coords t 0).val * 8192 + r.val, by omega⟩ ((32 + (grid0.coords t 1).val) * 256 + d.val) (by omega) (by omega))
  unfold X0_3 Pipeline.Window.fill
  rw [dif_pos (moved0_3 t _)]
  blk_point [iblk, V, idx t]

theorem lam_read (c : Dev nD) : (show FVec Ideal S1x1 .f32 from V m c main_v16) (ix2 0 0) = lamOf (m ((c : Thread nD τ).loc main_arg2)) := by
  entry_read
  pointwise [lamOf]

theorem gain_read (c : Dev nD) (e : Fin 256) : (show FVec Ideal S1x256 .f32 from V m c main_v19) (ix2 0 e)
    = (show FVec Ideal S256 .f32 from m ((c : Thread nD τ).loc main_arg3)) (ix1 e) * Ideal.ofBits .f32 0x3F4CCCCD#32 := by
  entry_read
  pointwise

theorem blk_lam (c : Dev nD) (t : Fin cfg0.N) : iblk m c 5 t (ix2 0 0) = lamOf (m ((c : Thread nD τ).loc main_arg2)) := by
  refine Eq.trans ?_ (lam_read m c)
  unfold iblk
  blk_ext [idx t]

theorem blk_gain (c : Dev nD) (t : Fin cfg0.N) (e : Fin 256) : iblk m c 6 t (ix2 0 e)
    = (show FVec Ideal S256 .f32 from m ((c : Thread nD τ).loc main_arg3)) (ix1 e) * Ideal.ofBits .f32 0x3F4CCCCD#32 := by
  refine Eq.trans ?_ (gain_read m c e)
  unfold iblk
  blk_ext [idx t]

include hqk hvv in
theorem point (y : S256x256.Idx) : outsAt0 m c t y
    = spec QK VV (lamOf (m ((c : Thread nD τ).loc main_arg2))) (m ((c : Thread nD τ).loc main_arg3)) (((cfg0.win 7).blk t).view.emb y) := by
  idx_vars y
  have h0 : (grid0.coords t 0).val < 2 := (grid0.coords t 0).isLt
  have h1 : (grid0.coords t 1).val < 16 := (grid0.coords t 1).isLt
  have h2 : (grid0.coords t 2).val < 33 := (grid0.coords t 2).isLt
  have e0 : ((((cfg0.win 7).blk t).view.emb (ix2 y0 y1)) 0).val = qb t * 256 + y0.val := by
    unfold qb
    blk_simp [idx t]
  have e1 : ((((cfg0.win 7).blk t).view.emb (ix2 y0 y1)) 1).val = (grid0.coords t 1).val * 256 + y1.val := by
    blk_simp [idx t]
  unfold outsAt0
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (X0_1 m c t) (iblk m c 2 t) (X0_3 m c t) (iblk m c 4 t) (iblk m c 5 t) (iblk m c 6 t)
    (fun r d => QK (qb t * 256 + r) ((grid0.coords t 1).val * 256 + d))
    (fun j d => QK ((64 + (grid0.coords t 0).val) * 256 + j) ((16 + (grid0.coords t 1).val) * 256 + d))
    (fun j d => VV ((64 + (grid0.coords t 0).val) * 256 + j) ((32 + (grid0.coords t 1).val) * 256 + d))
    (fun j d => QK ((grid0.coords t 0).val * 8192 + j) ((16 + (grid0.coords t 1).val) * 256 + d))
    (fun j d => VV ((grid0.coords t 0).val * 8192 + j) ((32 + (grid0.coords t 1).val) * 256 + d))
    (blk_q m c t QK hqk) (blk_kc m c t QK hqk) (blk_vc m c t VV hvv) (blk_kx m c t QK hqk) (blk_vx m c t VV hvv) y0 y1).trans ?_
  rw [blk_lam, blk_gain]
  exact (spec_at QK VV _ _ _ (grid0.coords t 0).val (grid0.coords t 1).val (grid0.coords t 2).val h0 h2 y0 y1 e0 e1).symm

end Blocks

theorem final (c : Dev nD) (QK VV : ℕ → ℕ → ℝ)
    (hqk : ∀ (r : Fin 16896) (d : Fin 8192), m ((c : Thread nD τ).loc main_arg0) (ix2 r d) = (QK r d : EReal))
    (hvv : ∀ (r : Fin 16896) (d : ℕ) (_ : 8192 ≤ d) (h : d < 12288), m ((c : Thread nD τ).loc main_arg1) (ix2 r ⟨d, by omega⟩) = (VV r d : EReal)) :
    (dats m 0 c).arrAt 7 (cfgs 0).N = spec QK VV (lamOf (m ((c : Thread nD τ).loc main_arg2))) (m ((c : Thread nD τ).loc main_arg3)) := by
  refine (dats m 0 c).arrAt_eq_of_covers 7 _ (by decide +kernel) fun t _ y => ?_
  blk_simp
  rw [after0_7]
  exact point m c t QK VV hqk hvv y

end Cert.Proof.Attn

end
-- ==== Proof.Finite.lean ====
module

public import proofs.«01_k».proof.Pre_finite_inputs
public import proofs.«01_k».proof.Proof.Attn
public import Idealize.ShloMosaic.Lib.ReduceAll
public import Idealize.ShloMosaic.Lib.Pointwise
public import Idealize.ShloMosaic.PureOps.Ideal.Laws

/-! # What the precondition says of an input

An input it accepts holds reals where the attention reads it. -/

@[expose] public section

set_option maxRecDepth 16384
set_option backward.proofsInPublic true

noncomputable section

open Idealize.ShloMosaic

namespace Cert.Proof.Attn

open Cert.Pre_finite_inputs Cert.Pre_finite_inputs.Facts

/-- A number whose absolute value is below infinity is a real. -/
theorem real_of_lt (x : EReal) (h : max x (-x) < ⊤) : ∃ r : ℝ, x = (r : EReal) := by
  induction x using EReal.rec with
  | bot => simp at h
  | top => simp at h
  | coe r => exact ⟨r, rfl⟩

theorem inf_word : Ideal.ofBits .f32 0x7F800000#32 = ⊤ := by simp [Ideal.ofBits, Ideal.ieee]

theorem real_of_cmp (x : EReal) (h : FloatOps.cmpf (F := Ideal) (φ := .f32) .olt (max x (-x)) (Ideal.ofBits .f32 0x7F800000#32) = 1#1) :
    ∃ r : ℝ, x = (r : EReal) := by
  rw [inf_word] at h
  refine real_of_lt x ?_
  by_contra hn
  simp [Ideal.cmpf_def, Ideal.cmp, hn] at h

/-- The constant part of the mixing weight. -/
theorem lam_real : ∃ l : ℝ, Ideal.ofBits .f32 0x3E4CCCCD#32 = (l : EReal) := ⟨_, by simp [Ideal.ofBits, Ideal.ieee]; rfl⟩

variable [Cert.Pre_finite_inputs.Facts] (qk2 : FVec Ideal S16896x8192 .bf16) (parts : FVec Ideal S16896x32768 .bf16)
  (dl : FVec Ideal S4x128 .f32) (g : FVec Ideal S256 .f32) (hfin : fn (F := Ideal) qk2 parts dl g = fun _ => 1#1)

include hfin in
theorem split : (∀ i, ∃ r : ℝ, qk2 i = (r : EReal)) ∧ (∀ (r : Fin 16896) (d : ℕ) (_ : 8192 ≤ d) (h : d < 12288), ∃ x : ℝ, parts (ix2 r ⟨d, by omega⟩) = (x : EReal))
    ∧ ∀ i, ∃ r : ℝ, dl i = (r : EReal) := by
  have h := congrFun hfin (Shape.Idx.first h_S_)
  dsimp only [fn] at h
  obtain ⟨h12, h3⟩ := IntOp.andi_eq_one.1 h
  obtain ⟨h1, h2⟩ := IntOp.andi_eq_one.1 h12
  refine ⟨fun i => ?_, fun r d hd hd' => ?_, fun i => ?_⟩
  · have e := Host.reduce_andi_all _ _ _ _ _ h1 i
    refine real_of_cmp _ (Eq.trans ?_ e)
    idx_vars i
    pointwise
    rfl
  · obtain ⟨d', rfl⟩ := Nat.exists_eq_add_of_le hd
    have e := Host.reduce_andi_all _ _ _ _ _ h2 (ix2 r ⟨d', by omega⟩)
    refine real_of_cmp _ (Eq.trans ?_ e)
    pointwise
    rfl
  · have e := Host.reduce_andi_all _ _ _ _ _ h3 i
    refine real_of_cmp _ (Eq.trans ?_ e)
    idx_vars i
    pointwise
    rfl

/-- The places of a matrix, by numbers, of reals. -/
theorem table {n c : ℕ} (f : Fin n → Fin c → EReal) (p : ℕ → Prop) (h : ∀ r (d : Fin c), p d → ∃ x : ℝ, f r d = (x : EReal)) :
    ∃ QK : ℕ → ℕ → ℝ, ∀ (r : Fin n) (d : Fin c), p d → f r d = (QK r d : EReal) := by
  refine ⟨fun r d => if h : r < n ∧ d < c then (f ⟨r, h.1⟩ ⟨d, h.2⟩).toReal else 0, fun r d hd => ?_⟩
  obtain ⟨x, hx⟩ := h r d hd
  dsimp only
  rw [dif_pos ⟨r.isLt, d.isLt⟩, hx, EReal.toReal_coe]

include hfin in
/-- The queries and keys, the values and the mixing weight are reals. -/
theorem reals : ∃ (QK VV : ℕ → ℕ → ℝ) (l : ℝ), (∀ (r : Fin 16896) (d : Fin 8192), qk2 (ix2 r d) = (QK r d : EReal))
    ∧ (∀ (r : Fin 16896) (d : ℕ) (_ : 8192 ≤ d) (h : d < 12288), parts (ix2 r ⟨d, by omega⟩) = (VV r d : EReal)) ∧ lamOf dl = (l : EReal) := by
  obtain ⟨hq, hv, hd⟩ := split qk2 parts dl g hfin
  obtain ⟨QK, hQK⟩ := table (fun r d => qk2 (ix2 r d)) (fun _ => True) fun r d _ => hq _
  obtain ⟨VV, hVV⟩ := table (fun r d => parts (ix2 r d)) (fun d => 8192 ≤ d ∧ d < 12288) fun r d h => hv r d.val h.1 h.2
  obtain ⟨D, hD⟩ := table (fun r d => dl (ix2 r d)) (fun _ => True) fun r d _ => hd _
  refine ⟨QK, VV, Real.exp (∑ x : Fin 128, D 0 x * D 1 x) - Real.exp (∑ x : Fin 128, D 2 x * D 3 x) + lam_real.choose, fun r d => hQK r d trivial, fun r d h h' => hVV r ⟨d, by omega⟩ ⟨h, h'⟩, ?_⟩
  have e : ∀ (a b : Fin 4), (∑ x : Fin 128, dl (ix2 a x) * dl (ix2 b x)) = ((∑ x : Fin 128, D a x * D b x : ℝ) : EReal) := fun a b => by
    rw [← Soft.coe_sum]
    exact Finset.sum_congr rfl fun x _ => by rw [hD a x trivial, hD b x trivial, EReal.coe_mul]
  unfold lamOf
  rw [e 0 1, e 2 3, Ideal.exp_coe, Ideal.exp_coe, EReal.coe_add, EReal.coe_sub]
  exact congrArg (_ + ·) lam_real.choose_spec

end Cert.Proof.Attn

end
-- ==== Proof.Ref.lean ====
module

public import proofs.«01_k».proof.Proof.Gen.ReferenceIdeal.Read
public import Idealize.ShloMosaic.Lib.Pointwise
public import Idealize.ShloMosaic.Lib.Claim
public import proofs.«01_k».proof.Proof.Attn
public import proofs.«01_k».proof.Proof.Finite

/-! # The attention, as the reference states it

Scores over all the keys a row sees, their softmax, the difference of the two maps and its product with
the values, read at an index and met with the kernel's averages. -/

@[expose] public section

set_option maxRecDepth 16384
set_option backward.proofsInPublic true

noncomputable section

open Idealize.ShloMosaic Idealize.ShloMosaic.TcCoe Idealize.SL.Sem

namespace Cert.Proof.Attn

open Cert.ReferenceIdeal Cert.ReferenceIdeal.Gen Cert.ReferenceIdeal.Read
open Cert.Proof.Soft

/-- A softmax weight of real scores, its maximum any real. -/
theorem weight {n : ℕ} [NeZero n] (s : Fin n → ℝ) (ν : ℝ) (k : Fin n) :
    Ideal.div (Ideal.exp ((s k : EReal) - (ν : EReal))) (∑ j, Ideal.exp ((s j : EReal) - (ν : EReal)))
      = ((Real.exp (s k) / ∑ j, Real.exp (s j) : ℝ) : EReal) := by
  have hZ : 0 < ∑ j, Real.exp (s j) := Finset.sum_pos (fun _ _ => Real.exp_pos _) ⟨k, Finset.mem_univ _⟩
  have e : (∑ j, Ideal.exp ((s j : EReal) - (ν : EReal))) = ((Real.exp (-ν) * ∑ j, Real.exp (s j) : ℝ) : EReal) := by
    rw [Finset.mul_sum, ← coe_sum]
    refine Finset.sum_congr rfl fun j _ => ?_
    rw [← EReal.coe_sub, Ideal.exp_coe, ← Real.exp_add]
    congr 2
    ring
  have hp := Real.exp_pos (-ν)
  rw [e, ← EReal.coe_sub, Ideal.exp_coe, Ideal.div_coe (mul_pos hp hZ).ne', ← EReal.coe_mul]
  congr 1
  rw [sub_eq_add_neg, Real.exp_add]
  field_simp

/-- The values averaged under the difference of two weights: the difference of the averages. -/
theorem average {n : ℕ} (p0 p1 v : Fin n → ℝ) (Z0 Z1 l : ℝ) :
    (∑ k, (v k : EReal) * (((p0 k / Z0 : ℝ) : EReal) - (l : EReal) * ((p1 k / Z1 : ℝ) : EReal)))
      = (((∑ k, p0 k * v k) / Z0 : ℝ) : EReal) - (l : EReal) * (((∑ k, p1 k * v k) / Z1 : ℝ) : EReal) := by
  have e : ∀ k, (v k : EReal) * (((p0 k / Z0 : ℝ) : EReal) - (l : EReal) * ((p1 k / Z1 : ℝ) : EReal))
      = ((v k * (p0 k / Z0 - l * (p1 k / Z1)) : ℝ) : EReal) := fun k => by push_cast; rfl
  rw [Finset.sum_congr rfl fun k _ => e k, coe_sum, ← EReal.coe_mul, ← EReal.coe_sub]
  congr 1
  rw [Finset.sum_div, Finset.sum_div, Finset.mul_sum, ← Finset.sum_sub_distrib]
  exact Finset.sum_congr rfl fun k _ => by ring

/-- The row of key `k` of batch `b`: the latent rows first, then the context's. -/
def krow (b k : ℕ) : ℕ := if k < 8192 then b * 8192 + k else (64 + b) * 256 + (k - 8192)

/-- A sum over all the keys, context's first. -/
theorem sum_keys (f : ℕ → ℝ) : ∑ k : Fin 8448, f k = ∑ j : Fin 256, f (8192 + j) + ∑ j ∈ Finset.range 8192, f j := by
  rw [Fin.sum_univ_eq_sum_range f 8448, Fin.sum_univ_eq_sum_range (fun j => f (8192 + j)) 256, show (8448 : ℕ) = 8192 + 256 from rfl, Finset.sum_range_add, add_comm]

section Read
variable (qk2 : FVec Ideal S16896x8192 .bf16) (parts : FVec Ideal S16896x32768 .bf16) (dl : FVec Ideal S4x128 .f32) (g : FVec Ideal S256 .f32)
  (QK VV : ℕ → ℕ → ℝ) (l : ℝ)
  (hqk : ∀ (r : Fin 16896) (d : Fin 8192), qk2 (ix2 r d) = (QK r d : EReal))
  (hvv : ∀ (r : Fin 16896) (d : ℕ) (_ : 8192 ≤ d) (h : d < 12288), parts (ix2 r ⟨d, by omega⟩) = (VV r d : EReal))
  (hl : lamOf dl = (l : EReal))

/-- Equal places hold equal numbers. -/
theorem at_QK (QK : ℕ → ℕ → ℝ) {r r' d d' : ℕ} (hr : r = r') (hd : d = d') : ((QK r d : ℝ) : EReal) = (QK r' d' : EReal) := by
  subst hr hd; rfl

/-! ## The latent rows -/

include hqk in
theorem q_x (b : Fin 2) (q : Fin 8192) (h : Fin 16) (mp : Fin 2) (d : Fin 128) :
    val_main_v21 (F := Ideal) qk2 (ix5 b q h mp d) = (QK (b * 8192 + q) (h * 256 + (mp * 128 + d)) : EReal) := by
  pointwise [val_main_v21, val_main_v20, val_main_v17, val_main_v16]
  rw [hqk]
  exact at_QK QK rfl (by show h.val * 256 + mp.val * 128 + d.val = _; omega)

include hqk in
theorem k_l (b : Fin 2) (k : Fin 8192) (h : Fin 16) (mp : Fin 2) (d : Fin 128) :
    val_main_v23 (F := Ideal) qk2 (ix5 b k h mp d) = (QK (b * 8192 + k) ((16 + h) * 256 + (mp * 128 + d)) : EReal) := by
  pointwise [val_main_v23, val_main_v22, val_main_v17, val_main_v16]
  rw [hqk]
  exact at_QK QK rfl (by show 4096 + (h.val * 256 + mp.val * 128 + d.val) = _; omega)

include hqk in
theorem k_c (b : Fin 2) (k : Fin 256) (h : Fin 16) (mp : Fin 2) (d : Fin 128) :
    val_main_v32 (F := Ideal) qk2 (ix5 b k h mp d) = (QK ((64 + b) * 256 + k) ((16 + h) * 256 + (mp * 128 + d)) : EReal) := by
  pointwise [val_main_v32, val_main_v31, val_main_v26, val_main_v25]
  rw [hqk]
  exact at_QK QK (by show 16384 + (b.val * 256 + k.val) = _; omega) (by show 4096 + (h.val * 256 + mp.val * 128 + d.val) = _; omega)

include hqk in
theorem k_x (b : Fin 2) (k : Fin 8448) (h : Fin 16) (mp : Fin 2) (d : Fin 128) :
    val_main_v34 (F := Ideal) qk2 (ix5 b k h mp d) = (QK (krow b k) ((16 + h) * 256 + (mp * 128 + d)) : EReal) := by
  pointwise [val_main_v34]
  unfold krow
  by_cases hk : k.val < 8192
  · rw [dif_pos hk, if_pos hk]
    exact k_l qk2 QK hqk b ⟨k, hk⟩ h mp d
  · rw [dif_neg hk, if_neg hk]
    exact k_c qk2 QK hqk b ⟨k - 8192, by omega⟩ h mp d

include hvv in
theorem v_x (b : Fin 2) (k : Fin 8448) (h : Fin 16) (e : Fin 256) :
    val_main_v35 (F := Ideal) parts (ix4 b k h e) = (VV (krow b k) ((32 + h) * 256 + e) : EReal) := by
  pointwise [val_main_v35, val_main_v24, val_main_v19, val_main_v18, val_main_v33, val_main_v28, val_main_v27]
  unfold krow
  by_cases hk : k.val < 8192
  · rw [dif_pos hk, if_pos hk, hvv _ _ (by omega) (by omega)]
    exact at_QK VV rfl (by omega)
  · rw [dif_neg hk, if_neg hk, hvv _ _ (by omega) (by omega)]
    exact at_QK VV (by show 16384 + (b.val * 256 + (k.val - 8192)) = _; omega) (by omega)

/-- The score of query row `r` with key row `r'` under map `mp` of head `h`. -/
def score (QK : ℕ → ℕ → ℝ) (h mp r r' : ℕ) : ℝ :=
  ∑ d : Fin 128, QK r (h * 256 + (mp * 128 + d)) * QK r' ((16 + h) * 256 + (mp * 128 + d))

/-- The reference's sum of weights is the kernel's. -/
theorem den_x (QK : ℕ → ℕ → ℝ) (b h mp r : ℕ) : ∑ k : Fin 8448, Real.exp (score QK h mp r (krow b k))
    = den (fun r d => QK r (h * 256 + d)) (fun j d => QK ((64 + b) * 256 + j) ((16 + h) * 256 + d)) (fun j d => QK (b * 8192 + j) ((16 + h) * 256 + d)) 8192 mp r := by
  rw [sum_keys (fun k => Real.exp (score QK h mp r (krow b k)))]
  unfold den
  refine congrArg₂ (· + ·) (Finset.sum_congr rfl fun j _ => ?_) (Finset.sum_congr rfl fun j hj => ?_)
  · rw [show krow b (8192 + j.val) = (64 + b) * 256 + j.val by unfold krow; rw [if_neg (by omega)]; omega]
    rfl
  · rw [show krow b j = b * 8192 + j by unfold krow; rw [if_pos (Finset.mem_range.mp hj)]]
    rfl

/-- The reference's weighted sum is the kernel's. -/
theorem num_x (QK VV : ℕ → ℕ → ℝ) (b h mp r e : ℕ) : ∑ k : Fin 8448, Real.exp (score QK h mp r (krow b k)) * VV (krow b k) ((32 + h) * 256 + e)
    = num (fun r d => QK r (h * 256 + d)) (fun j d => QK ((64 + b) * 256 + j) ((16 + h) * 256 + d)) (fun j d => QK (b * 8192 + j) ((16 + h) * 256 + d))
        (fun j e => VV ((64 + b) * 256 + j) ((32 + h) * 256 + e)) (fun j e => VV (b * 8192 + j) ((32 + h) * 256 + e)) 8192 mp r e := by
  rw [sum_keys (fun k => Real.exp (score QK h mp r (krow b k)) * VV (krow b k) ((32 + h) * 256 + e))]
  unfold num
  refine congrArg₂ (· + ·) (Finset.sum_congr rfl fun j _ => ?_) (Finset.sum_congr rfl fun j hj => ?_)
  · rw [show krow b (8192 + j.val) = (64 + b) * 256 + j.val by unfold krow; rw [if_neg (by omega)]; omega]
    rfl
  · rw [show krow b j = b * 8192 + j by unfold krow; rw [if_pos (Finset.mem_range.mp hj)]]
    rfl

/-- The same of a context row, which sees the context keys only. -/
theorem den_c (QK : ℕ → ℕ → ℝ) (b h mp r : ℕ) : ∑ k : Fin 256, Real.exp (score QK h mp r ((64 + b) * 256 + k))
    = den (fun r d => QK r (h * 256 + d)) (fun j d => QK ((64 + b) * 256 + j) ((16 + h) * 256 + d)) (fun j d => QK (b * 8192 + j) ((16 + h) * 256 + d)) 0 mp r := by
  unfold den
  rw [Finset.sum_range_zero, add_zero]
  rfl

theorem num_c (QK VV : ℕ → ℕ → ℝ) (b h mp r e : ℕ) : ∑ k : Fin 256, Real.exp (score QK h mp r ((64 + b) * 256 + k)) * VV ((64 + b) * 256 + k) ((32 + h) * 256 + e)
    = num (fun r d => QK r (h * 256 + d)) (fun j d => QK ((64 + b) * 256 + j) ((16 + h) * 256 + d)) (fun j d => QK (b * 8192 + j) ((16 + h) * 256 + d))
        (fun j e => VV ((64 + b) * 256 + j) ((32 + h) * 256 + e)) (fun j e => VV (b * 8192 + j) ((32 + h) * 256 + e)) 0 mp r e := by
  unfold num
  rw [Finset.sum_range_zero, add_zero]
  rfl

include hqk in
theorem s_x (b : Fin 2) (h : Fin 16) (mp : Fin 2) (q : Fin 8192) (k : Fin 8448) :
    val_main_v36 (F := Ideal) qk2 (ix5 b h mp q k) = (score QK h mp (b * 8192 + q) (krow b k) : EReal) := by
  pointwise [val_main_v36]
  unfold score
  rw [← coe_sum]
  refine Finset.sum_congr rfl fun d _ => ?_
  rw [q_x qk2 QK hqk, k_x qk2 QK hqk, EReal.coe_mul]

include hqk in
theorem m_x (b : Fin 2) (h : Fin 16) (mp : Fin 2) (q : Fin 8192) :
    ∃ ν : ℝ, val_main_v39 (F := Ideal) qk2 (ix4 b h mp q) = (ν : EReal) := by
  obtain ⟨ν, hν⟩ := fold_real (Finset.univ : Finset (Fin 8448)) ⟨0, Finset.mem_univ _⟩ (fun k => score QK h mp (b * 8192 + q) (krow b k))
  refine ⟨ν, ?_⟩
  rw [val_main_v39_apply, val_main_v38_apply, val_main_cst_3_apply]
  have e : val_main_v37 (F := Ideal) qk2 (ix4 b h mp q) = (ν : EReal) := by
    refine Eq.trans ?_ hν
    pointwise [val_main_v37]
    rw [val_main_cst_2_apply, show FloatOps.ofBits (F := Ideal) .f32 0xFF800000#32 = ⊥ from neg_inf]
    simp only [s_x qk2 QK hqk]
  rw [e, show FloatOps.ofBits (F := Ideal) .f32 0xFF800000#32 = ⊥ from neg_inf]
  exact max_eq_right bot_le

theorem down_x (b : Fin 2) (h : Fin 16) (mp : Fin 2) (q : Fin 8192) (k : Fin 8448) :
    val_main_v41 (F := Ideal) qk2 (ix5 b h mp q k) = val_main_v39 (F := Ideal) qk2 (ix4 b h mp q) := by
  pointwise [val_main_v41, val_main_v40]

theorem e_x (i : S2x16x2x8192x8448.Idx) :
    val_main_v43 (F := Ideal) qk2 i = Ideal.exp (val_main_v36 (F := Ideal) qk2 i - val_main_v41 (F := Ideal) qk2 i) := by
  rw [val_main_v43_apply, val_main_v42_apply]
  rfl

include hqk in
theorem w_x (b : Fin 2) (h : Fin 16) (mp : Fin 2) (q : Fin 8192) (k : Fin 8448) :
    val_main_v47 (F := Ideal) qk2 (ix5 b h mp q k)
      = ((Real.exp (score QK h mp (b * 8192 + q) (krow b k)) / ∑ j : Fin 8448, Real.exp (score QK h mp (b * 8192 + q) (krow b j)) : ℝ) : EReal) := by
  obtain ⟨ν, hν⟩ := m_x qk2 QK hqk b h mp q
  pointwise [val_main_v47, val_main_v46, val_main_v45, val_main_v44]
  simp only [e_x, down_x, s_x qk2 QK hqk, hν, val_main_cst_4_apply]
  rw [show FloatOps.ofBits (F := Ideal) .f32 0x00000000#32 = 0 by simp [FloatOps.ofBits, Ideal.ofBits, Ideal.ieee], zero_add]
  exact weight (fun k : Fin 8448 => score QK h mp (b * 8192 + q) (krow b k)) ν k

theorem w0_x (b : Fin 2) (h : Fin 16) (q : Fin 8192) (k : Fin 8448) :
    val_main_v49 (F := Ideal) qk2 (ix4 b h q k) = val_main_v47 (F := Ideal) qk2 (ix5 b h 0 q k) := by
  pointwise [val_main_v49, val_main_v48]

theorem w1_x (b : Fin 2) (h : Fin 16) (q : Fin 8192) (k : Fin 8448) :
    val_main_v51 (F := Ideal) qk2 (ix4 b h q k) = val_main_v47 (F := Ideal) qk2 (ix5 b h 1 q k) := by
  pointwise [val_main_v51, val_main_v50]

theorem lam_eq (i : S_.Idx) : val_main_v15 (F := Ideal) dl i = lamOf dl := by
  rw [show i = Shape.Idx.first h_S_ from Subsingleton.elim _ _]
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, lamOf]

theorem lam_x (i : S2x16x8192x8448.Idx) : val_main_v52 (F := Ideal) dl i = lamOf dl := by
  rw [val_main_v52_apply]
  exact lam_eq dl _

theorem d_x (i : S2x16x8192x8448.Idx) :
    val_main_v54 (F := Ideal) qk2 dl i = val_main_v49 (F := Ideal) qk2 i - val_main_v52 (F := Ideal) dl i * val_main_v51 (F := Ideal) qk2 i := by
  rw [val_main_v54_apply, val_main_v53_apply]
  rfl

include hqk hvv hl in
theorem a_x (b : Fin 2) (q : Fin 8192) (h : Fin 16) (e : Fin 256) :
    val_main_v56 (F := Ideal) qk2 parts dl (ix4 b q h e) = att QK VV (lamOf dl) (b * 8192 + q) h e := by
  pointwise [val_main_v56, val_main_v55]
  simp only [d_x, w0_x, w1_x, lam_x, w_x qk2 QK hqk, v_x parts VV hvv, hl]
  refine (average (fun k : Fin 8448 => Real.exp (score QK h 0 (b * 8192 + q) (krow b k))) (fun k : Fin 8448 => Real.exp (score QK h 1 (b * 8192 + q) (krow b k)))
    (fun k : Fin 8448 => VV (krow b k) ((32 + h) * 256 + e)) _ _ l).trans ?_
  have eb : batch (b.val * 8192 + q.val) = b.val := by unfold batch; rw [if_pos (by omega)]; omega
  have es : seen (b.val * 8192 + q.val) = 8192 := by unfold seen; rw [if_pos (by omega)]
  unfold att diff
  rw [eb, es, ← den_x, ← den_x, ← num_x, ← num_x]
  rfl

/-- A latent row of the result. -/
theorem o_x (b : Fin 2) (q : Fin 8192) (h : Fin 16) (e : Fin 256) :
    val_main_v92 (F := Ideal) qk2 parts dl g (ix4 b q h e) = normed (fun x => val_main_v56 (F := Ideal) qk2 parts dl (ix4 b q h x)) e
      * (g (ix1 e) * Ideal.ofBits .f32 0x3F4CCCCD#32) := by
  rw [← mul_assoc]
  pointwise [val_main_v92, val_main_v91, val_main_v90, val_main_v89, val_main_v88, val_main_v87, val_main_v86, val_main_v85, val_main_v84, val_main_v83, val_main_v82, val_main_v81, val_main_v80, val_main_v79, val_main_v78, val_main_cst_8, val_main_cst_9, val_main_cst_10, val_main_cst_11, normed]

theorem r_x (r : Fin 16384) (d : Fin 4096) :
    val_main_v93 (F := Ideal) qk2 parts dl g (ix2 r d) = val_main_v92 (F := Ideal) qk2 parts dl g
      (ix4 ⟨r / 8192, by omega⟩ ⟨r % 8192, by omega⟩ ⟨d / 256, by omega⟩ ⟨d % 256, by omega⟩) := by
  pointwise [val_main_v93]

/-! ## The context rows -/

include hqk in
theorem q_c (b : Fin 2) (q : Fin 256) (h : Fin 16) (mp : Fin 2) (d : Fin 128) :
    val_main_v30 (F := Ideal) qk2 (ix5 b q h mp d) = (QK ((64 + b) * 256 + q) (h * 256 + (mp * 128 + d)) : EReal) := by
  pointwise [val_main_v30, val_main_v29, val_main_v26, val_main_v25]
  rw [hqk]
  exact at_QK QK (by show 16384 + (b.val * 256 + q.val) = _; omega) (by show h.val * 256 + mp.val * 128 + d.val = _; omega)

include hvv in
theorem v_c (b : Fin 2) (k : Fin 256) (h : Fin 16) (e : Fin 256) :
    val_main_v33 (F := Ideal) parts (ix4 b k h e) = (VV ((64 + b) * 256 + k) ((32 + h) * 256 + e) : EReal) := by
  pointwise [val_main_v33, val_main_v28, val_main_v27]
  rw [hvv _ _ (by omega) (by omega)]
  exact at_QK VV (by show 16384 + (b.val * 256 + k.val) = _; omega) (by omega)

include hqk in
theorem s_c (b : Fin 2) (h : Fin 16) (mp : Fin 2) (q : Fin 256) (k : Fin 256) :
    val_main_v57 (F := Ideal) qk2 (ix5 b h mp q k) = (score QK h mp ((64 + b) * 256 + q) ((64 + b) * 256 + k) : EReal) := by
  pointwise [val_main_v57]
  unfold score
  rw [← coe_sum]
  refine Finset.sum_congr rfl fun d _ => ?_
  rw [q_c qk2 QK hqk, k_c qk2 QK hqk, EReal.coe_mul]

include hqk in
theorem m_c (b : Fin 2) (h : Fin 16) (mp : Fin 2) (q : Fin 256) :
    ∃ ν : ℝ, val_main_v60 (F := Ideal) qk2 (ix4 b h mp q) = (ν : EReal) := by
  obtain ⟨ν, hν⟩ := fold_real (Finset.univ : Finset (Fin 256)) ⟨0, Finset.mem_univ _⟩ (fun k => score QK h mp ((64 + b) * 256 + q) ((64 + b) * 256 + k))
  refine ⟨ν, ?_⟩
  rw [val_main_v60_apply, val_main_v59_apply, val_main_cst_6_apply]
  have e : val_main_v58 (F := Ideal) qk2 (ix4 b h mp q) = (ν : EReal) := by
    refine Eq.trans ?_ hν
    pointwise [val_main_v58]
    rw [val_main_cst_5_apply, show FloatOps.ofBits (F := Ideal) .f32 0xFF800000#32 = ⊥ from neg_inf]
    simp only [s_c qk2 QK hqk]
  rw [e, show FloatOps.ofBits (F := Ideal) .f32 0xFF800000#32 = ⊥ from neg_inf]
  exact max_eq_right bot_le

theorem down_c (b : Fin 2) (h : Fin 16) (mp : Fin 2) (q : Fin 256) (k : Fin 256) :
    val_main_v62 (F := Ideal) qk2 (ix5 b h mp q k) = val_main_v60 (F := Ideal) qk2 (ix4 b h mp q) := by
  pointwise [val_main_v62, val_main_v61]

theorem e_c (i : S2x16x2x256x256.Idx) :
    val_main_v64 (F := Ideal) qk2 i = Ideal.exp (val_main_v57 (F := Ideal) qk2 i - val_main_v62 (F := Ideal) qk2 i) := by
  rw [val_main_v64_apply, val_main_v63_apply]
  rfl

include hqk in
theorem w_c (b : Fin 2) (h : Fin 16) (mp : Fin 2) (q : Fin 256) (k : Fin 256) :
    val_main_v68 (F := Ideal) qk2 (ix5 b h mp q k)
      = ((Real.exp (score QK h mp ((64 + b) * 256 + q) ((64 + b) * 256 + k)) / ∑ j : Fin 256, Real.exp (score QK h mp ((64 + b) * 256 + q) ((64 + b) * 256 + j)) : ℝ) : EReal) := by
  obtain ⟨ν, hν⟩ := m_c qk2 QK hqk b h mp q
  pointwise [val_main_v68, val_main_v67, val_main_v66, val_main_v65]
  simp only [e_c, down_c, s_c qk2 QK hqk, hν, val_main_cst_7_apply]
  rw [show FloatOps.ofBits (F := Ideal) .f32 0x00000000#32 = 0 by simp [FloatOps.ofBits, Ideal.ofBits, Ideal.ieee], zero_add]
  exact weight (fun k : Fin 256 => score QK h mp ((64 + b) * 256 + q) ((64 + b) * 256 + k)) ν k

theorem w0_c (b : Fin 2) (h : Fin 16) (q : Fin 256) (k : Fin 256) :
    val_main_v70 (F := Ideal) qk2 (ix4 b h q k) = val_main_v68 (F := Ideal) qk2 (ix5 b h 0 q k) := by
  pointwise [val_main_v70, val_main_v69]

theorem w1_c (b : Fin 2) (h : Fin 16) (q : Fin 256) (k : Fin 256) :
    val_main_v72 (F := Ideal) qk2 (ix4 b h q k) = val_main_v68 (F := Ideal) qk2 (ix5 b h 1 q k) := by
  pointwise [val_main_v72, val_main_v71]

theorem lam_c (i : S2x16x256x256.Idx) : val_main_v73 (F := Ideal) dl i = lamOf dl := by
  rw [val_main_v73_apply]
  exact lam_eq dl _

theorem d_c (i : S2x16x256x256.Idx) :
    val_main_v75 (F := Ideal) qk2 dl i = val_main_v70 (F := Ideal) qk2 i - val_main_v73 (F := Ideal) dl i * val_main_v72 (F := Ideal) qk2 i := by
  rw [val_main_v75_apply, val_main_v74_apply]
  rfl

include hqk hvv hl in
theorem a_c (b : Fin 2) (q : Fin 256) (h : Fin 16) (e : Fin 256) :
    val_main_v77 (F := Ideal) qk2 parts dl (ix4 b q h e) = att QK VV (lamOf dl) ((64 + b) * 256 + q) h e := by
  pointwise [val_main_v77, val_main_v76]
  simp only [d_c, w0_c, w1_c, lam_c, w_c qk2 QK hqk, v_c parts VV hvv, hl]
  refine (average (fun k : Fin 256 => Real.exp (score QK h 0 ((64 + b) * 256 + q) ((64 + b) * 256 + k))) (fun k : Fin 256 => Real.exp (score QK h 1 ((64 + b) * 256 + q) ((64 + b) * 256 + k)))
    (fun k : Fin 256 => VV ((64 + b) * 256 + k) ((32 + h) * 256 + e)) _ _ l).trans ?_
  have eb : batch ((64 + b.val) * 256 + q.val) = b.val := by unfold batch; rw [if_neg (by omega)]; omega
  have es : seen ((64 + b.val) * 256 + q.val) = 0 := by unfold seen; rw [if_neg (by omega)]
  unfold att diff
  rw [eb, es, ← den_c, ← den_c, ← num_c, ← num_c]
  rfl

/-- A context row of the result. -/
theorem o_c (b : Fin 2) (q : Fin 256) (h : Fin 16) (e : Fin 256) :
    val_main_v108 (F := Ideal) qk2 parts dl g (ix4 b q h e) = normed (fun x => val_main_v77 (F := Ideal) qk2 parts dl (ix4 b q h x)) e
      * (g (ix1 e) * Ideal.ofBits .f32 0x3F4CCCCD#32) := by
  rw [← mul_assoc]
  pointwise [val_main_v108, val_main_v107, val_main_v106, val_main_v105, val_main_v104, val_main_v103, val_main_v102, val_main_v101, val_main_v100, val_main_v99, val_main_v98, val_main_v97, val_main_v96, val_main_v95, val_main_v94, val_main_cst_12, val_main_cst_13, val_main_cst_14, val_main_cst_15, normed]

theorem r_c (r : Fin 512) (d : Fin 4096) :
    val_main_v109 (F := Ideal) qk2 parts dl g (ix2 r d) = val_main_v108 (F := Ideal) qk2 parts dl g
      (ix4 ⟨r / 256, by omega⟩ ⟨r % 256, by omega⟩ ⟨d / 256, by omega⟩ ⟨d % 256, by omega⟩) := by
  pointwise [val_main_v109]

include hqk hvv hl in
/-- The reference's result. -/
theorem ref : val_main_v111 (F := Ideal) qk2 parts dl g = spec QK VV (lamOf dl) g := by
  funext i
  idx_vars i
  pointwise [val_main_v111, val_main_v110]
  by_cases hi : i0.val < 16384
  · rw [dif_pos hi]
    refine (r_x qk2 parts dl g ⟨i0, hi⟩ i1).trans ((o_x qk2 parts dl g _ _ _ _).trans ?_)
    simp only [a_x qk2 parts dl QK VV l hqk hvv hl]
    unfold spec
    have e : i0.val / 8192 * 8192 + i0.val % 8192 = i0.val := by omega
    simp only [e]
    rfl
  · rw [dif_neg hi]
    refine (r_c qk2 parts dl g ⟨i0 - 16384, by omega⟩ i1).trans ((o_c qk2 parts dl g _ _ _ _).trans ?_)
    simp only [a_c qk2 parts dl QK VV l hqk hvv hl]
    unfold spec
    have e : (64 + (i0.val - 16384) / 256) * 256 + (i0.val - 16384) % 256 = i0.val := by omega
    simp only [e]
    rfl

end Read

/-- The attention, of inputs the precondition accepts. -/
theorem algebraic [Cert.KernelIdeal.Facts] [Cert.ReferenceIdeal.Facts] [Cert.Pre_finite_inputs.Facts] :
    Cert.algebraic_KernelIdeal_ReferenceIdeal_pre_finite_inputs := by
  pair_intro
  · run_from Cert.KernelIdeal.Gen.run_main m g
  · run_from Cert.ReferenceIdeal.Value.run m' g'
    rw [Cert.ReferenceIdeal.Read.val_main_v111_eq]
    obtain ⟨e0, e1, e2, e3⟩ := hagree c
    rw [e0, e1, e2, e3]
    obtain ⟨QK, VV, l, hqk, hvv, hl⟩ := reals _ _ _ _ (hpre c)
    exact (ref _ _ _ _ QK VV l hqk hvv hl).trans (final m c QK VV hqk hvv).symm

end Cert.Proof.Attn

end
-- ==== Proof.InProj.lean ====
module

public import proofs.«01_k».proof.Proof.Gen.Kernel2Ideal.Value
public import proofs.«01_k».proof.Proof.Gen.Reference2Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.InProj

open Cert.Kernel2Ideal Cert.Kernel2Ideal.Gen

variable (m : (ℓ : Loc nD τ sig) → Buf (Elt Ideal) ℓ)

/-- The column of the whole weight that column `c` of the product reads: the gates' 32 columns are stepped over. -/
def col (c : Fin 32768) : Fin 32800 := if c.val < 24576 then ⟨c.val, by omega⟩ else ⟨c.val + 32, by omega⟩

/-- The product both programs state: row `r` of the activations against one kept column of the weight. -/
def prod (x : FVec Ideal S16896x4096 .bf16) (w : FVec Ideal S4096x32800 .f32) : FVec Ideal S16896x32768 .bf16 :=
  fun i => ∑ k : Fin 4096, x (ix2 (i 0) k) * w (ix2 k (col (i 1)))

theorem idx : ∀ t : Fin cfg0.N, win0_0.index t = ![(grid0.coords t 1).val, 0] ∧ win0_1.index t = ![0, (grid0.coords t 0).val]
    ∧ win0_2.index t = ![(grid0.coords t 1).val, (grid0.coords t 0).val] :=
  (by decide +kernel : ∀ t : Fin grid0.N, _)

/-- The weight as the call finds it: the kept columns. -/
theorem weight (c : Dev nD) (k : Fin 4096) (j : Fin 32768) :
    (show FVec Ideal S4096x32768 .bf16 from V m c main_v3) (ix2 k j) = (m ((c : Thread nD τ).loc main_arg1)) (ix2 k (col j)) := by
  entry_read
  pointwise
  unfold col
  by_cases h : j.val < 24576
  · simp only [dif_pos h, if_pos h]
  · simp only [dif_neg h, if_neg h]
    exact congrArg _ (congrArg _ (Fin.ext (by show 24608 + (j.val - 24576) = j.val + 32; omega)))

theorem point (c : Dev nD) (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  refine Finset.sum_congr rfl fun k _ => Ideal.mul_congr ?_ ?_
  · blk_ext [iblk, V, idx t]
  · refine Eq.trans ?_ (weight m c k _)
    unfold iblk
    blk_ext [idx t]

theorem final (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Proof.InProj

namespace Cert.Proof.InProj

open Cert.Reference2Ideal Cert.Reference2Ideal.Gen Cert.Reference2Ideal.Read

theorem ref (x : FVec Ideal S16896x4096 .bf16) (w : FVec Ideal S4096x32800 .f32) : val_main_v5 (F := Ideal) x w = prod x w := by
  funext i
  idx_vars i
  pointwise [val_main_v5, val_main_v4, val_main_v3, val_main_v2, val_main_v1, val_main_v0, prod]
  unfold col
  by_cases h : i1.val < 24576
  · simp only [dif_pos h, if_pos h]
  · simp only [dif_neg h, if_neg h]
    refine Finset.sum_congr rfl fun k _ => congrArg _ (congrArg _ (congrArg _ (Fin.ext ?_)))
    show 24608 + (i1.val - 24576) = i1.val + 32; omega

end Cert.Proof.InProj

namespace Cert.Proof.InProj

/-- The input projection: the call's result is the kept columns of the whole product. -/
theorem algebraic [Cert.Kernel2Ideal.Facts] [Cert.Reference2Ideal.Facts] : Cert.algebraic_Kernel2Ideal_Reference2Ideal := by
  pair_intro
  · run_from Cert.Kernel2Ideal.Gen.run_main m g
  · run_from Cert.Reference2Ideal.Value.run m' g'
    rw [Cert.Reference2Ideal.Read.val_main_v5_eq]
    exact (ref _ _).trans (final m c).symm

end Cert.Proof.InProj

end
-- ==== Proof.Merge.lean ====
module

public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Merge

open Cert.Kernel3Ideal Cert.Kernel3Ideal.Gen

variable (m : (ℓ : Loc nD τ sig) → Buf (Elt Ideal) ℓ)

/-- What both programs state: each branch's product under the sigmoid of its gate, added. -/
def merged (a b : FVec Ideal S16896x4096 .bf16) (u w : FVec Ideal S4096x4096 .f32) (p : FVec Ideal S16896x32768 .bf16) :
    FVec Ideal S16896x4096 .bf16 := fun i =>
  Ideal.div 1 (1 + Ideal.exp (0 - (p (ix2 (i 0) ⟨24576 + (i 1).val, by have : (i 1).val < 4096 := (i 1).isLt; omega⟩)))) * (∑ k : Fin 4096, a (ix2 (i 0) k) * u (ix2 k (i 1)))
    + Ideal.div 1 (1 + Ideal.exp (0 - (p (ix2 (i 0) ⟨28672 + (i 1).val, by have : (i 1).val < 4096 := (i 1).isLt; omega⟩)))) * (∑ k : Fin 4096, b (ix2 (i 0) k) * w (ix2 k (i 1)))

theorem idx : ∀ t : Fin cfg0.N, win0_0.index t = ![(grid0.coords t 1).val, 0] ∧ win0_1.index t = ![0, (grid0.coords t 0).val]
    ∧ win0_2.index t = ![(grid0.coords t 1).val, 0] ∧ win0_3.index t = ![0, (grid0.coords t 0).val]
    ∧ win0_4.index t = ![(grid0.coords t 1).val, 48 + (grid0.coords t 0).val]
    ∧ win0_5.index t = ![(grid0.coords t 1).val, 56 + (grid0.coords t 0).val]
    ∧ win0_6.index t = ![(grid0.coords t 1).val, (grid0.coords t 0).val] :=
  (by decide +kernel : ∀ t : Fin grid0.N, _)

theorem point (c : Dev nD) (t : Fin cfg0.N) (y) :
    k0_pay1 (iblk m c 0 t) (iblk m c 1 t) (iblk m c 2 t) (iblk m c 3 t) (iblk m c 4 t) (iblk m c 5 t) y
    = merged (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay1, merged]
  blk_point [iblk, V, idx t]

theorem final (c : Dev nD) : (dats m 0 c).arrAt 6 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Proof.Merge

namespace Cert.Proof.Merge

open Cert.Reference3Ideal Cert.Reference3Ideal.Gen Cert.Reference3Ideal.Read

theorem ref (a b : FVec Ideal S16896x4096 .bf16) (u w : FVec Ideal S4096x4096 .f32) (p : FVec Ideal S16896x32768 .bf16) :
    val_main_v23 (F := Ideal) a b u w p = merged a b u w p := by
  funext i
  idx_vars i
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, merged]
  rw [zero_sub, zero_sub]
  rw [show (⟨24576 + (4096 + i1.val), by omega⟩ : Fin 32768) = ⟨28672 + i1.val, by omega⟩ from Fin.ext (by show 24576 + (4096 + i1.val) = 28672 + i1.val; omega)]

/-- The merge of the two branches. -/
theorem algebraic [Cert.Kernel3Ideal.Facts] [Cert.Reference3Ideal.Facts] : Cert.algebraic_Kernel3Ideal_Reference3Ideal := by
  pair_intro
  · run_from Cert.Kernel3Ideal.Gen.run_main m g
  · run_from Cert.Reference3Ideal.Value.run m' g'
    rw [Cert.Reference3Ideal.Read.val_main_v23_eq]
    exact (ref _ _ _ _ _).trans (final m c).symm

end Cert.Proof.Merge

end
-- ==== Proof.OutProj.lean ====
module

public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.OutProj

open Cert.Kernel4Ideal Cert.Kernel4Ideal.Gen

variable (m : (ℓ : Loc nD τ sig) → Buf (Elt Ideal) ℓ)

/-- The row of the modulations that gates row `r`: the third one of the row's segment (a batch, or the context). -/
def seg (r : Fin 16896) : Fin 96 := if r.val < 16384 then ⟨r.val / 8192 * 6 + 2, by omega⟩ else ⟨14, by omega⟩

/-- What both programs state: the residual stream plus the gated product. -/
def added (y : FVec Ideal S16896x4096 .bf16) (w : FVec Ideal S4096x4096 .f32) (h : FVec Ideal S16896x4096 .f32)
    (g : FVec Ideal S96x1x4096 .f32) : FVec Ideal S16896x4096 .f32 := fun i =>
  h (ix2 (i 0) (i 1)) + g (ix3 (seg (i 0)) 0 (i 1)) * ∑ k : Fin 4096, y (ix2 (i 0) k) * w (ix2 k (i 1))

theorem seg_val (r : Fin 16896) (q a : ℕ) (ha : a < 512) (h : r.val = q * 512 + a) :
    (seg r).val = if q < 32 then q / 16 * 6 + 2 else 14 := by
  unfold seg
  by_cases hq : q < 32
  · rw [if_pos hq, if_pos (by omega)]
    show r.val / 8192 * 6 + 2 = _
    omega
  · rw [if_neg hq, if_neg (by omega)]

theorem idx : ∀ t : Fin cfg0.N, win0_0.index t = ![(grid0.coords t 1).val, 0] ∧ win0_1.index t = ![0, (grid0.coords t 0).val]
    ∧ win0_2.index t = ![(grid0.coords t 1).val, (grid0.coords t 0).val]
    ∧ win0_3.index t = ![if (grid0.coords t 1).val < 32 then (grid0.coords t 1).val / 16 * 6 + 2 else 14, 0, (grid0.coords t 0).val]
    ∧ win0_4.index t = ![(grid0.coords t 1).val, (grid0.coords t 0).val] :=
  (by decide +kernel : ∀ t : Fin grid0.N, _)

theorem point (c : Dev nD) (t : Fin cfg0.N) (y) :
    k0_pay1 (iblk m c 2 t) (iblk m c 3 t) (iblk m c 0 t) (iblk m c 1 t) y
    = added (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, added]
  blk_point [iblk, V, idx t]
  refine Eq.symm (seg_val _ _ (y 0).val (by omega) ?_)
  blk_simp [idx t]

theorem final (c : Dev nD) : (dats m 0 c).arrAt 4 (cfgs 0).N
    = added (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Proof.OutProj

namespace Cert.Proof.OutProj

open Cert.Reference4Ideal Cert.Reference4Ideal.Gen Cert.Reference4Ideal.Read

theorem ref (y : FVec Ideal S16896x4096 .bf16) (w : FVec Ideal S4096x4096 .f32) (h : FVec Ideal S16896x4096 .f32)
    (g : FVec Ideal S96x1x4096 .f32) :
    val_main_v23 (F := Ideal) y w h g = added y w h g := by
  funext i
  idx_vars i
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3,
    val_main_v2, val_main_v1, val_main_v0, added]
  unfold seg
  have e : ∀ h', (⟨i0.val / 8192 * 8192 + i0.val % 8192, h'⟩ : Fin 16896) = i0 := fun h' => Fin.ext (by show i0.val / 8192 * 8192 + i0.val % 8192 = i0.val; omega)
  by_cases hi : i0.val < 16384
  · simp only [dif_pos hi, if_pos hi, e]
  · have e' : ∀ h', (⟨16384 + (i0.val - 16384), h'⟩ : Fin 16896) = i0 := fun h' => Fin.ext (by show 16384 + (i0.val - 16384) = i0.val; omega)
    simp only [dif_neg hi, if_neg hi, e']
    rfl

/-- The output projection. -/
theorem algebraic [Cert.Kernel4Ideal.Facts] [Cert.Reference4Ideal.Facts] : Cert.algebraic_Kernel4Ideal_Reference4Ideal := by
  pair_intro
  · run_from Cert.Kernel4Ideal.Gen.run_main m g
  · run_from Cert.Reference4Ideal.Value.run m' g'
    rw [Cert.Reference4Ideal.Read.val_main_v23_eq]
    rw [(hagree c).2.2.2]
    exact (ref _ _ _ _).trans (final m c).symm

end Cert.Proof.OutProj

end
-- ==== Proof.Chunk.lean ====
module

public import proofs.«01_k».proof.Defs

/-!
One chunk of the gated recurrence, for one direction, one batch row and one head: 128 tokens with an input gate `li`, a
running forget sum `bs`, a query, a key and a value each, and the state `(C, n, m)` that the chunk reads and hands on.

Which token sees which is a relation `vis`, and `e` is the running sum over the whole chunk.  The chunk does not care in
which order its tokens are numbered, so a chunk read backwards is the same chunk under the reversal of its token numbers;
that is the last part of this module.
-/

@[expose] public section

noncomputable section

set_option backward.proofsInPublic true

open Idealize.ShloMosaic

namespace Scan

/-- What a chunk is given, besides its state. -/
structure Inp where
  li : Fin 128 → EReal
  bs : Fin 128 → EReal
  q : Fin 128 → Fin 256 → EReal
  k : Fin 128 → Fin 256 → EReal
  v : Fin 128 → Fin 512 → EReal

/-- The state between two chunks: a matrix, its normaliser, and the exponent both are scaled by. -/
structure St where
  C : Fin 256 → Fin 512 → EReal
  n : Fin 256 → EReal
  m : EReal

/-- The state before the first chunk. -/
def St.zero : St := ⟨fun _ _ => 0, fun _ => 0, 0⟩

variable (vis : Fin 128 → Fin 128 → Bool) (e : EReal) (I : Inp) (S : St)

/-- The log weight of token `r` in the output of token `l`. -/
def dlog (l r : Fin 128) : EReal := if vis l r then I.bs l - I.bs r + I.li r else ⊥
/-- The log weight of the state in the output of token `l`. -/
def inter (l : Fin 128) : EReal := I.bs l + S.m
/-- The exponent of token `l`'s output. -/
def mpos (l : Fin 128) : EReal := max (Finset.univ.fold max ⊥ fun r => dlog vis I l r) (inter I S l)
def wintra (l r : Fin 128) : EReal := Ideal.exp (dlog vis I l r - mpos vis I S l)
def winter (l : Fin 128) : EReal := Ideal.exp (inter I S l - mpos vis I S l)
def sc (l r : Fin 128) : EReal := (∑ x, I.q l x * I.k r x) * wintra vis I S l r
def num (l : Fin 128) (y : Fin 512) : EReal :=
  (∑ r, sc vis I S l r * I.v r y) + winter vis I S l * ∑ x, I.q l x * S.C x y
def den (l : Fin 128) : EReal :=
  (∑ r, sc vis I S l r) + winter vis I S l * ∑ x, I.q l x * S.n x
/-- The output of token `l`. -/
def out (l : Fin 128) (y : Fin 512) : EReal :=
  Ideal.div (num vis I S l y) (max (max (den vis I S l) (-den vis I S l)) (Ideal.exp (-mpos vis I S l)))
/-- The log weight of token `l` in the state handed on. -/
def wlog (l : Fin 128) : EReal := e - I.bs l + I.li l
def mnew : EReal := max (e + S.m) (Finset.univ.fold max ⊥ fun l => wlog e I l)
def decay : EReal := Ideal.exp (e + S.m - mnew e I S)
def wk (l : Fin 128) (x : Fin 256) : EReal := Ideal.exp (wlog e I l - mnew e I S) * I.k l x
/-- The state handed on. -/
def next : St where
  C x y := decay e I S * S.C x y + ∑ l, wk e I S l x * I.v l y
  n x := decay e I S * S.n x + ∑ l, wk e I S l x
  m := mnew e I S

/-- The same chunk with its tokens renumbered. -/
def Inp.map (σ : Equiv.Perm (Fin 128)) (I : Inp) : Inp :=
  ⟨fun l => I.li (σ l), fun l => I.bs (σ l), fun l => I.q (σ l), fun l => I.k (σ l), fun l => I.v (σ l)⟩

variable (σ : Equiv.Perm (Fin 128))

theorem fold_perm (f : Fin 128 → EReal) :
    (Finset.univ.fold max ⊥ fun r => f (σ r)) = Finset.univ.fold max ⊥ f := by
  have h := Finset.fold_map (op := (max : EReal → EReal → EReal)) (f := f) (b := ⊥) (g := σ.toEmbedding) (s := Finset.univ)
  rw [Finset.map_univ_equiv] at h
  exact h.symm

theorem dlog_map (l r) : dlog (fun l r => vis (σ l) (σ r)) (I.map σ) l r = dlog vis I (σ l) (σ r) := rfl

theorem mpos_map (l) : mpos (fun l r => vis (σ l) (σ r)) (I.map σ) S l = mpos vis I S (σ l) := by
  unfold mpos
  refine congrArg₂ max ?_ rfl
  simp only [dlog_map]
  exact fold_perm σ fun r => dlog vis I (σ l) r

theorem winter_map (l) : winter (fun l r => vis (σ l) (σ r)) (I.map σ) S l = winter vis I S (σ l) := by
  unfold winter
  rw [mpos_map]; rfl

theorem sc_map (l r) : sc (fun l r => vis (σ l) (σ r)) (I.map σ) S l r = sc vis I S (σ l) (σ r) := by
  unfold sc wintra
  rw [mpos_map, dlog_map]; rfl

theorem num_map (l y) : num (fun l r => vis (σ l) (σ r)) (I.map σ) S l y = num vis I S (σ l) y := by
  unfold num
  simp only [sc_map, winter_map]
  exact congrArg₂ (· + ·) (Equiv.sum_comp σ fun r => sc vis I S (σ l) r * I.v r y) rfl

theorem den_map (l) : den (fun l r => vis (σ l) (σ r)) (I.map σ) S l = den vis I S (σ l) := by
  unfold den
  simp only [sc_map, winter_map]
  exact congrArg₂ (· + ·) (Equiv.sum_comp σ fun r => sc vis I S (σ l) r) rfl

theorem out_map (l y) : out (fun l r => vis (σ l) (σ r)) (I.map σ) S l y = out vis I S (σ l) y := by
  unfold out
  rw [num_map, den_map, mpos_map]

theorem mnew_map : mnew e (I.map σ) S = mnew e I S :=
  congrArg₂ max rfl (fold_perm σ fun l => wlog e I l)

theorem wk_map (l x) : wk e (I.map σ) S l x = wk e I S (σ l) x := by
  unfold wk
  rw [mnew_map]; rfl

/-- The state handed on does not depend on how the tokens are numbered. -/
theorem next_map : next e (I.map σ) S = next e I S := by
  unfold next decay
  simp only [wk_map, mnew_map]
  congr 1
  · funext x y
    exact congrArg₂ (· + ·) rfl (Equiv.sum_comp σ fun l => wk e I S l x * I.v l y)
  · funext x
    exact congrArg₂ (· + ·) rfl (Equiv.sum_comp σ fun l => wk e I S l x)

/-- Token `l` of a chunk in reading order, for each direction: the second direction reads a chunk backwards. -/
def dirPerm (d : Fin 2) : Equiv.Perm (Fin 128) := if d = 0 then Equiv.refl _ else Fin.revPerm

end Scan
-- ==== Proof.ScanPay.lean ====
module

public import proofs.«01_k».proof.Proof.Gen.Kernel5Ideal.Skeleton
public import proofs.«01_k».proof.Proof.Chunk
public import Idealize.ShloMosaic.Lib.Pipeline.ValueKit
public import Idealize.ShloMosaic.Lib.Pointwise
public import Idealize.ShloMosaic.Lib.Claim

/-! # What one grid point of the scan kernel computes from its blocks is one chunk of the recurrence -/

@[expose] public section

set_option maxRecDepth 16384
set_option backward.proofsInPublic true

noncomputable section

open Idealize.ShloMosaic Cert.Kernel5Ideal Cert.Kernel5Ideal.Gen

namespace Scan.Pay

variable (li bs : FVec Ideal S128x1 .f32) (lir bsr : FVec Ideal S1x128 .f32) (m e : FVec Ideal S1x1 .f32) (w : IVec S128x128 32)
  (q k : FVec Ideal S128x256 .bf16) (v : FVec Ideal S128x512 .bf16) (C : FVec Ideal S256x512 .f32) (n : FVec Ideal S1x256 .f32)

/-- The chunk a grid point works on. -/
def inp : Inp where
  li l := li (ix2 l 0)
  bs l := bs (ix2 l 0)
  q l x := q (ix2 l x)
  k l x := k (ix2 l x)
  v l y := v (ix2 l y)

/-- The state a grid point reads. -/
def st : St where
  C x y := C (ix2 x y)
  n x := n (ix2 0 x)
  m := m (ix2 0 0)

/-- Token `l` sees token `r` where the signed distance is not negative. -/
def vis (l r : Fin 128) : Bool := (0#32).sle (w (ix2 l r))

variable (l r : Fin 128)

theorem neg_inf : Ideal.ofBits .f32 0xFF800000#32 = (⊥ : EReal) := by
  simp [Ideal.ofBits, Ideal.ieee]

theorem p12 : k0_pay12 bs lir bsr w (ix2 l r) =
    if vis w l r then bs (ix2 l 0) + (lir (ix2 0 r) - bsr (ix2 0 r)) else ⊥ := by
  pointwise [k0_pay12]
  rw [show (Named.named κ "mask" 0xF149F2CA#32 : Ideal .f32) = (⊥ : EReal) from
    IdealRules.named_const.ideal_named_scalar _ _ _ _ rfl]
  unfold vis
  rcases hc : (0#32).sle (w (ix2 l r)) <;> simp [Scalar.select, IntOp.cmpi, hc]

theorem p13 : k0_pay13 bs m (ix2 l 0) = bs (ix2 l 0) + m (ix2 0 0) := by
  pointwise [k0_pay13]
theorem p14 : k0_pay14 bs lir bsr m w (ix2 l 0) =
    max (Finset.univ.fold max ⊥ fun r => k0_pay12 bs lir bsr w (ix2 l r)) (k0_pay13 bs m (ix2 l 0)) := by
  pointwise [k0_pay14]
  rw [neg_inf]
theorem p15 : k0_pay15 bs lir bsr m w (ix2 l 0) =
    Ideal.exp (k0_pay13 bs m (ix2 l 0) - k0_pay14 bs lir bsr m w (ix2 l 0)) := by
  pointwise [k0_pay15]
theorem p16 : k0_pay16 bs lir bsr m w q k (ix2 l r) =
    (∑ x, q (ix2 l x) * k (ix2 r x)) *
      Ideal.exp (k0_pay12 bs lir bsr w (ix2 l r) - k0_pay14 bs lir bsr m w (ix2 l 0)) := by
  pointwise [k0_pay16]
theorem p17 (y : Fin 512) : k0_pay17 bs lir bsr m w q k v C (ix2 l y) =
    (∑ r, k0_pay16 bs lir bsr m w q k (ix2 l r) * v (ix2 r y)) +
      k0_pay15 bs lir bsr m w (ix2 l 0) * ∑ x, q (ix2 l x) * C (ix2 x y) := by
  pointwise [k0_pay17]
theorem p19 (a b : FVec Ideal S128x1 .f32) (c : FVec Ideal S128x128 .f32) (d : FVec Ideal S128x512 .f32) (y : Fin 512) :
    k0_pay19 a b c d (k0_pay18 q) n (ix3 0 l y) =
    Ideal.div (d (ix2 l y))
      (max (max ((∑ r, c (ix2 l r)) + b (ix2 l 0) * ∑ x, q (ix2 l x) * n (ix2 0 x))
        (-((∑ r, c (ix2 l r)) + b (ix2 l 0) * ∑ x, q (ix2 l x) * n (ix2 0 x)))) (Ideal.exp (-a (ix2 l 0)))) := by
  pointwise [k0_pay19, k0_pay18]
  rw [zero_sub]
  rfl
theorem p20 : k0_pay20 li bs e (ix2 l 0) = e (ix2 0 0) - bs (ix2 l 0) + li (ix2 l 0) := by
  pointwise [k0_pay20]
theorem p21 : k0_pay21 li bs m e (ix2 0 0) =
    max (e (ix2 0 0) + m (ix2 0 0)) (Finset.univ.fold max ⊥ fun l => k0_pay20 li bs e (ix2 l 0)) := by
  pointwise [k0_pay21]
  rw [neg_inf]
theorem p22 : k0_pay22 li bs m e (ix2 0 0) =
    Ideal.exp (e (ix2 0 0) + m (ix2 0 0) - k0_pay21 li bs m e (ix2 0 0)) := by
  pointwise [k0_pay22]
theorem p23 (x : Fin 256) : k0_pay23 li bs m e k (ix2 l x) =
    Ideal.exp (k0_pay20 li bs e (ix2 l 0) - k0_pay21 li bs m e (ix2 0 0)) * k (ix2 l x) := by
  pointwise [k0_pay23]
theorem p24 (x : Fin 256) (y : Fin 512) : k0_pay24 li bs m e k v C (ix2 x y) =
    k0_pay22 li bs m e (ix2 0 0) * C (ix2 x y) + ∑ l, k0_pay23 li bs m e k (ix2 l x) * v (ix2 l y) := by
  pointwise [k0_pay24]
theorem p1 (a : FVec Ideal S1x1 .f32) (b : FVec Ideal S128x256 .f32) (x : Fin 256) : k0_pay1 a b n (ix2 0 x) =
    a (ix2 0 0) * n (ix2 0 x) + ∑ l, b (ix2 l x) := by
  pointwise [k0_pay1]
theorem p2 : k0_pay2 m (ix2 0 0) = m (ix2 0 0) := by
  pointwise [k0_pay2]
theorem p3 (x : Fin 256) (y : Fin 512) : (k0_pay3 : FVec Ideal _ _) (ix2 x y) = 0 := by
  pointwise [k0_pay3]
theorem p4 (x : Fin 256) : (k0_pay4 : FVec Ideal _ _) (ix2 0 x) = 0 := by
  pointwise [k0_pay4]
theorem p5 : (k0_pay5 : FVec Ideal _ _) (ix2 0 0) = 0 := by
  pointwise [k0_pay5]

/-- Column of the gates that direction `d`, head `h` reads its input gate from. -/
def gcol (d : Fin 2) (h : Fin 8) : Fin 32 := ⟨16 * d.val + h.val, by omega⟩
/-- Column of the running sums that direction `d`, head `h` reads. -/
def ccol (d : Fin 2) (h : Fin 8) : Fin 32 := ⟨16 * d.val + 8 + h.val, by omega⟩

theorem sum_pick {N : ℕ} (f : Fin N → EReal) (c : Fin N → BitVec 1) (a : Fin N) (hc : ∀ x, c x = if x = a then 1#1 else 0#1) :
    (∑ x, Scalar.select (c x) (f x) 0) = f a := by
  have e : (fun x => Scalar.select (c x) (f x) (0 : EReal)) = fun x => if x = a then f x else 0 := by
    funext x
    rw [hc]
    split <;> rfl
  rw [e, Finset.sum_ite_eq' Finset.univ a f, if_pos (Finset.mem_univ a)]

theorem gword : ∀ (d : Fin 2) (h : Fin 8) (x : Fin 32), IntOp.cmpi .eq (BitVec.ofNat 32 x)
    (Scalar.addi (Scalar.muli (Scalar.muli (BitVec.ofNat 32 d.val) 2#32) 8#32) (BitVec.ofNat 32 h.val)) =
      if x = gcol d h then 1#1 else 0#1 := by
  decide +kernel
theorem cword : ∀ (d : Fin 2) (h : Fin 8) (x : Fin 32), IntOp.cmpi .eq (BitVec.ofNat 32 x)
    (Scalar.addi (Scalar.addi (Scalar.muli (Scalar.muli (BitVec.ofNat 32 d.val) 2#32) 8#32) (BitVec.ofNat 32 h.val)) 8#32) =
      if x = ccol d h then 1#1 else 0#1 := by
  decide +kernel

theorem p6 (i : grid0.Coords) (x : Vec Ideal S128x32 .f32) : k0_pay6 i x (ix2 l 0) = x (ix2 l (gcol (i 0) (i 2))) := by
  pointwise [k0_pay6]
  exact sum_pick (fun a => x (ix2 l a)) _ _ (gword (i 0) (i 2))
theorem p7 (i : grid0.Coords) (x : Vec Ideal S128x32 .f32) : k0_pay7 i x (ix2 l 0) = x (ix2 l (ccol (i 0) (i 2))) := by
  pointwise [k0_pay7]
  exact sum_pick (fun a => x (ix2 l a)) _ _ (cword (i 0) (i 2))
theorem p8 : k0_pay8 lir (ix2 0 l) = lir (ix2 0 l) := by
  pointwise [k0_pay8]
theorem p9 : k0_pay9 lir (ix2 0 l) = lir (ix2 0 l) := by
  pointwise [k0_pay9]

theorem vword : ∀ (d : Fin 2) (l r : Fin 128),
    (0#32).sle (IntOp.muli (IntOp.subi (BitVec.ofNat 32 l.val) (BitVec.ofNat 32 r.val))
      (Scalar.subi (1#32) (Scalar.muli (2#32) (BitVec.ofNat 32 d.val)))) = decide (dirPerm d r ≤ dirPerm d l) := by
  decide +kernel

/-- The signed distance is the distance in reading order. -/
theorem p10 (i : grid0.Coords) : vis (k0_pay10 i) l r = decide (dirPerm (i 0) r ≤ dirPerm (i 0) l) := by
  unfold vis
  refine Eq.trans (congrArg _ ?_) (vword (i 0) l r)
  pointwise [k0_pay10]

theorem eword : ∀ (d : Fin 2) (x : Fin 128), IntOp.cmpi .eq (BitVec.ofNat 32 x.val)
    (Scalar.select (Scalar.cmpi CmpIPredicate.eq (BitVec.ofNat 32 d.val) 0#32) 127#32 0#32) =
      if x = dirPerm d 127 then 1#1 else 0#1 := by
  decide +kernel

/-- The running sum over the whole chunk stands at the token read last. -/
theorem p11 (d : Fin 2) (z : IVec S128x128 32) (hz : ∀ x : Fin 128, z (ix2 0 x) = BitVec.ofNat 32 x.val) :
    k0_pay11 (BitVec.ofNat 32 d.val) bsr z (ix2 0 0) = bsr (ix2 0 (dirPerm d 127)) := by
  pointwise [k0_pay11]
  exact sum_pick (fun a => bsr (ix2 0 a)) _ _ fun x => by rw [hz]; exact eword d x

theorem regroup (a b c : EReal) : a + (b - c) = a - c + b := by
  rw [sub_eq_add_neg, sub_eq_add_neg, add_assoc, add_comm b]

variable (hli : ∀ r : Fin 128, lir (ix2 0 r) = li (ix2 r 0)) (hbs : ∀ r : Fin 128, bsr (ix2 0 r) = bs (ix2 r 0))
include hli hbs

/-- The block a grid point writes is the chunk's output. -/
theorem out_eq (y : Fin 512) :
    k0_pay19 (k0_pay14 bs lir bsr m w) (k0_pay15 bs lir bsr m w) (k0_pay16 bs lir bsr m w q k)
      (k0_pay17 bs lir bsr m w q k v C) (k0_pay18 q) n (ix3 0 l y) =
    out (vis w) (inp li bs q k v) (st m C n) l y := by
  have d (l r) : k0_pay12 bs lir bsr w (ix2 l r) = dlog (vis w) (inp li bs q k v) l r := by
    rw [p12, hli, hbs, regroup]; rfl
  have i (l) : k0_pay13 bs m (ix2 l 0) = inter (inp li bs q k v) (st m C n) l := p13 bs m l
  have mp (l) : k0_pay14 bs lir bsr m w (ix2 l 0) = mpos (vis w) (inp li bs q k v) (st m C n) l := by
    rw [p14, i]; simp only [d]; rfl
  have wi (l) : k0_pay15 bs lir bsr m w (ix2 l 0) = winter (vis w) (inp li bs q k v) (st m C n) l := by
    rw [p15, i, mp]; rfl
  have c (l r) : k0_pay16 bs lir bsr m w q k (ix2 l r) = sc (vis w) (inp li bs q k v) (st m C n) l r := by
    rw [p16, d, mp]; rfl
  rw [p19, p17, mp, wi]
  simp only [c]
  rfl

omit hli hbs in
/-- The state a grid point leaves is the chunk's. -/
theorem next_eq :
    st (k0_pay2 (k0_pay21 li bs m e)) (k0_pay24 li bs m e k v C) (k0_pay1 (k0_pay22 li bs m e) (k0_pay23 li bs m e k) n) =
      next (e (ix2 0 0)) (inp li bs q k v) (st m C n) := by
  have wl (l) : k0_pay20 li bs e (ix2 l 0) = wlog (e (ix2 0 0)) (inp li bs q k v) l := p20 li bs e l
  have mn : k0_pay21 li bs m e (ix2 0 0) = mnew (e (ix2 0 0)) (inp li bs q k v) (st m C n) := by
    rw [p21]; simp only [wl]; rfl
  have dc : k0_pay22 li bs m e (ix2 0 0) = decay (e (ix2 0 0)) (inp li bs q k v) (st m C n) := by
    rw [p22, mn]; rfl
  have ww (l x) : k0_pay23 li bs m e k (ix2 l x) = wk (e (ix2 0 0)) (inp li bs q k v) (st m C n) l x := by
    rw [p23, wl, mn]; rfl
  unfold st next
  congr 1
  · funext x y
    rw [p24, dc]; simp only [ww]; rfl
  · funext x
    rw [p1, dc]; simp only [ww]; rfl
  · rw [p2, mn]; rfl

omit hli hbs in
/-- The state a first chunk starts from. -/
theorem zero_eq : st (k0_pay5 : FVec Ideal _ _) k0_pay3 k0_pay4 = St.zero := by
  unfold st St.zero
  congr 1
  · funext x y; exact p3 x y
  · funext x; exact p4 x
  · exact p5

end Scan.Pay
-- ==== Proof.ScanRow.lean ====
module

public import proofs.«01_k».proof.Proof.Chunk

/-! # The order in which the two directions of the scan read the rows -/

@[expose] public section

set_option maxRecDepth 16384
set_option backward.proofsInPublic true

namespace Scan

/-- Which chunk of 128 rows direction `d` reads at turn `n` for batch row `b`: first the two chunks of the context rows, which
    lie behind the latent rows, then the 64 of the latent rows; the second direction reads each from its end. -/
def chunk (d b : Fin 2) (n : ℕ) : ℕ :=
  if n < 2 then 128 + 2 * b.val + (if d = 0 then n else 1 - n) else 64 * b.val + (if d = 0 then n - 2 else 65 - n)

theorem chunk_lt (d b : Fin 2) (n : Fin 66) : chunk d b n < 132 := by
  unfold chunk; split <;> split <;> omega

/-- Row `l` of that chunk. -/
def row (d b : Fin 2) (n : Fin 66) (l : Fin 128) : Fin 16896 :=
  ⟨chunk d b n * 128 + l.val, by have := chunk_lt d b n; omega⟩

/-- The batch row a row belongs to. -/
def batch (r : Fin 16896) : Fin 2 :=
  if h : r.val < 16384 then ⟨r.val / 8192, by omega⟩ else ⟨(r.val - 16384) / 256, by omega⟩

/-- The turn at which direction `d` reads a row. -/
def turn (d : Fin 2) (r : Fin 16896) : Fin 66 :=
  if h : r.val < 16384 then ⟨if d = 0 then 2 + r.val % 8192 / 128 else 65 - r.val % 8192 / 128, by split <;> omega⟩
  else ⟨if d = 0 then (r.val - 16384) % 256 / 128 else 1 - (r.val - 16384) % 256 / 128, by split <;> omega⟩

/-- Its place in its chunk. -/
def lane (r : Fin 16896) : Fin 128 := ⟨r.val % 128, by omega⟩

theorem batch_val (r : Fin 16896) : (batch r).val = if r.val < 16384 then r.val / 8192 else (r.val - 16384) / 256 := by
  unfold batch; split <;> rfl

theorem turn_val (d : Fin 2) (r : Fin 16896) : (turn d r).val =
    if r.val < 16384 then (if d = 0 then 2 + r.val % 8192 / 128 else 65 - r.val % 8192 / 128)
    else (if d = 0 then (r.val - 16384) % 256 / 128 else 1 - (r.val - 16384) % 256 / 128) := by
  unfold turn; split <;> rfl

theorem row_eq (d b : Fin 2) (n : Fin 66) (l : Fin 128) : (row d b n l).val =
    (if n.val < 2 then 128 + 2 * b.val + (if d = 0 then n.val else 1 - n.val) else 64 * b.val + (if d = 0 then n.val - 2 else 65 - n.val)) * 128
      + l.val := rfl

theorem lane_val (r : Fin 16896) : (lane r).val = r.val % 128 := rfl

theorem batch_row (d b : Fin 2) (n : Fin 66) (l : Fin 128) : batch (row d b n l) = b := by
  apply Fin.ext
  rw [batch_val, row_eq]
  split_ifs <;> omega

theorem turn_row (d b : Fin 2) (n : Fin 66) (l : Fin 128) : turn d (row d b n l) = n := by
  apply Fin.ext
  rw [turn_val, row_eq]
  split_ifs <;> omega

theorem lane_row (d b : Fin 2) (n : Fin 66) (l : Fin 128) : lane (row d b n l) = l := by
  apply Fin.ext
  rw [lane_val, row_eq]
  omega

theorem dirPerm_val (d : Fin 2) (l : Fin 128) : (dirPerm d l).val = if d = 0 then l.val else 127 - l.val := by
  unfold dirPerm
  split
  · rfl
  · rw [Fin.revPerm_apply, Fin.val_rev]; omega

theorem dirPerm_dirPerm (d : Fin 2) (l : Fin 128) : dirPerm d (dirPerm d l) = l := by
  apply Fin.ext
  rw [dirPerm_val, dirPerm_val]
  split <;> omega

/-- The row at place `128 n + l` of direction `d`'s order. -/
theorem row_val (d b : Fin 2) (n : Fin 66) (l : Fin 128) : (row d b n (dirPerm d l)).val =
    if n.val * 128 + l.val < 256 then
      16384 + (b.val * 256 + (if d = 0 then n.val * 128 + l.val else 255 - (n.val * 128 + l.val)))
    else b.val * 8192 + (if d = 0 then n.val * 128 + l.val - 256 else 8191 - (n.val * 128 + l.val - 256)) := by
  rw [row_eq, dirPerm_val]
  split_ifs <;> omega

/-- Where direction `d`'s order has a row. -/
theorem place (d : Fin 2) (r : Fin 16896) : (turn d r).val * 128 + (dirPerm d (lane r)).val =
    if r.val < 16384 then 256 + (if d = 0 then r.val % 8192 else 8191 - r.val % 8192)
    else (if d = 0 then (r.val - 16384) % 256 else 255 - (r.val - 16384) % 256) := by
  rw [dirPerm_val, turn_val, lane_val]
  split_ifs <;> omega

end Scan
-- ==== Proof.ScanSpec.lean ====
module

public import proofs.«01_k».proof.Proof.ScanRow
public import Idealize.ShloMosaic.Lib.Pointwise

/-! # The scan's result, stated for both programs: the recurrence over the chunks of each direction, batch row and head -/

@[expose] public section

set_option maxRecDepth 16384
set_option backward.proofsInPublic true

noncomputable section

open Idealize.ShloMosaic

namespace Scan

/-- What token sees what, by direction. -/
def look (d : Fin 2) (l r : Fin 128) : Bool := decide (dirPerm d r ≤ dirPerm d l)

variable (x0 : FVec Ideal ⟨2, ![16896, 4096]⟩ .bf16) (x1 : FVec Ideal ⟨2, ![16896, 32768]⟩ .bf16) (x2 x3 : FVec Ideal ⟨2, ![16896, 32]⟩ .f32)
variable (d b : Fin 2) (h : Fin 8)

/-- What the chunk of turn `n` is given, its tokens numbered as they lie in memory: `x0` holds the queries and, behind them, the
    keys, `x1` the values from column 16384 on, `x2` the input gates, `x3` the running sums of the forget gates. -/
def inpAt (n : Fin 66) : Inp where
  li l := x2 (ix2 (row d b n l) ⟨16 * d.val + h.val, by omega⟩)
  bs l := x3 (ix2 (row d b n l) ⟨16 * d.val + 8 + h.val, by omega⟩)
  q l x := x0 (ix2 (row d b n l) ⟨h.val * 256 + x.val, by omega⟩)
  k l x := x0 (ix2 (row d b n l) ⟨2048 + (h.val * 256 + x.val), by omega⟩)
  v l y := x1 (ix2 (row d b n l) ⟨16384 + (h.val * 512 + y.val), by omega⟩)

/-- The state before turn `n`. -/
def carry : ℕ → St
  | 0 => St.zero
  | n + 1 => next ((inpAt x0 x1 x2 x3 d b h ⟨n % 66, Nat.mod_lt _ (by decide)⟩).bs (dirPerm d 127)) (inpAt x0 x1 x2 x3 d b h ⟨n % 66, Nat.mod_lt _ (by decide)⟩) (carry n)

theorem carry_succ (n : Fin 66) : carry x0 x1 x2 x3 d b h (n.val + 1) =
    next ((inpAt x0 x1 x2 x3 d b h n).bs (dirPerm d 127)) (inpAt x0 x1 x2 x3 d b h n) (carry x0 x1 x2 x3 d b h n.val) := by
  have hn : (⟨n.val % 66, Nat.mod_lt _ (by decide)⟩ : Fin 66) = n := Fin.ext (Nat.mod_eq_of_lt n.isLt)
  rw [carry, hn]

/-- The result at direction `i 0`, row `i 1`, column `i 2`. -/
def result : FVec Ideal ⟨3, ![2, 16896, 4096]⟩ .bf16 := fun i =>
  out (look (i 0)) (inpAt x0 x1 x2 x3 (i 0) (batch (i 1)) ⟨(i 2).val / 512, by have := (i 2).isLt; change _ < 4096 at this; omega⟩ (turn (i 0) (i 1)))
    (carry x0 x1 x2 x3 (i 0) (batch (i 1)) ⟨(i 2).val / 512, by have := (i 2).isLt; change _ < 4096 at this; omega⟩ (turn (i 0) (i 1)).val)
    (lane (i 1)) ⟨(i 2).val % 512, Nat.mod_lt _ (by decide)⟩

theorem result_row (n : Fin 66) (l : Fin 128) (y : Fin 512) (r : Fin 16896) (c : Fin 4096) (hr : r = row d b n l)
    (hc : c.val = h.val * 512 + y.val) :
    result x0 x1 x2 x3 (ix3 d r c) = out (look d) (inpAt x0 x1 x2 x3 d b h n) (carry x0 x1 x2 x3 d b h n.val) l y := by
  have e1 : (⟨c.val / 512, by omega⟩ : Fin 8) = h := Fin.ext (by show c.val / 512 = h.val; omega)
  have e2 : (⟨c.val % 512, Nat.mod_lt _ (by decide)⟩ : Fin 512) = y := Fin.ext (by show c.val % 512 = y.val; omega)
  show out (look d) (inpAt x0 x1 x2 x3 d (batch r) ⟨c.val / 512, _⟩ (turn d r)) (carry x0 x1 x2 x3 d (batch r) ⟨c.val / 512, _⟩ (turn d r).val)
    (lane r) ⟨c.val % 512, _⟩ = _
  rw [e1, e2, hr, batch_row, turn_row, lane_row]

end Scan
-- ==== Proof.ScanBody.lean ====
module

public import proofs.«01_k».proof.Proof.Gen.Kernel5Ideal.Value
public import proofs.«01_k».proof.Proof.ScanPay
public import proofs.«01_k».proof.Proof.ScanSpec
public import Idealize.ShloMosaic.Lib.Pipeline.ValueKit
public import Idealize.ShloMosaic.Lib.Pointwise
public import Idealize.ShloMosaic.Lib.Tactic
public import Idealize.ShloMosaic.Lib.WritesUnit
public import Idealize.ShloMosaic.Lib.WholeRead

/-! # What a grid point of the scan kernel leaves: its output block and the three parts of the state -/

@[expose] public section

set_option maxRecDepth 16384
set_option backward.proofsInPublic true

noncomputable section

open Idealize.ShloMosaic Idealize.ShloMosaic.TcCoe Idealize.SL.Sem
open Idealize.ShloMosaic.Pipeline (Dat)

namespace Scan

open Cert.Kernel5Ideal Cert.Kernel5Ideal.Gen

variable (c : Dev nD) (i : grid0.Coords) (arg4 : Memref sig .tc .vmem S128x256 .bf16) (harg4 : arg4.IsWhole) (arg5 : Memref sig .tc .vmem S128x256 .bf16) (harg5 : arg5.IsWhole) (arg6 : Memref sig .tc .vmem S128x512 .bf16) (harg6 : arg6.IsWhole) (arg7 : Memref sig .tc .vmem S128x32 .f32) (harg7 : arg7.IsWhole) (arg8 : Memref sig .tc .vmem S128x32 .f32) (harg8 : arg8.IsWhole) (arg9 : Memref sig .tc .vmem S32x128 .f32) (harg9 : arg9.IsWhole) (arg10 : Memref sig .tc .vmem S32x128 .f32) (harg10 : arg10.IsWhole) (arg11 : Memref sig .tc .vmem S1x128x512 .bf16) (harg11 : arg11.IsWhole) (arg12 : Memref sig .tc .vmem S256x512 .f32) (harg12 : arg12.IsWhole) (arg13 : Memref sig .tc .vmem S1x256 .f32) (harg13 : arg13.IsWhole) (arg14 : Memref sig .tc .vmem S1x1 .f32) (harg14 : arg14.IsWhole)
  (x0 : Vec Ideal S128x256 .bf16) (x1 : Vec Ideal S128x256 .bf16) (x2 : Vec Ideal S128x512 .bf16) (x3 : Vec Ideal S128x32 .f32) (x4 : Vec Ideal S128x32 .f32) (x5 : Vec Ideal S32x128 .f32) (x6 : Vec Ideal S32x128 .f32) (xs0 : Vec Ideal S256x512 .f32) (xs1 : Vec Ideal S1x256 .f32) (xs2 : Vec Ideal S1x1 .f32)

/-- The row of input gates and the row of running sums the point loads. -/
abbrev rowG : FVec Ideal S1x128 .f32 := k0_pay8 (View.ld x5 (Rect.unit (k0_off1 i) S1x128.size (k0_off1_inb i)))
abbrev rowC : FVec Ideal S1x128 .f32 := k0_pay9 (View.ld x6 (Rect.unit (k0_off2 i) S1x128.size (k0_off2_inb i)))
/-- The running sum over the whole chunk. -/
abbrev tot : FVec Ideal S1x1 .f32 :=
  k0_pay11 (BitVec.ofNat 32 (i 0).val) (rowC i x6) (iota Kind.tc S128x128 32 [1] iota_S128x128_d1_w32)

theorem rowG_at (r : Fin 128) : rowG i x5 (ix2 0 r) = x5 (ix2 (Pay.gcol (i 0) (i 2)) r) := by
  refine (Pay.p8 _ r).trans ?_
  refine View.ld_unit_apply_of x5 _ _ _ _ _ fun a => ?_
  refine Eq.trans ?_ (congrArg (· + _) (congrFun (k0_off1_eq i) a).symm)
  fin_cases a
  · show 16 * (i 0).val + (i 2).val = 16 * (i 0).val + (i 2).val + 0
    rfl
  · show r.val = 0 + r.val; omega

theorem rowC_at (r : Fin 128) : rowC i x6 (ix2 0 r) = x6 (ix2 (Pay.ccol (i 0) (i 2)) r) := by
  refine (Pay.p9 _ r).trans ?_
  refine View.ld_unit_apply_of x6 _ _ _ _ _ fun a => ?_
  refine Eq.trans ?_ (congrArg (· + _) (congrFun (k0_off2_eq i) a).symm)
  fin_cases a
  · show 16 * (i 0).val + 8 + (i 2).val = 16 * (i 0).val + (i 2).val + 8 + 0
    omega
  · show r.val = 0 + r.val; omega

theorem tot_at : tot i x6 (ix2 0 0) = x6 (ix2 (Pay.ccol (i 0) (i 2)) (dirPerm (i 0) 127)) :=
  (Pay.p11 (rowC i x6) (i 0) _ fun x => by pointwise []).trans (rowC_at i x6 _)

/-- The chunk of a grid point. -/
abbrev blk : Inp := Pay.inp (k0_pay6 i x3) (k0_pay7 i x4) x0 x1 x2

theorem tB7 (hc0 : ¬cond0_0 i) : out0_B_7 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 =
    k0_pay19 (k0_pay14 (k0_pay7 i x4) (rowG i x5) (rowC i x6) xs2 (k0_pay10 i)) (k0_pay15 (k0_pay7 i x4) (rowG i x5) (rowC i x6) xs2 (k0_pay10 i)) (k0_pay16 (k0_pay7 i x4) (rowG i x5) (rowC i x6) xs2 (k0_pay10 i) x0 x1) (k0_pay17 (k0_pay7 i x4) (rowG i x5) (rowC i x6) xs2 (k0_pay10 i) x0 x1 x2 xs0) (k0_pay18 x0) xs1 := by
  frame_out
theorem tB0 (hc0 : ¬cond0_0 i) : sout0_B_0 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 = k0_pay24 (k0_pay6 i x3) (k0_pay7 i x4) xs2 (tot i x6) x1 x2 xs0 := by
  frame_out
theorem tB1 (hc0 : ¬cond0_0 i) : sout0_B_1 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 = k0_pay1 (k0_pay22 (k0_pay6 i x3) (k0_pay7 i x4) xs2 (tot i x6)) (k0_pay23 (k0_pay6 i x3) (k0_pay7 i x4) xs2 (tot i x6) x1) xs1 := by
  frame_out
theorem tB2 (hc0 : ¬cond0_0 i) : sout0_B_2 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 = k0_pay2 (k0_pay21 (k0_pay6 i x3) (k0_pay7 i x4) xs2 (tot i x6)) := by
  frame_out
theorem tA7 (hc0 : cond0_0 i) : out0_A_7 c i arg4 harg4 arg5 harg5 arg6 harg6 arg7 harg7 arg8 harg8 arg9 harg9 arg10 harg10 arg11 harg11 arg12 harg12 arg13 harg13 arg14 harg14 hc0 x0 x1 x2 x3 x4 x5 x6 =
    k0_pay19 (k0_pay14 (k0_pay7 i x4) (rowG i x5) (rowC i x6) (k0_pay5 (F := Ideal)) (k0_pay10 i)) (k0_pay15 (k0_pay7 i x4) (rowG i x5) (rowC i x6) (k0_pay5 (F := Ideal)) (k0_pay10 i)) (k0_pay16 (k0_pay7 i x4) (rowG i x5) (rowC i x6) (k0_pay5 (F := Ideal)) (k0_pay10 i) x0 x1) (k0_pay17 (k0_pay7 i x4) (rowG i x5) (rowC i x6) (k0_pay5 (F := Ideal)) (k0_pay10 i) x0 x1 x2 (k0_pay3 (F := Ideal))) (k0_pay18 x0) (k0_pay4 (F := Ideal)) := by
  frame_out
theorem tA0 (hc0 : cond0_0 i) : sout0_A_0 c i arg4 harg4 arg5 harg5 arg6 harg6 arg7 harg7 arg8 harg8 arg9 harg9 arg10 harg10 arg11 harg11 arg12 harg12 arg13 harg13 arg14 harg14 hc0 x0 x1 x2 x3 x4 x5 x6 = k0_pay24 (k0_pay6 i x3) (k0_pay7 i x4) (k0_pay5 (F := Ideal)) (tot i x6) x1 x2 (k0_pay3 (F := Ideal)) := by
  frame_out
theorem tA1 (hc0 : cond0_0 i) : sout0_A_1 c i arg4 harg4 arg5 harg5 arg6 harg6 arg7 harg7 arg8 harg8 arg9 harg9 arg10 harg10 arg11 harg11 arg12 harg12 arg13 harg13 arg14 harg14 hc0 x0 x1 x2 x3 x4 x5 x6 = k0_pay1 (k0_pay22 (k0_pay6 i x3) (k0_pay7 i x4) (k0_pay5 (F := Ideal)) (tot i x6)) (k0_pay23 (k0_pay6 i x3) (k0_pay7 i x4) (k0_pay5 (F := Ideal)) (tot i x6) x1) (k0_pay4 (F := Ideal)) := by
  frame_out
theorem tA2 (hc0 : cond0_0 i) : sout0_A_2 c i arg4 harg4 arg5 harg5 arg6 harg6 arg7 harg7 arg8 harg8 arg9 harg9 arg10 harg10 arg11 harg11 arg12 harg12 arg13 harg13 arg14 harg14 hc0 x0 x1 x2 x3 x4 x5 x6 = k0_pay2 (k0_pay21 (k0_pay6 i x3) (k0_pay7 i x4) (k0_pay5 (F := Ideal)) (tot i x6)) := by
  frame_out

theorem look_eq : Pay.vis (k0_pay10 i) = look (i 0) := by
  funext l r
  exact Pay.p10 l r i

variable (hg : ∀ (a : Fin 32) (r : Fin 128), x5 (ix2 a r) = x3 (ix2 r a)) (hc : ∀ (a : Fin 32) (r : Fin 128), x6 (ix2 a r) = x4 (ix2 r a))

include hg in
theorem hli (r : Fin 128) : rowG i x5 (ix2 0 r) = k0_pay6 i x3 (ix2 r 0) := by
  rw [rowG_at, hg]
  exact (Pay.p6 r i x3).symm

include hc in
theorem hbs (r : Fin 128) : rowC i x6 (ix2 0 r) = k0_pay7 i x4 (ix2 r 0) := by
  rw [rowC_at, hc]
  exact (Pay.p7 r i x4).symm

include hg hc

/-- A later point of a run: the block it writes. -/
theorem outB (hc0 : ¬cond0_0 i) (l : Fin 128) (y : Fin 512) :
    out0_B_7 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2 (ix3 0 l y) = out (look (i 0)) (blk i x0 x1 x2 x3 x4) (Pay.st xs2 xs0 xs1) l y := by
  rw [tB7]
  refine (Pay.out_eq (k0_pay6 i x3) (k0_pay7 i x4) _ _ _ _ _ _ _ _ _ l (hli i x3 x5 hg) (hbs i x4 x6 hc) y).trans ?_
  rw [look_eq]

/-- The state it leaves. -/
theorem stB (hc0 : ¬cond0_0 i) :
    Pay.st (sout0_B_2 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2) (sout0_B_0 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2) (sout0_B_1 c i arg4 harg4 arg5 harg5 arg6 harg6 arg7 harg7 arg8 harg8 arg9 harg9 arg10 harg10 arg11 harg11 arg12 harg12 arg13 harg13 arg14 harg14 hc0 x0 x1 x2 x3 x4 x5 x6 xs0 xs1 xs2) =
      next ((blk i x0 x1 x2 x3 x4).bs (dirPerm (i 0) 127)) (blk i x0 x1 x2 x3 x4) (Pay.st xs2 xs0 xs1) := by
  rw [tB0, tB1, tB2, Pay.next_eq, tot_at]
  refine congrArg (fun e => next e _ _) ?_
  rw [hc]
  exact (Pay.p7 _ i x4).symm

/-- The first point of a run: the block it writes. -/
theorem outA (hc0 : cond0_0 i) (l : Fin 128) (y : Fin 512) :
    out0_A_7 c i arg4 harg4 arg5 harg5 arg6 harg6 arg7 harg7 arg8 harg8 arg9 harg9 arg10 harg10 arg11 harg11 arg12 harg12 arg13 harg13 arg14 harg14 hc0 x0 x1 x2 x3 x4 x5 x6 (ix3 0 l y) = out (look (i 0)) (blk i x0 x1 x2 x3 x4) St.zero l y := by
  rw [tA7]
  refine (Pay.out_eq (k0_pay6 i x3) (k0_pay7 i x4) _ _ _ _ _ _ _ _ _ l (hli i x3 x5 hg) (hbs i x4 x6 hc) y).trans ?_
  rw [look_eq, Pay.zero_eq]

/-- The state it leaves. -/
theorem stA (hc0 : cond0_0 i) :
    Pay.st (sout0_A_2 c i arg4 harg4 arg5 harg5 arg6 harg6 arg7 harg7 arg8 harg8 arg9 harg9 arg10 harg10 arg11 harg11 arg12 harg12 arg13 harg13 arg14 harg14 hc0 x0 x1 x2 x3 x4 x5 x6) (sout0_A_0 c i arg4 harg4 arg5 harg5 arg6 harg6 arg7 harg7 arg8 harg8 arg9 harg9 arg10 harg10 arg11 harg11 arg12 harg12 arg13 harg13 arg14 harg14 hc0 x0 x1 x2 x3 x4 x5 x6) (sout0_A_1 c i arg4 harg4 arg5 harg5 arg6 harg6 arg7 harg7 arg8 harg8 arg9 harg9 arg10 harg10 arg11 harg11 arg12 harg12 arg13 harg13 arg14 harg14 hc0 x0 x1 x2 x3 x4 x5 x6) =
      next ((blk i x0 x1 x2 x3 x4).bs (dirPerm (i 0) 127)) (blk i x0 x1 x2 x3 x4) St.zero := by
  rw [tA0, tA1, tA2, Pay.next_eq, tot_at, Pay.zero_eq]
  refine congrArg (fun e => next e _ _) ?_
  rw [hc]
  exact (Pay.p7 _ i x4).symm

end Scan
-- ==== Proof.ScanGrid.lean ====
module

public import proofs.«01_k».proof.Proof.ScanBody

/-! # The scan kernel's result: at each index the output of one chunk of the recurrence -/

@[expose] public section

set_option maxRecDepth 16384
set_option backward.proofsInPublic true

noncomputable section

open Idealize.ShloMosaic Idealize.ShloMosaic.TcCoe Idealize.SL.Sem
open Idealize.ShloMosaic.Pipeline (Dat)

namespace Scan

open Cert.Kernel5Ideal Cert.Kernel5Ideal.Gen

theorem idx : ∀ t : Fin grid0.N,
    win0_0.index t = ![chunk (grid0.coords t 0) (grid0.coords t 1) (grid0.coords t 3).val, (grid0.coords t 2).val]
    ∧ win0_1.index t = ![chunk (grid0.coords t 0) (grid0.coords t 1) (grid0.coords t 3).val, 8 + (grid0.coords t 2).val]
    ∧ win0_2.index t = ![chunk (grid0.coords t 0) (grid0.coords t 1) (grid0.coords t 3).val, 32 + (grid0.coords t 2).val]
    ∧ win0_3.index t = ![chunk (grid0.coords t 0) (grid0.coords t 1) (grid0.coords t 3).val, 0]
    ∧ win0_4.index t = ![chunk (grid0.coords t 0) (grid0.coords t 1) (grid0.coords t 3).val, 0]
    ∧ win0_5.index t = ![0, chunk (grid0.coords t 0) (grid0.coords t 1) (grid0.coords t 3).val]
    ∧ win0_6.index t = ![0, chunk (grid0.coords t 0) (grid0.coords t 1) (grid0.coords t 3).val]
    ∧ win0_7.index t = ![(grid0.coords t 0).val, chunk (grid0.coords t 0) (grid0.coords t 1) (grid0.coords t 3).val, (grid0.coords t 2).val] := by
  decide +kernel

variable (m : (ℓ : Loc nD τ sig) → Buf (Elt Ideal) ℓ) (c : Dev nD) (t : Fin cfg0.N)

/-- The four arguments as the call finds them. -/
abbrev a0 : FVec Ideal S16896x4096 .bf16 := m ((c : Thread nD τ).loc main_arg0)
abbrev a1 : FVec Ideal S16896x32768 .bf16 := m ((c : Thread nD τ).loc main_arg1)
abbrev a2 : FVec Ideal S16896x32 .f32 := m ((c : Thread nD τ).loc main_arg2)
abbrev a3 : FVec Ideal S16896x32 .f32 := m ((c : Thread nD τ).loc main_arg3)

/-- Direction, batch row, head and turn of a grid point. -/
abbrev gd : Fin 2 := grid0.coords t 0
abbrev gb : Fin 2 := grid0.coords t 1
abbrev gh : Fin 8 := grid0.coords t 2
abbrev gn : Fin 66 := grid0.coords t 3

theorem rd0 (l : Fin 128) (x : Fin 256) : (iblk m c 0 t : FVec Ideal S128x256 .bf16) (ix2 l x) =
    a0 m c (ix2 (row (gd t) (gb t) (gn t) l) ⟨(gh t).val * 256 + x.val, by have := (gh t).isLt; omega⟩) := by
  blk_ext [iblk, V, idx t]
  rfl
theorem rd1 (l : Fin 128) (x : Fin 256) : (iblk m c 1 t : FVec Ideal S128x256 .bf16) (ix2 l x) =
    a0 m c (ix2 (row (gd t) (gb t) (gn t) l) ⟨2048 + ((gh t).val * 256 + x.val), by have := (gh t).isLt; omega⟩) := by
  blk_ext [iblk, V, idx t]
  · rfl
  · change (8 + (gh t).val) * 256 + x.val = _; omega
theorem rd2 (l : Fin 128) (x : Fin 512) : (iblk m c 2 t : FVec Ideal S128x512 .bf16) (ix2 l x) =
    a1 m c (ix2 (row (gd t) (gb t) (gn t) l) ⟨16384 + ((gh t).val * 512 + x.val), by have := (gh t).isLt; omega⟩) := by
  blk_ext [iblk, V, idx t]
  · rfl
  · change (32 + (gh t).val) * 512 + x.val = _; omega
theorem rd3 (l : Fin 128) (x : Fin 32) : (iblk m c 3 t : FVec Ideal S128x32 .f32) (ix2 l x) =
    a2 m c (ix2 (row (gd t) (gb t) (gn t) l) x) := by
  blk_ext [iblk, V, idx t]
  rfl
theorem rd4 (l : Fin 128) (x : Fin 32) : (iblk m c 4 t : FVec Ideal S128x32 .f32) (ix2 l x) =
    a3 m c (ix2 (row (gd t) (gb t) (gn t) l) x) := by
  blk_ext [iblk, V, idx t]
  rfl
theorem tr5 (x : Fin 32) (r : Fin 16896) : (show FVec Ideal S32x16896 .f32 from V m c main_v0) (ix2 x r) = a2 m c (ix2 r x) := by
  entry_read
  pointwise
theorem tr6 (x : Fin 32) (r : Fin 16896) : (show FVec Ideal S32x16896 .f32 from V m c main_v1) (ix2 x r) = a3 m c (ix2 r x) := by
  entry_read
  pointwise
theorem rd5 (l : Fin 128) (x : Fin 32) : (iblk m c 5 t : FVec Ideal S32x128 .f32) (ix2 x l) =
    a2 m c (ix2 (row (gd t) (gb t) (gn t) l) x) := by
  refine Eq.trans ?_ (tr5 m c x _)
  unfold iblk
  blk_ext [idx t]
  rfl
theorem rd6 (l : Fin 128) (x : Fin 32) : (iblk m c 6 t : FVec Ideal S32x128 .f32) (ix2 x l) =
    a3 m c (ix2 (row (gd t) (gb t) (gn t) l) x) := by
  refine Eq.trans ?_ (tr6 m c x _)
  unfold iblk
  blk_ext [idx t]
  rfl

/-- What a grid point is given. -/
abbrev pt : Inp := inpAt (a0 m c) (a1 m c) (a2 m c) (a3 m c) (gd t) (gb t) (gh t) (gn t)

theorem blk_eq : blk (grid0.coords t) (iblk m c 0 t) (iblk m c 1 t) (iblk m c 2 t) (iblk m c 3 t) (iblk m c 4 t) = pt m c t := by
  unfold blk Pay.inp pt inpAt
  congr 1
  · funext l; exact (Pay.p6 l _ _).trans (rd3 m c t l _)
  · funext l; exact (Pay.p7 l _ _).trans (rd4 m c t l _)
  · funext l x; exact rd0 m c t l x
  · funext l x; exact rd1 m c t l x
  · funext l y; exact rd2 m c t l y

theorem hgt (a : Fin 32) (r : Fin 128) : (iblk m c 5 t : FVec Ideal S32x128 .f32) (ix2 a r) = (iblk m c 3 t : FVec Ideal S128x32 .f32) (ix2 r a) :=
  (rd5 m c t r a).trans (rd3 m c t r a).symm
theorem hct (a : Fin 32) (r : Fin 128) : (iblk m c 6 t : FVec Ideal S32x128 .f32) (ix2 a r) = (iblk m c 4 t : FVec Ideal S128x32 .f32) (ix2 r a) :=
  (rd6 m c t r a).trans (rd4 m c t r a).symm

theorem coord : ∀ t : Fin grid0.N, (grid0.coords t 0).val = t.val / 1056 ∧ (grid0.coords t 1).val = t.val / 528 % 2
    ∧ (grid0.coords t 2).val = t.val / 66 % 8 ∧ (grid0.coords t 3).val = t.val % 66 := by
  decide +kernel

end Scan
-- ==== Proof.ScanPoint.lean ====
module

public import proofs.«01_k».proof.Proof.ScanGrid

/-! # The scan kernel's grid points in order: the state they carry and the blocks they write -/

@[expose] public section

set_option maxRecDepth 16384
set_option backward.proofsInPublic true

noncomputable section

open Idealize.ShloMosaic Idealize.ShloMosaic.TcCoe Idealize.SL.Sem
open Idealize.ShloMosaic.Pipeline (Dat)

namespace Scan

open Cert.Kernel5Ideal Cert.Kernel5Ideal.Gen

variable (m : (ℓ : Loc nD τ sig) → Buf (Elt Ideal) ℓ) (c : Dev nD)

/-- The state that turn `n` of a grid point's run finds. -/
abbrev car (t : Fin cfg0.N) : ℕ → St := carry (a0 m c) (a1 m c) (a2 m c) (a3 m c) (gd t) (gb t) (gh t)

/-- The state a grid point leaves. -/
def left (n : ℕ) (h : n < cfg0.N) : St :=
  Pay.st (outsAt0 m c n h).2.2.2 (outsAt0 m c n h).2.1 (outsAt0 m c n h).2.2.1

theorem car_succ (t : Fin cfg0.N) : car m c t ((gn t).val + 1) = next ((pt m c t).bs (dirPerm (gd t) 127)) (pt m c t) (car m c t (gn t).val) :=
  carry_succ _ _ _ _ _ _ _ (gn t)

theorem prev (t : Fin cfg0.N) (h0 : ¬t.val % 66 = 0) (h : t.val - 1 < cfg0.N) :
    car m c ⟨t.val - 1, h⟩ = car m c t ∧ (gn ⟨t.val - 1, h⟩).val + 1 = (gn t).val := by
  have ⟨e0, e1, e2, e3⟩ := coord t
  have ⟨f0, f1, f2, f3⟩ := coord ⟨t.val - 1, h⟩
  have g0 : gd ⟨t.val - 1, h⟩ = gd t := Fin.ext (by rw [gd, gd, e0, f0]; show (t.val - 1) / 1056 = _; omega)
  have g1 : gb ⟨t.val - 1, h⟩ = gb t := Fin.ext (by rw [gb, gb, e1, f1]; show (t.val - 1) / 528 % 2 = _; omega)
  have g2 : gh ⟨t.val - 1, h⟩ = gh t := Fin.ext (by rw [gh, gh, e2, f2]; show (t.val - 1) / 66 % 8 = _; omega)
  refine ⟨?_, ?_⟩
  · unfold car; rw [g0, g1, g2]
  · rw [gn, gn, e3, f3]; show (t.val - 1) % 66 + 1 = _; omega

theorem left_first (t : Fin cfg0.N) (h0 : t.val % 66 = 0) :
    left m c t.val t.isLt = next ((pt m c t).bs (dirPerm (gd t) 127)) (pt m c t) St.zero := by
  unfold left
  rw [outsAt0_A m c t h0, ← blk_eq]
  dsimp only
  exact stA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (hgt m c t) (hct m c t) ((hcond0_0 t).mpr h0)

theorem left_later (t : Fin cfg0.N) (h0 : ¬t.val % 66 = 0) :
    left m c t.val t.isLt = next ((pt m c t).bs (dirPerm (gd t) 127)) (pt m c t) (left m c (t.val - 1) (Nat.lt_of_le_of_lt (Nat.sub_le _ _) t.isLt)) := by
  unfold left
  rw [outsAt0_B m c t h0, ← blk_eq]
  dsimp only
  exact stB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (hgt m c t) (hct m c t) (fun h => h0 ((hcond0_0 t).mp h))

theorem wrote_first (t : Fin cfg0.N) (h0 : t.val % 66 = 0) (l : Fin 128) (y : Fin 512) :
    (outsAt0 m c t.val t.isLt).1 (ix3 0 l y) = out (look (gd t)) (pt m c t) St.zero l y := by
  rw [outsAt0_A m c t h0, ← blk_eq]
  dsimp only
  exact outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (hgt m c t) (hct m c t) ((hcond0_0 t).mpr h0) l y

theorem wrote_later (t : Fin cfg0.N) (h0 : ¬t.val % 66 = 0) (l : Fin 128) (y : Fin 512) :
    (outsAt0 m c t.val t.isLt).1 (ix3 0 l y) =
      out (look (gd t)) (pt m c t) (left m c (t.val - 1) (Nat.lt_of_le_of_lt (Nat.sub_le _ _) t.isLt)) l y := by
  rw [outsAt0_B m c t h0, ← blk_eq]
  dsimp only
  exact outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (hgt m c t) (hct m c t) (fun h => h0 ((hcond0_0 t).mp h)) l y

/-- Every grid point leaves the recurrence's next state. -/
theorem left_eq (n : ℕ) : ∀ h : n < cfg0.N, left m c n h = car m c ⟨n, h⟩ ((gn ⟨n, h⟩).val + 1) := by
  induction n with
  | zero =>
    intro h
    have hz : (gn ⟨0, h⟩).val = 0 := (coord ⟨0, h⟩).2.2.2
    refine (left_first m c ⟨0, h⟩ rfl).trans ?_
    rw [car_succ, hz]; rfl
  | succ n ih =>
    intro h
    rw [car_succ]
    by_cases h0 : (n + 1) % 66 = 0
    · have hz : (gn ⟨n + 1, h⟩).val = 0 := (coord ⟨n + 1, h⟩).2.2.2.trans h0
      refine (left_first m c ⟨n + 1, h⟩ h0).trans ?_
      rw [hz]; rfl
    · have ⟨p1, p2⟩ := prev m c ⟨n + 1, h⟩ h0 (Nat.lt_of_le_of_lt (Nat.sub_le _ _) h)
      refine (left_later m c ⟨n + 1, h⟩ h0).trans ?_
      refine congrArg _ ((ih (Nat.lt_of_succ_lt h)).trans ?_)
      exact (congrFun p1 _).trans (congrArg (car m c ⟨n + 1, h⟩) p2)

/-- Every grid point writes its chunk's output. -/
theorem wrote (t : Fin cfg0.N) (l : Fin 128) (y : Fin 512) :
    (outsAt0 m c t.val t.isLt).1 (ix3 0 l y) = out (look (gd t)) (pt m c t) (car m c t (gn t).val) l y := by
  by_cases h0 : t.val % 66 = 0
  · have hz : (gn t).val = 0 := (coord t).2.2.2.trans h0
    rw [wrote_first m c t h0, hz]; rfl
  · have ⟨p1, p2⟩ := prev m c t h0 (Nat.lt_of_le_of_lt (Nat.sub_le _ _) t.isLt)
    rw [wrote_later m c t h0, left_eq, p1, p2]

/-- The call's result. -/
theorem final : (dats m 0 c).arrAt 7 (cfgs 0).N = result (a0 m c) (a1 m c) (a2 m c) (a3 m c) := by
  refine (dats m 0 c).arrAt_eq_of_covers 7 _ (by decide +kernel) fun t _ y => ?_
  blk_simp
  rw [after0_7]
  idx_vars y
  refine Eq.trans ?_ (show result (a0 m c) (a1 m c) (a2 m c) (a3 m c) (ix3 (gd t) (row (gd t) (gb t) (gn t) y1)
    ⟨(gh t).val * 512 + y2.val, by have := (gh t).isLt; omega⟩) = _ from ?_)
  · rw [result_row _ _ _ _ (gd t) (gb t) (gh t) (gn t) y1 y2 _ _ rfl rfl]
    exact (congrArg (fun y => (outsAt0 m c t.val t.isLt).1 (ix3 y y1 y2)) (Subsingleton.elim y0 0)).trans (wrote m c t y1 y2)
  · symm
    blk_ext [idx t]
    rfl

end Scan
-- ==== Proof.ScanOps.lean ====
module

public import proofs.«01_k».proof.Proof.Gen.Reference5Ideal.Step
public import proofs.«01_k».proof.Proof.Chunk
public import Idealize.ShloMosaic.Lib.Pipeline.ValueKit
public import Idealize.ShloMosaic.Lib.Pointwise
public import Idealize.ShloMosaic.Lib.Claim

/-! # The values one step of the reference's scan computes, read one by one -/

@[expose] public section

set_option maxRecDepth 16384
set_option backward.proofsInPublic true

noncomputable section

open Idealize.ShloMosaic Cert.Reference5Ideal Cert.Reference5Ideal.Step

namespace Scan

/-- What the reference's step `j` is given for direction `z`, batch row `b`, head `h`. -/
def inp (j : Fin 66) (s : State Ideal) (z b : Fin 2) (h : Fin 8) : Inp where
  li l := s.main_v103_3 (ix5 j z b h l)
  bs l := s.main_v103_4 (ix5 j z b h l)
  q l x := s.main_v103_0 (ix6 j z b h l x)
  k l x := s.main_v103_1 (ix6 j z b h l x)
  v l y := s.main_v103_2 (ix6 j z b h l y)

/-- The state the reference carries for direction `z`, batch row `b`, head `h`. -/
def st (s : State Ideal) (z b : Fin 2) (h : Fin 8) : St where
  C x y := s.main_v103_7 (ix5 z b h x y)
  n x := s.main_v103_8 (ix4 z b h x)
  m := s.main_v103_9 (ix3 z b h)

/-- In reading order a token sees itself and what comes before it. -/
def seen (l r : Fin 128) : Bool := decide (r ≤ l)

variable (j : Fin 66) (s : State Ideal) (z b : Fin 2) (h : Fin 8) (l r : Fin 128)

theorem ofBits_neg : Ideal.ofBits .f32 0xFF800000#32 = (⊥ : EReal) := by
  simp [Ideal.ofBits, Ideal.ieee]

theorem b40_at : b40 j s (ix5 z b h l r) =
    b32 j s (ix4 z b h l) - b32 j s (ix4 z b h r) + b26 j s (ix4 z b h r) := by
  pointwise [b40, b39, b38, b37, b36, b35, b34, b33]
theorem v101_at : K_main_v101 (F := Ideal) (ix2 l r) = if seen l r then 1#1 else 0#1 := by
  pointwise [K_main_v101, K_main_v100, K_main_c, K_main_call10_v0, K_main_call10_v1, K_main_call10_v2, K_main_call10_v3, K_main_call10_v4, K_main_call10_v5, K_main_call10_c, K_main_call10_c_0]
  simp only [seen]
  revert l r
  decide +kernel
theorem b45_at : b45 j s (ix5 z b h l r) = if seen l r then b40 j s (ix5 z b h l r) else ⊥ := by
  pointwise [b45, b44, b43, b42, b41]
  rw [v101_at, ofBits_neg]
  cases seen l r <;> rfl
theorem b48_at : b48 j s (ix4 z b h l) = b32 j s (ix4 z b h l) + s.main_v103_9 (ix3 z b h) := by
  pointwise [b48, b47, b46]
theorem b51_at : b51 j s (ix4 z b h l) =
    max (Finset.univ.fold max ⊥ fun r => b45 j s (ix5 z b h l r)) (b48 j s (ix4 z b h l)) := by
  pointwise [b51, b50, b49]
  rw [ofBits_neg]
theorem b55_at : b55 j s (ix5 z b h l r) = Ideal.exp (b45 j s (ix5 z b h l r) - b51 j s (ix4 z b h l)) := by
  pointwise [b55, b54, b53, b52]
theorem b57_at : b57 j s (ix4 z b h l) = Ideal.exp (b48 j s (ix4 z b h l) - b51 j s (ix4 z b h l)) := by
  pointwise [b57, b56]
theorem b59_at : b59 j s (ix5 z b h l r) =
    (∑ x, b6 j s (ix5 z b h l x) * b13 j s (ix5 z b h r x)) * b55 j s (ix5 z b h l r) := by
  pointwise [b59, b58]
theorem b60_at (y : Fin 512) : b60 j s (ix5 z b h l y) =
    ∑ r, b59 j s (ix5 z b h l r) * b20 j s (ix5 z b h r y) := by
  pointwise [b60]
theorem b64_at (y : Fin 512) : b64 j s (ix5 z b h l y) =
    b57 j s (ix4 z b h l) * ∑ x, b6 j s (ix5 z b h l x) * s.main_v103_7 (ix5 z b h x y) := by
  pointwise [b64, b63, b62, b61]
theorem b70_at : b70 j s (ix4 z b h l) =
    (∑ r, b59 j s (ix5 z b h l r)) + b57 j s (ix4 z b h l) * ∑ x, b6 j s (ix5 z b h l x) * s.main_v103_8 (ix4 z b h x) := by
  pointwise [b70, b69, b68, b67, b66]
theorem b77_at (y : Fin 512) : b77 j s (ix5 z b h l y) =
    Ideal.div (b60 j s (ix5 z b h l y) + b64 j s (ix5 z b h l y))
      (max (max (b70 j s (ix4 z b h l)) (-b70 j s (ix4 z b h l))) (Ideal.exp (-b51 j s (ix4 z b h l)))) := by
  pointwise [b77, b76, b75, b74, b73, b72, b71, b65]
  rfl
theorem b79_at : b79 j s (ix3 z b h) = b32 j s (ix4 z b h 127) := by
  pointwise [b79, b78]
theorem b83_at : b83 j s (ix4 z b h l) = b79 j s (ix3 z b h) - b32 j s (ix4 z b h l) + b26 j s (ix4 z b h l) := by
  pointwise [b83, b82, b81, b80]
theorem b87_at : b87 j s (ix3 z b h) =
    max (b79 j s (ix3 z b h) + s.main_v103_9 (ix3 z b h)) (Finset.univ.fold max ⊥ fun l => b83 j s (ix4 z b h l)) := by
  pointwise [b87, b86, b85, b84]
  rw [ofBits_neg]
theorem b90_at : b90 j s (ix3 z b h) =
    Ideal.exp (b79 j s (ix3 z b h) + s.main_v103_9 (ix3 z b h) - b87 j s (ix3 z b h)) := by
  pointwise [b90, b89, b88]
theorem b97_at (x : Fin 256) : b97 j s (ix5 z b h l x) =
    Ideal.exp (b83 j s (ix4 z b h l) - b87 j s (ix3 z b h)) * b13 j s (ix5 z b h l x) := by
  pointwise [b97, b96, b95, b94, b93, b92, b91]
theorem b102_at (x : Fin 256) (y : Fin 512) : b102 j s (ix5 z b h x y) =
    b90 j s (ix3 z b h) * s.main_v103_7 (ix5 z b h x y) +
      ∑ l, b97 j s (ix5 z b h l x) * b20 j s (ix5 z b h l y) := by
  pointwise [b102, b101, b100, b99, b98]
theorem b108_at (x : Fin 256) : b108 j s (ix4 z b h x) =
    b90 j s (ix3 z b h) * s.main_v103_8 (ix4 z b h x) + ∑ l, b97 j s (ix5 z b h l x) := by
  pointwise [b108, b107, b106, b105, b104, b103]

end Scan
-- ==== Proof.ScanStep.lean ====
module

public import proofs.«01_k».proof.Proof.Gen.Reference5Ideal.Step
public import proofs.«01_k».proof.Proof.ScanOps
public import Idealize.ShloMosaic.Lib.DynamicIndex
public import Idealize.ShloMosaic.Lib.WordCmp
public import Idealize.ShloMosaic.Lib.Pipeline.ValueKit
public import Idealize.ShloMosaic.Lib.Pointwise
public import Idealize.ShloMosaic.Lib.Claim

/-! # One step of the reference's scan is one chunk of the recurrence -/

@[expose] public section

set_option maxRecDepth 16384
set_option backward.proofsInPublic true

noncomputable section

open Idealize.ShloMosaic Cert.Reference5Ideal Cert.Reference5Ideal.Step

namespace Scan

variable (j : Fin 66) (s : State Ideal) (z b : Fin 2) (h : Fin 8) (l r : Fin 128)

theorem start_eq (a : Fin 6) (n : Fin 66) :
    ((![constantI S_ 32 (BitVec.ofNat 32 n), constantI S_ 32 0#32, constantI S_ 32 0#32, constantI S_ 32 0#32,
      constantI S_ 32 0#32, constantI S_ 32 0#32] : Fin 6 → (⟨S_, .i32⟩ : BufTy).Contents (Elt Ideal)) a
        (Shape.Idx.first Gen.h_S_)).toInt = ((![n.val, 0, 0, 0, 0, 0] : Fin 6 → ℕ) a : ℤ) := by
  revert a n
  decide +kernel

theorem b5_at (x : Fin 256) : b5 j s (ix6 0 z b h l x) = s.main_v103_0 (ix6 j z b h l x) := by
  unfold b5
  rw [Host.dynamicSlice_eq_extractStridedSlice (off := ![j.val, 0, 0, 0, 0, 0]) (hoff := by revert j; decide +kernel)
    (hs := fun a => start_eq a j)]
  pointwise []
theorem b6_at (x : Fin 256) : b6 j s (ix5 z b h l x) = s.main_v103_0 (ix6 j z b h l x) := by
  pointwise [b6]
  exact b5_at j s z b h l x
theorem b12_at (x : Fin 256) : b12 j s (ix6 0 z b h l x) = s.main_v103_1 (ix6 j z b h l x) := by
  unfold b12
  rw [Host.dynamicSlice_eq_extractStridedSlice (off := ![j.val, 0, 0, 0, 0, 0]) (hoff := by revert j; decide +kernel)
    (hs := fun a => start_eq a j)]
  pointwise []
theorem b13_at (x : Fin 256) : b13 j s (ix5 z b h l x) = s.main_v103_1 (ix6 j z b h l x) := by
  pointwise [b13]
  exact b12_at j s z b h l x
theorem b19_at (y : Fin 512) : b19 j s (ix6 0 z b h l y) = s.main_v103_2 (ix6 j z b h l y) := by
  unfold b19
  rw [Host.dynamicSlice_eq_extractStridedSlice (off := ![j.val, 0, 0, 0, 0, 0]) (hoff := by revert j; decide +kernel)
    (hs := fun a => start_eq a j)]
  pointwise []
theorem b20_at (y : Fin 512) : b20 j s (ix5 z b h l y) = s.main_v103_2 (ix6 j z b h l y) := by
  pointwise [b20]
  exact b19_at j s z b h l y

theorem start5_eq (a : Fin 5) (n : Fin 66) :
    ((![constantI S_ 32 (BitVec.ofNat 32 n), constantI S_ 32 0#32, constantI S_ 32 0#32, constantI S_ 32 0#32,
      constantI S_ 32 0#32] : Fin 5 → (⟨S_, .i32⟩ : BufTy).Contents (Elt Ideal)) a
        (Shape.Idx.first Gen.h_S_)).toInt = ((![n.val, 0, 0, 0, 0] : Fin 5 → ℕ) a : ℤ) := by
  revert a n
  decide +kernel

theorem b25_at : b25 j s (ix5 0 z b h l) = s.main_v103_3 (ix5 j z b h l) := by
  unfold b25
  rw [Host.dynamicSlice_eq_extractStridedSlice (off := ![j.val, 0, 0, 0, 0]) (hoff := by revert j; decide +kernel)
    (hs := fun a => start5_eq a j)]
  pointwise []
theorem b26_at : b26 j s (ix4 z b h l) = s.main_v103_3 (ix5 j z b h l) := by
  pointwise [b26]
  exact b25_at j s z b h l
theorem b31_at : b31 j s (ix5 0 z b h l) = s.main_v103_4 (ix5 j z b h l) := by
  unfold b31
  rw [Host.dynamicSlice_eq_extractStridedSlice (off := ![j.val, 0, 0, 0, 0]) (hoff := by revert j; decide +kernel)
    (hs := fun a => start5_eq a j)]
  pointwise []
theorem b32_at : b32 j s (ix4 z b h l) = s.main_v103_4 (ix5 j z b h l) := by
  pointwise [b32]
  exact b31_at j s z b h l

theorem b109_at (i : Fin 1) (y : Fin 512) : b109 j s (ix6 i z b h l y) = b77 j s (ix5 z b h l y) := by
  pointwise [b109]

theorem b115_at (i : Fin 66) (y : Fin 512) : b115 j s (ix6 i z b h l y) =
    if i = j then b77 j s (ix5 z b h l y) else s.main_v103_10 (ix6 i z b h l y) := by
  unfold b115
  rw [WordCmp.dynamicUpdateSlice_eq_update (k := ![j.val, 0, 0, 0, 0, 0]) (hk := by revert j; decide +kernel)
    (e := fun a => start_eq a j)]
  pointwise []
  by_cases e : i = j
  · subst e
    rw [dif_pos ⟨le_rfl, by omega⟩, if_pos rfl]
    exact b109_at _ _ _ _ _ _ _ _
  · rw [dif_neg fun hh => e (Fin.ext (by omega)), if_neg e]

/-- What the step puts into its slot is the chunk's output. -/
theorem b77_eq (y : Fin 512) :
    b77 j s (ix5 z b h l y) = out seen (inp j s z b h) (st s z b h) l y := by
  have d (l r) : b45 j s (ix5 z b h l r) = dlog seen (inp j s z b h) l r := by
    rw [b45_at, b40_at]; simp only [b32_at, b26_at]; rfl
  have i (l) : b48 j s (ix4 z b h l) = inter (inp j s z b h) (st s z b h) l := by
    rw [b48_at, b32_at]; rfl
  have m (l) : b51 j s (ix4 z b h l) = mpos seen (inp j s z b h) (st s z b h) l := by
    rw [b51_at, i]; simp only [d]; rfl
  have w (l) : b57 j s (ix4 z b h l) = winter seen (inp j s z b h) (st s z b h) l := by
    rw [b57_at, i, m]; rfl
  have c (l r) : b59 j s (ix5 z b h l r) = sc seen (inp j s z b h) (st s z b h) l r := by
    rw [b59_at, b55_at, d, m]; simp only [b6_at, b13_at]; rfl
  rw [b77_at, b60_at, b64_at, b70_at, m, w]
  simp only [c, b6_at, b20_at]
  rfl

/-- The state the step hands on is the chunk's. -/
theorem st_step : st (step j s) z b h = next ((inp j s z b h).bs 127) (inp j s z b h) (st s z b h) := by
  have e : b79 j s (ix3 z b h) = (inp j s z b h).bs 127 := by rw [b79_at, b32_at]; rfl
  have w (l) : b83 j s (ix4 z b h l) = wlog ((inp j s z b h).bs 127) (inp j s z b h) l := by
    rw [b83_at, e, b32_at, b26_at]; rfl
  have m : b87 j s (ix3 z b h) = mnew ((inp j s z b h).bs 127) (inp j s z b h) (st s z b h) := by
    rw [b87_at, e]; simp only [w]; rfl
  have d : b90 j s (ix3 z b h) = decay ((inp j s z b h).bs 127) (inp j s z b h) (st s z b h) := by
    rw [b90_at, e, m]; rfl
  have k (l x) : b97 j s (ix5 z b h l x) = wk ((inp j s z b h).bs 127) (inp j s z b h) (st s z b h) l x := by
    rw [b97_at, w, m, b13_at]; rfl
  unfold st next
  congr 1
  · funext x y
    refine (b102_at j s z b h x y).trans ?_
    rw [d]; simp only [k, b20_at]; rfl
  · funext x
    refine (b108_at j s z b h x).trans ?_
    rw [d]; simp only [k]; rfl

/-- The slots after the step. -/
theorem slot_step (i : Fin 66) (y : Fin 512) : (step j s).main_v103_10 (ix6 i z b h l y) =
    if i = j then out seen (inp j s z b h) (st s z b h) l y else s.main_v103_10 (ix6 i z b h l y) := by
  refine (b115_at j s z b h l i y).trans ?_
  rw [b77_eq]

/-- A step changes no input. -/
theorem inp_step (i : Fin 66) : inp i (step j s) z b h = inp i s z b h := rfl

end Scan
-- ==== Proof.ScanSeq.lean ====
module

public import proofs.«01_k».proof.Proof.ScanStep
public import proofs.«01_k».proof.Proof.ScanRow

/-! # What the reference's scan is given and what it returns, read at one index -/

@[expose] public section

set_option maxRecDepth 16384
set_option backward.proofsInPublic true

noncomputable section

open Idealize.ShloMosaic Cert.Reference5Ideal Cert.Reference5Ideal.Step

namespace Scan.Seq

variable (x0 : FVec Ideal S16896x4096 .bf16) (x1 : FVec Ideal S16896x32768 .bf16) (x2 x3 : FVec Ideal S16896x32 .f32)
/-- A row index under two numberings. -/
theorem pick {a : ℕ} {α : Type} (f : Fin 16896 → Fin a → α) (r r' : Fin 16896) (c c' : Fin a) (hr : r.val = r'.val) (hc : c.val = c'.val) :
    f r c = f r' c' := by
  rw [Fin.ext hr, Fin.ext hc]

variable (j : Fin 66) (z b : Fin 2) (h : Fin 8) (l : Fin 128) (p : Fin 8448)

/-! ## The queries -/

theorem q_fwd (x : Fin 2048) : A_main_v54 (F := Ideal) x0 x1 x2 x3 (ix3 b p x) =
    if h : p.val < 256 then x0 (ix2 ⟨16384 + (b.val * 256 + p.val), by omega⟩ ⟨x.val, by omega⟩)
    else x0 (ix2 ⟨b.val * 8192 + (p.val - 256), by omega⟩ ⟨x.val, by omega⟩) := by
  pointwise [A_main_v54, A_main_v49, A_main_v48, A_main_v47, A_main_v46, A_main_v0]

theorem q_bwd (x : Fin 2048) : A_main_v57 (F := Ideal) x0 x1 x2 x3 (ix3 b p x) =
    if h : p.val < 256 then x0 (ix2 ⟨16384 + (b.val * 256 + (255 - p.val)), by omega⟩ ⟨x.val, by omega⟩)
    else x0 (ix2 ⟨b.val * 8192 + (8191 - (p.val - 256)), by omega⟩ ⟨x.val, by omega⟩) := by
  pointwise [A_main_v57, A_main_v56, A_main_v55, A_main_v53, A_main_v52, A_main_v51, A_main_v50, A_main_v0]
  split <;> refine pick (fun r c => x0 (ix2 r c)) _ _ _ _ ?_ ?_ <;> simp <;> omega

theorem q_both (x : Fin 2048) : A_main_v60 (F := Ideal) x0 x1 x2 x3 (ix4 z b p x) =
    if z = 0 then A_main_v54 (F := Ideal) x0 x1 x2 x3 (ix3 b p x) else A_main_v57 (F := Ideal) x0 x1 x2 x3 (ix3 b p x) := by
  pointwise [A_main_v60, A_main_v59, A_main_v58]
  match z with
  | 0 => rfl
  | 1 => rfl

theorem q_cut (x : Fin 256) : A_main_v63 (F := Ideal) x0 x1 x2 x3 (ix6 j z b h l x) =
    A_main_v60 (F := Ideal) x0 x1 x2 x3 (ix4 z b ⟨j.val * 128 + l.val, by omega⟩ ⟨h.val * 256 + x.val, by omega⟩) := by
  pointwise [A_main_v63, A_main_v62, A_main_v61]

/-- The queries at turn `j`. -/
theorem q_at (x : Fin 256) : A_main_v63 (F := Ideal) x0 x1 x2 x3 (ix6 j z b h l x) = x0 (ix2 (row z b j (dirPerm z l)) ⟨h.val * 256 + x.val, by omega⟩) := by
  have hr := row_val z b j l
  rw [q_cut, q_both, q_fwd, q_bwd]
  match z with
  | 0 =>
    rw [if_pos rfl]
    simp only [if_pos] at hr
    by_cases hp : j.val * 128 + l.val < 256
    · rw [dif_pos hp]; rw [if_pos hp] at hr
      exact pick (fun r c => x0 (ix2 r c)) _ _ _ _ (by simp only []; omega) (by simp)
    · rw [dif_neg hp]; rw [if_neg hp] at hr
      exact pick (fun r c => x0 (ix2 r c)) _ _ _ _ (by simp only []; omega) (by simp)
  | 1 =>
    rw [if_neg (by decide)]
    simp only [show ¬ (1 : Fin 2) = 0 by decide, if_false] at hr
    by_cases hp : j.val * 128 + l.val < 256
    · rw [dif_pos hp]; rw [if_pos hp] at hr
      exact pick (fun r c => x0 (ix2 r c)) _ _ _ _ (by simp only []; omega) (by simp)
    · rw [dif_neg hp]; rw [if_neg hp] at hr
      exact pick (fun r c => x0 (ix2 r c)) _ _ _ _ (by simp only []; omega) (by simp)

/-! ## The keys -/

theorem k_fwd (x : Fin 2048) : A_main_v72 (F := Ideal) x0 x1 x2 x3 (ix3 b p x) =
    if h : p.val < 256 then x0 (ix2 ⟨16384 + (b.val * 256 + p.val), by omega⟩ ⟨2048 + x.val, by omega⟩)
    else x0 (ix2 ⟨b.val * 8192 + (p.val - 256), by omega⟩ ⟨2048 + x.val, by omega⟩) := by
  pointwise [A_main_v72, A_main_v67, A_main_v66, A_main_v65, A_main_v64, A_main_v1]

theorem k_bwd (x : Fin 2048) : A_main_v75 (F := Ideal) x0 x1 x2 x3 (ix3 b p x) =
    if h : p.val < 256 then x0 (ix2 ⟨16384 + (b.val * 256 + (255 - p.val)), by omega⟩ ⟨2048 + x.val, by omega⟩)
    else x0 (ix2 ⟨b.val * 8192 + (8191 - (p.val - 256)), by omega⟩ ⟨2048 + x.val, by omega⟩) := by
  pointwise [A_main_v75, A_main_v74, A_main_v73, A_main_v71, A_main_v70, A_main_v69, A_main_v68, A_main_v1]
  split <;> refine pick (fun r c => x0 (ix2 r c)) _ _ _ _ ?_ ?_ <;> simp <;> omega

theorem k_both (x : Fin 2048) : A_main_v78 (F := Ideal) x0 x1 x2 x3 (ix4 z b p x) =
    if z = 0 then A_main_v72 (F := Ideal) x0 x1 x2 x3 (ix3 b p x) else A_main_v75 (F := Ideal) x0 x1 x2 x3 (ix3 b p x) := by
  pointwise [A_main_v78, A_main_v77, A_main_v76]
  match z with
  | 0 => rfl
  | 1 => rfl

theorem k_cut (x : Fin 256) : A_main_v81 (F := Ideal) x0 x1 x2 x3 (ix6 j z b h l x) =
    A_main_v78 (F := Ideal) x0 x1 x2 x3 (ix4 z b ⟨j.val * 128 + l.val, by omega⟩ ⟨h.val * 256 + x.val, by omega⟩) := by
  pointwise [A_main_v81, A_main_v80, A_main_v79]

/-- The keys at turn `j`. -/
theorem k_at (x : Fin 256) : A_main_v81 (F := Ideal) x0 x1 x2 x3 (ix6 j z b h l x) = x0 (ix2 (row z b j (dirPerm z l)) ⟨2048 + (h.val * 256 + x.val), by omega⟩) := by
  have hr := row_val z b j l
  rw [k_cut, k_both, k_fwd, k_bwd]
  match z with
  | 0 =>
    rw [if_pos rfl]
    simp only [if_pos] at hr
    by_cases hp : j.val * 128 + l.val < 256
    · rw [dif_pos hp]; rw [if_pos hp] at hr
      exact pick (fun r c => x0 (ix2 r c)) _ _ _ _ (by simp only []; omega) (by simp)
    · rw [dif_neg hp]; rw [if_neg hp] at hr
      exact pick (fun r c => x0 (ix2 r c)) _ _ _ _ (by simp only []; omega) (by simp)
  | 1 =>
    rw [if_neg (by decide)]
    simp only [show ¬ (1 : Fin 2) = 0 by decide, if_false] at hr
    by_cases hp : j.val * 128 + l.val < 256
    · rw [dif_pos hp]; rw [if_pos hp] at hr
      exact pick (fun r c => x0 (ix2 r c)) _ _ _ _ (by simp only []; omega) (by simp)
    · rw [dif_neg hp]; rw [if_neg hp] at hr
      exact pick (fun r c => x0 (ix2 r c)) _ _ _ _ (by simp only []; omega) (by simp)

/-! ## The values -/

theorem v_fwd (x : Fin 4096) : A_main_v90 (F := Ideal) x0 x1 x2 x3 (ix3 b p x) =
    if h : p.val < 256 then x1 (ix2 ⟨16384 + (b.val * 256 + p.val), by omega⟩ ⟨16384 + x.val, by omega⟩)
    else x1 (ix2 ⟨b.val * 8192 + (p.val - 256), by omega⟩ ⟨16384 + x.val, by omega⟩) := by
  pointwise [A_main_v90, A_main_v85, A_main_v84, A_main_v83, A_main_v82, A_main_v2]

theorem v_bwd (x : Fin 4096) : A_main_v93 (F := Ideal) x0 x1 x2 x3 (ix3 b p x) =
    if h : p.val < 256 then x1 (ix2 ⟨16384 + (b.val * 256 + (255 - p.val)), by omega⟩ ⟨16384 + x.val, by omega⟩)
    else x1 (ix2 ⟨b.val * 8192 + (8191 - (p.val - 256)), by omega⟩ ⟨16384 + x.val, by omega⟩) := by
  pointwise [A_main_v93, A_main_v92, A_main_v91, A_main_v89, A_main_v88, A_main_v87, A_main_v86, A_main_v2]
  split <;> refine pick (fun r c => x1 (ix2 r c)) _ _ _ _ ?_ ?_ <;> simp <;> omega

theorem v_both (x : Fin 4096) : A_main_v96 (F := Ideal) x0 x1 x2 x3 (ix4 z b p x) =
    if z = 0 then A_main_v90 (F := Ideal) x0 x1 x2 x3 (ix3 b p x) else A_main_v93 (F := Ideal) x0 x1 x2 x3 (ix3 b p x) := by
  pointwise [A_main_v96, A_main_v95, A_main_v94]
  match z with
  | 0 => rfl
  | 1 => rfl

theorem v_cut (x : Fin 512) : A_main_v99 (F := Ideal) x0 x1 x2 x3 (ix6 j z b h l x) =
    A_main_v96 (F := Ideal) x0 x1 x2 x3 (ix4 z b ⟨j.val * 128 + l.val, by omega⟩ ⟨h.val * 512 + x.val, by omega⟩) := by
  pointwise [A_main_v99, A_main_v98, A_main_v97]

/-- The values at turn `j`. -/
theorem v_at (x : Fin 512) : A_main_v99 (F := Ideal) x0 x1 x2 x3 (ix6 j z b h l x) = x1 (ix2 (row z b j (dirPerm z l)) ⟨16384 + (h.val * 512 + x.val), by omega⟩) := by
  have hr := row_val z b j l
  rw [v_cut, v_both, v_fwd, v_bwd]
  match z with
  | 0 =>
    rw [if_pos rfl]
    simp only [if_pos] at hr
    by_cases hp : j.val * 128 + l.val < 256
    · rw [dif_pos hp]; rw [if_pos hp] at hr
      exact pick (fun r c => x1 (ix2 r c)) _ _ _ _ (by simp only []; omega) (by simp)
    · rw [dif_neg hp]; rw [if_neg hp] at hr
      exact pick (fun r c => x1 (ix2 r c)) _ _ _ _ (by simp only []; omega) (by simp)
  | 1 =>
    rw [if_neg (by decide)]
    simp only [show ¬ (1 : Fin 2) = 0 by decide, if_false] at hr
    by_cases hp : j.val * 128 + l.val < 256
    · rw [dif_pos hp]; rw [if_pos hp] at hr
      exact pick (fun r c => x1 (ix2 r c)) _ _ _ _ (by simp only []; omega) (by simp)
    · rw [dif_neg hp]; rw [if_neg hp] at hr
      exact pick (fun r c => x1 (ix2 r c)) _ _ _ _ (by simp only []; omega) (by simp)

/-! ## The input gates -/

theorem li_fwd (x : Fin 8) : A_main_v13 (F := Ideal) x0 x1 x2 x3 (ix3 b p x) =
    if h : p.val < 256 then x2 (ix2 ⟨16384 + (b.val * 256 + p.val), by omega⟩ ⟨x.val, by omega⟩)
    else x2 (ix2 ⟨b.val * 8192 + (p.val - 256), by omega⟩ ⟨x.val, by omega⟩) := by
  pointwise [A_main_v13, A_main_v8, A_main_v7, A_main_v6, A_main_v5, A_main_v3]

theorem li_bwd (x : Fin 8) : A_main_v16 (F := Ideal) x0 x1 x2 x3 (ix3 b p x) =
    if h : p.val < 256 then x2 (ix2 ⟨16384 + (b.val * 256 + (255 - p.val)), by omega⟩ ⟨16 + x.val, by omega⟩)
    else x2 (ix2 ⟨b.val * 8192 + (8191 - (p.val - 256)), by omega⟩ ⟨16 + x.val, by omega⟩) := by
  pointwise [A_main_v16, A_main_v15, A_main_v14, A_main_v12, A_main_v11, A_main_v10, A_main_v9, A_main_v4]
  split <;> refine pick (fun r c => x2 (ix2 r c)) _ _ _ _ ?_ ?_ <;> simp <;> omega

theorem li_both (x : Fin 8) : A_main_v19 (F := Ideal) x0 x1 x2 x3 (ix4 z b p x) =
    if z = 0 then A_main_v13 (F := Ideal) x0 x1 x2 x3 (ix3 b p x) else A_main_v16 (F := Ideal) x0 x1 x2 x3 (ix3 b p x) := by
  pointwise [A_main_v19, A_main_v18, A_main_v17]
  match z with
  | 0 => rfl
  | 1 => rfl

theorem li_cut : A_main_v22 (F := Ideal) x0 x1 x2 x3 (ix5 j z b h l) =
    A_main_v19 (F := Ideal) x0 x1 x2 x3 (ix4 z b ⟨j.val * 128 + l.val, by omega⟩ h) := by
  pointwise [A_main_v22, A_main_v21, A_main_v20]

/-- The input gates at turn `j`. -/
theorem li_at  : A_main_v22 (F := Ideal) x0 x1 x2 x3 (ix5 j z b h l) = x2 (ix2 (row z b j (dirPerm z l)) ⟨16 * z.val + h.val, by omega⟩) := by
  have hr := row_val z b j l
  rw [li_cut, li_both, li_fwd, li_bwd]
  match z with
  | 0 =>
    rw [if_pos rfl]
    simp only [if_pos] at hr
    by_cases hp : j.val * 128 + l.val < 256
    · rw [dif_pos hp]; rw [if_pos hp] at hr
      exact pick (fun r c => x2 (ix2 r c)) _ _ _ _ (by simp only []; omega) (by simp)
    · rw [dif_neg hp]; rw [if_neg hp] at hr
      exact pick (fun r c => x2 (ix2 r c)) _ _ _ _ (by simp only []; omega) (by simp)
  | 1 =>
    rw [if_neg (by decide)]
    simp only [show ¬ (1 : Fin 2) = 0 by decide, if_false] at hr
    by_cases hp : j.val * 128 + l.val < 256
    · rw [dif_pos hp]; rw [if_pos hp] at hr
      exact pick (fun r c => x2 (ix2 r c)) _ _ _ _ (by simp only []; omega) (by simp)
    · rw [dif_neg hp]; rw [if_neg hp] at hr
      exact pick (fun r c => x2 (ix2 r c)) _ _ _ _ (by simp only []; omega) (by simp)

/-! ## The running sums of the forget gates -/

theorem bs_fwd (x : Fin 8) : A_main_v33 (F := Ideal) x0 x1 x2 x3 (ix3 b p x) =
    if h : p.val < 256 then x3 (ix2 ⟨16384 + (b.val * 256 + p.val), by omega⟩ ⟨8 + x.val, by omega⟩)
    else x3 (ix2 ⟨b.val * 8192 + (p.val - 256), by omega⟩ ⟨8 + x.val, by omega⟩) := by
  pointwise [A_main_v33, A_main_v28, A_main_v27, A_main_v26, A_main_v25, A_main_v23]

theorem bs_bwd (x : Fin 8) : A_main_v36 (F := Ideal) x0 x1 x2 x3 (ix3 b p x) =
    if h : p.val < 256 then x3 (ix2 ⟨16384 + (b.val * 256 + (255 - p.val)), by omega⟩ ⟨24 + x.val, by omega⟩)
    else x3 (ix2 ⟨b.val * 8192 + (8191 - (p.val - 256)), by omega⟩ ⟨24 + x.val, by omega⟩) := by
  pointwise [A_main_v36, A_main_v35, A_main_v34, A_main_v32, A_main_v31, A_main_v30, A_main_v29, A_main_v24]
  split <;> refine pick (fun r c => x3 (ix2 r c)) _ _ _ _ ?_ ?_ <;> simp <;> omega

theorem bs_both (x : Fin 8) : A_main_v39 (F := Ideal) x0 x1 x2 x3 (ix4 z b p x) =
    if z = 0 then A_main_v33 (F := Ideal) x0 x1 x2 x3 (ix3 b p x) else A_main_v36 (F := Ideal) x0 x1 x2 x3 (ix3 b p x) := by
  pointwise [A_main_v39, A_main_v38, A_main_v37]
  match z with
  | 0 => rfl
  | 1 => rfl

theorem bs_cut : A_main_v42 (F := Ideal) x0 x1 x2 x3 (ix5 j z b h l) =
    A_main_v39 (F := Ideal) x0 x1 x2 x3 (ix4 z b ⟨j.val * 128 + l.val, by omega⟩ h) := by
  pointwise [A_main_v42, A_main_v41, A_main_v40]

/-- The running sums of the forget gates at turn `j`. -/
theorem bs_at  : A_main_v42 (F := Ideal) x0 x1 x2 x3 (ix5 j z b h l) = x3 (ix2 (row z b j (dirPerm z l)) ⟨16 * z.val + 8 + h.val, by omega⟩) := by
  have hr := row_val z b j l
  rw [bs_cut, bs_both, bs_fwd, bs_bwd]
  match z with
  | 0 =>
    rw [if_pos rfl]
    simp only [if_pos] at hr
    by_cases hp : j.val * 128 + l.val < 256
    · rw [dif_pos hp]; rw [if_pos hp] at hr
      exact pick (fun r c => x3 (ix2 r c)) _ _ _ _ (by simp only []; omega) (by simp)
    · rw [dif_neg hp]; rw [if_neg hp] at hr
      exact pick (fun r c => x3 (ix2 r c)) _ _ _ _ (by simp only []; omega) (by simp)
  | 1 =>
    rw [if_neg (by decide)]
    simp only [show ¬ (1 : Fin 2) = 0 by decide, if_false] at hr
    by_cases hp : j.val * 128 + l.val < 256
    · rw [dif_pos hp]; rw [if_pos hp] at hr
      exact pick (fun r c => x3 (ix2 r c)) _ _ _ _ (by simp only []; omega) (by simp)
    · rw [dif_neg hp]; rw [if_neg hp] at hr
      exact pick (fun r c => x3 (ix2 r c)) _ _ _ _ (by simp only []; omega) (by simp)

end Scan.Seq
-- ==== Proof.ScanOut.lean ====
module

public import proofs.«01_k».proof.Proof.ScanOps
public import proofs.«01_k».proof.Proof.ScanRow

/-! # What the reference returns, read at one index -/

@[expose] public section

set_option maxRecDepth 16384
set_option backward.proofsInPublic true

noncomputable section

open Idealize.ShloMosaic Cert.Reference5Ideal Cert.Reference5Ideal.Gen Cert.Reference5Ideal.Step

namespace Scan.Seq

variable (z b : Fin 2) (r : Fin 16896) (c : Fin 4096) (p : Fin 8448) (X : FVec Ideal S2x2x8448x4096 .f32)

theorem cut_at (hs : FVec Ideal S66x2x2x8x128x512 .f32) :
    shapeCast S2x2x8448x4096 (transpose S2x2x66x128x8x512 [1, 2, 0, 4, 3, 5] hs transposes_S66x2x2x8x128x512_S2x2x66x128x8x512_1_2_0_4_3_5) shapeCasts_S2x2x66x128x8x512_S2x2x8448x4096 (ix4 z b p c)
      = hs (ix6 ⟨p.val / 128, by omega⟩ z b ⟨c.val / 512, by omega⟩ ⟨p.val % 128, by omega⟩ ⟨c.val % 512, by omega⟩) := by
  pointwise

/-- The two parts of each direction's order, latent and context rows. -/
def lat0 : FVec Ideal S2x8192x4096 .f32 := shapeCast S2x8192x4096 (extractStridedSlice S1x2x8192x4096 ![0, 0, 0, 0] (extractStridedSlice S2x2x8192x4096 ![0, 0, 256, 0] X slices_S2x2x8448x4096_S2x2x8192x4096_0_0_256_0) slices_S2x2x8192x4096_S1x2x8192x4096_0_0_0_0) shapeCasts_S1x2x8192x4096_S2x8192x4096
def lat1 : FVec Ideal S2x8192x4096 .f32 := shapeCast S2x8192x4096 (extractStridedSlice S1x2x8192x4096 ![1, 0, 0, 0] (extractStridedSlice S2x2x8192x4096 ![0, 0, 256, 0] X slices_S2x2x8448x4096_S2x2x8192x4096_0_0_256_0) slices_S2x2x8192x4096_S1x2x8192x4096_1_0_0_0) shapeCasts_S1x2x8192x4096_S2x8192x4096
def ctx0 : FVec Ideal S2x256x4096 .f32 := shapeCast S2x256x4096 (extractStridedSlice S1x2x256x4096 ![0, 0, 0, 0] (extractStridedSlice S2x2x256x4096 ![0, 0, 0, 0] X slices_S2x2x8448x4096_S2x2x256x4096_0_0_0_0) slices_S2x2x256x4096_S1x2x256x4096_0_0_0_0) shapeCasts_S1x2x256x4096_S2x256x4096
def ctx1 : FVec Ideal S2x256x4096 .f32 := shapeCast S2x256x4096 (extractStridedSlice S1x2x256x4096 ![1, 0, 0, 0] (extractStridedSlice S2x2x256x4096 ![0, 0, 0, 0] X slices_S2x2x8448x4096_S2x2x256x4096_0_0_0_0) slices_S2x2x256x4096_S1x2x256x4096_1_0_0_0) shapeCasts_S1x2x256x4096_S2x256x4096

theorem lat0_at (i : Fin 8192) : lat0 X (ix3 b i c) = X (ix4 0 b ⟨256 + i.val, by omega⟩ c) := by pointwise [lat0]
theorem lat1_at (i : Fin 8192) : lat1 X (ix3 b i c) = X (ix4 1 b ⟨256 + i.val, by omega⟩ c) := by pointwise [lat1]
theorem ctx0_at (i : Fin 256) : ctx0 X (ix3 b i c) = X (ix4 0 b ⟨i.val, by omega⟩ c) := by pointwise [ctx0]
theorem ctx1_at (i : Fin 256) : ctx1 X (ix3 b i c) = X (ix4 1 b ⟨i.val, by omega⟩ c) := by pointwise [ctx1]

/-- The rows of one direction from its two parts. -/
def rows (A : FVec Ideal S2x8192x4096 .f32) (B : FVec Ideal S2x256x4096 .f32) : FVec Ideal S16896x4096 .f32 :=
  concatenate S16896x4096 0 [⟨S16384x4096, shapeCast _ A shapeCasts_S2x8192x4096_S16384x4096⟩, ⟨S512x4096, shapeCast _ B shapeCasts_S2x256x4096_S512x4096⟩] concatenates_S16384x4096_S512x4096_S16896x4096_d0

theorem rows_at (A : FVec Ideal S2x8192x4096 .f32) (B : FVec Ideal S2x256x4096 .f32) : rows A B (ix2 r c) =
    if h : r.val < 16384 then A (ix3 ⟨r.val / 8192, by omega⟩ ⟨r.val % 8192, by omega⟩ c)
    else B (ix3 ⟨(r.val - 16384) / 256, by omega⟩ ⟨(r.val - 16384) % 256, by omega⟩ c) := by
  pointwise [rows]

theorem revL_at (A : FVec Ideal S2x8192x4096 .f32) (i : Fin 8192) : Host.reverse [1] A (ix3 b i c) = A (ix3 b ⟨8191 - i.val, by omega⟩ c) := by
  pointwise []
  exact congrArg (fun k => A (ix3 b k c)) (Fin.ext (by rw [Fin.val_rev]; show 8192 - (i.val + 1) = 8191 - i.val; omega) : i.rev = ⟨8191 - i.val, _⟩)
theorem revC_at (A : FVec Ideal S2x256x4096 .f32) (i : Fin 256) : Host.reverse [1] A (ix3 b i c) = A (ix3 b ⟨255 - i.val, by omega⟩ c) := by
  pointwise []
  exact congrArg (fun k => A (ix3 b k c)) (Fin.ext (by rw [Fin.val_rev]; show 256 - (i.val + 1) = 255 - i.val; omega) : i.rev = ⟨255 - i.val, _⟩)

/-- Both directions, one behind the other. -/
def both (A B : FVec Ideal S16896x4096 .f32) : FVec Ideal S2x16896x4096 .f32 :=
  concatenate S2x16896x4096 0 [⟨S1x16896x4096, broadcastInDim S1x16896x4096 ![1, 2] bcast_S16896x4096_S1x16896x4096_1_2 A⟩, ⟨S1x16896x4096, broadcastInDim S1x16896x4096 ![1, 2] bcast_S16896x4096_S1x16896x4096_1_2 B⟩] concatenates_S1x16896x4096_S1x16896x4096_S2x16896x4096_d0

theorem both_at (A B : FVec Ideal S16896x4096 .f32) : both A B (ix3 z r c) = if z = 0 then A (ix2 r c) else B (ix2 r c) := by
  pointwise [both]
  match z with
  | 0 => rfl
  | 1 => rfl

theorem split (s : State Ideal) : ∃ X : FVec Ideal S2x2x8448x4096 .f32, X = shapeCast S2x2x8448x4096 (transpose S2x2x66x128x8x512 [1, 2, 0, 4, 3, 5] s.main_v103_10 transposes_S66x2x2x8x128x512_S2x2x66x128x8x512_1_2_0_4_3_5) shapeCasts_S2x2x66x128x8x512_S2x2x8448x4096 ∧
    R_main_v127 s = truncf .bf16 (both (rows (lat0 X) (ctx0 X)) (rows (Host.reverse [1] (lat1 X)) (Host.reverse [1] (ctx1 X)))) bitsLt_bf16_f32 :=
  ⟨_, rfl, rfl⟩

theorem cut_place (hs : FVec Ideal S66x2x2x8x128x512 .f32) (n : Fin 66) (l : Fin 128) (hp : p.val = n.val * 128 + l.val) :
    shapeCast S2x2x8448x4096 (transpose S2x2x66x128x8x512 [1, 2, 0, 4, 3, 5] hs transposes_S66x2x2x8x128x512_S2x2x66x128x8x512_1_2_0_4_3_5) shapeCasts_S2x2x66x128x8x512_S2x2x8448x4096 (ix4 z b p c)
      = hs (ix6 n z b ⟨c.val / 512, by omega⟩ l ⟨c.val % 512, by omega⟩) := by
  have e1 : (⟨p.val / 128, by omega⟩ : Fin 66) = n := Fin.ext (by show p.val / 128 = n.val; omega)
  have e2 : (⟨p.val % 128, by omega⟩ : Fin 128) = l := Fin.ext (by show p.val % 128 = l.val; omega)
  rw [cut_at, e1, e2]

/-- The result at direction `z`, row `r`, column `c`: the slot of the turn at which that direction reads the row. -/
theorem result_at (s : State Ideal) : (R_main_v127 s (ix3 z r c) : EReal) =
    s.main_v103_10 (ix6 (turn z r) z (batch r) ⟨c.val / 512, by omega⟩ (dirPerm z (lane r)) ⟨c.val % 512, by omega⟩) := by
  obtain ⟨X, hX, hR⟩ := split s
  have hb := batch_val r
  have hp := place z r
  rw [hR]
  refine Eq.trans (show _ = both (rows (lat0 X) (ctx0 X)) (rows (Host.reverse [1] (lat1 X)) (Host.reverse [1] (ctx1 X))) (ix3 z r c) from rfl) ?_
  rw [both_at]
  match z with
  | 0 =>
    rw [if_pos rfl, rows_at]
    simp only [if_pos] at hp
    by_cases h : r.val < 16384
    · rw [dif_pos h, lat0_at, show (⟨r.val / 8192, _⟩ : Fin 2) = batch r from Fin.ext (by rw [hb, if_pos h]), hX]
      exact cut_place 0 _ c _ _ _ _ (by rw [hp, if_pos h])
    · rw [dif_neg h, ctx0_at, show (⟨(r.val - 16384) / 256, _⟩ : Fin 2) = batch r from Fin.ext (by rw [hb, if_neg h]), hX]
      exact cut_place 0 _ c _ _ _ _ (by rw [hp, if_neg h])
  | 1 =>
    rw [if_neg (by decide), rows_at]
    simp only [show ¬ (1 : Fin 2) = 0 by decide, if_false] at hp
    by_cases h : r.val < 16384
    · rw [dif_pos h, revL_at, lat1_at, show (⟨r.val / 8192, _⟩ : Fin 2) = batch r from Fin.ext (by rw [hb, if_pos h]), hX]
      exact cut_place 1 _ c _ _ _ _ (by rw [hp, if_pos h])
    · rw [dif_neg h, revC_at, ctx1_at, show (⟨(r.val - 16384) / 256, _⟩ : Fin 2) = batch r from Fin.ext (by rw [hb, if_neg h]), hX]
      exact cut_place 1 _ c _ _ _ _ (by rw [hp, if_neg h])

end Scan.Seq
-- ==== Proof.ScanIter.lean ====
module

public import proofs.«01_k».proof.Proof.ScanStep
public import proofs.«01_k».proof.Proof.ScanSpec
public import proofs.«01_k».proof.Proof.ScanSeq
public import proofs.«01_k».proof.Proof.ScanOut

/-! # The reference's 66 steps: the recurrence, and every step's output in its slot -/

@[expose] public section

set_option maxRecDepth 16384
set_option backward.proofsInPublic true

noncomputable section

open Idealize.ShloMosaic Cert.Reference5Ideal Cert.Reference5Ideal.Step

namespace Scan

variable (x0 : FVec Ideal S16896x4096 .bf16) (x1 : FVec Ideal S16896x32768 .bf16) (x2 x3 : FVec Ideal S16896x32 .f32)

/-- The states of the reference's scan, one by one. -/
def iter : ℕ → State Ideal
  | 0 => Step.init (F := Ideal) x0 x1 x2 x3
  | n + 1 => Step.step n (iter n)

variable (z b : Fin 2) (h : Fin 8)

/-- Step `j` of the reference is given the chunk of turn `j`, its tokens in reading order. -/
theorem inp_init (j : Fin 66) : inp j (Step.init (F := Ideal) x0 x1 x2 x3) z b h = (inpAt x0 x1 x2 x3 z b h j).map (dirPerm z) := by
  unfold inp Inp.map inpAt
  congr 1
  · funext l; exact Seq.li_at x0 x1 x2 x3 j z b h l
  · funext l; exact Seq.bs_at x0 x1 x2 x3 j z b h l
  · funext l x; exact Seq.q_at x0 x1 x2 x3 j z b h l x
  · funext l x; exact Seq.k_at x0 x1 x2 x3 j z b h l x
  · funext l y; exact Seq.v_at x0 x1 x2 x3 j z b h l y

theorem inp_iter (j : Fin 66) (n : ℕ) : inp j (iter x0 x1 x2 x3 n) z b h = (inpAt x0 x1 x2 x3 z b h j).map (dirPerm z) := by
  induction n with
  | zero => exact inp_init x0 x1 x2 x3 z b h j
  | succ n ih => exact ih

theorem st_init : st (Step.init (F := Ideal) x0 x1 x2 x3) z b h = St.zero := by
  unfold st St.zero
  congr 1
  · funext x y
    show K_main_v43 (F := Ideal) (ix5 z b h x y) = (0 : EReal)
    pointwise [K_main_v43, K_main_cst]
  · funext x
    show K_main_v44 (F := Ideal) (ix4 z b h x) = (0 : EReal)
    pointwise [K_main_v44, K_main_cst_0]
  · show K_main_v45 (F := Ideal) (ix3 z b h) = (0 : EReal)
    pointwise [K_main_v45, K_main_cst_1]

theorem st_iter (n : ℕ) : n ≤ 66 → st (iter x0 x1 x2 x3 n) z b h = carry x0 x1 x2 x3 z b h n := by
  induction n with
  | zero => intro _; exact st_init x0 x1 x2 x3 z b h
  | succ n ih =>
    intro hn
    refine (st_step ⟨n, hn⟩ (iter x0 x1 x2 x3 n) z b h).trans ?_
    rw [inp_iter, ih (Nat.le_of_succ_le hn), next_map]
    exact (carry_succ x0 x1 x2 x3 z b h ⟨n, hn⟩).symm

theorem out_dir (I : Inp) (S : St) (l : Fin 128) (y : Fin 512) : out seen (I.map (dirPerm z)) S l y = out (look z) I S (dirPerm z l) y := by
  refine Eq.trans ?_ (out_map (look z) I S (dirPerm z) l y)
  refine congrArg (fun v => out v (I.map (dirPerm z)) S l y) ?_
  funext l r
  unfold seen look
  rw [dirPerm_dirPerm, dirPerm_dirPerm]

/-- After more than `j` steps slot `j` holds the output of step `j`. -/
theorem slot_iter (j : Fin 66) (l : Fin 128) (y : Fin 512) (n : ℕ) : n ≤ 66 → j.val < n → (iter x0 x1 x2 x3 n).main_v103_10 (ix6 j z b h l y) =
    out (look z) (inpAt x0 x1 x2 x3 z b h j) (carry x0 x1 x2 x3 z b h j.val) (dirPerm z l) y := by
  induction n with
  | zero => intro _ hj; exact absurd hj (Nat.not_lt_zero _)
  | succ n ih =>
    intro hn hj
    refine (slot_step ⟨n, hn⟩ (iter x0 x1 x2 x3 n) z b h l j y).trans ?_
    by_cases hjn : j = ⟨n, hn⟩
    · rw [if_pos hjn, inp_iter, st_iter x0 x1 x2 x3 z b h n (Nat.le_of_succ_le hn), out_dir, hjn]
    · rw [if_neg hjn]
      exact ih (Nat.le_of_succ_le hn) (lt_of_le_of_ne (Nat.lt_succ_iff.mp hj) fun e => hjn (Fin.ext e))

/-- The reference's result. -/
theorem ref_result : R_main_v127 (iter x0 x1 x2 x3 66) = result x0 x1 x2 x3 := by
  funext i
  idx_vars i
  refine (Seq.result_at i0 i1 i2 _).trans ?_
  rw [slot_iter x0 x1 x2 x3 _ _ _ _ _ _ 66 le_rfl (turn i0 i1).isLt, dirPerm_dirPerm]
  rfl

end Scan
-- ==== Proof.ScanRun.lean ====
module

public import proofs.«01_k».proof.Proof.Gen.Reference5Ideal.Run
public import proofs.«01_k».proof.Proof.Gen.Reference5Ideal.Step

/-! # The reference's scan, trip by trip

The memory at the head of a trip holds a state: what is carried, what was set up before the loop, and the trip's number.
Each value of a trip is the value of that name of `Step`, one lemma each, in the order they are computed; so one trip keeps
the memory holding, with `step` applied to the state.  Last comes the run: the result is read off state 66. -/

@[expose] public section

noncomputable section

namespace Scan.Hold

open Idealize.ShloMosaic Idealize.ShloMosaic.TcCoe Idealize.SL.Sem Idealize.ShloMosaic.StableHlo
open Cert.Reference5Ideal Cert.Reference5Ideal.Gen Cert.Reference5Ideal.Value
open Cert.Reference5Ideal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v103_7) = s.main_v103_7
  f_8 : V0 (Proc.devRef .tc main_v103_8) = s.main_v103_8
  f_9 : V0 (Proc.devRef .tc main_v103_9) = s.main_v103_9
  f_10 : V0 (Proc.devRef .tc main_v103_10) = s.main_v103_10
  f_0 : V0 (Proc.devRef .tc main_v103_0) = s.main_v103_0
  f_1 : V0 (Proc.devRef .tc main_v103_1) = s.main_v103_1
  f_2 : V0 (Proc.devRef .tc main_v103_2) = s.main_v103_2
  f_3 : V0 (Proc.devRef .tc main_v103_3) = s.main_v103_3
  f_4 : V0 (Proc.devRef .tc main_v103_4) = s.main_v103_4
  n_6 : V0 (Proc.devRef .tc main_v103_6) = constantI S_ 32 (BitVec.ofNat 32 j)
  k_5 : V0 (Proc.devRef .tc main_v103_5) = Cert.Reference5Ideal.Step.K_main_v101 (F := F)

variable {V0 s j}

set_option maxRecDepth 8192 in
theorem al_0 (h : Holds V0 s j) : (constantI S_ 32 0#32 : (Proc.devRef .tc main_while0b_call11_c : DevRef τ sig).ty.Contents (Elt F)) = Cert.Reference5Ideal.Step.b0 j s := by
  unfold Cert.Reference5Ideal.Step.b0
  rfl
set_option maxRecDepth 8192 in
theorem al_1 (h : Holds V0 s j) : (constantI S_ 32 0#32 : (Proc.devRef .tc main_while0b_call11_c_0 : DevRef τ sig).ty.Contents (Elt F)) = Cert.Reference5Ideal.Step.b1 j s := by
  unfold Cert.Reference5Ideal.Step.b1
  rfl
set_option maxRecDepth 8192 in
theorem al_2 (h : Holds V0 s j) : (constantI S_ 32 0#32 : (Proc.devRef .tc main_while0b_call11_c_1 : DevRef τ sig).ty.Contents (Elt F)) = Cert.Reference5Ideal.Step.b2 j s := by
  unfold Cert.Reference5Ideal.Step.b2
  rfl
set_option maxRecDepth 8192 in
theorem al_3 (h : Holds V0 s j) : (constantI S_ 32 0#32 : (Proc.devRef .tc main_while0b_call11_c_2 : DevRef τ sig).ty.Contents (Elt F)) = Cert.Reference5Ideal.Step.b3 j s := by
  unfold Cert.Reference5Ideal.Step.b3
  rfl
set_option maxRecDepth 8192 in
theorem al_4 (h : Holds V0 s j) : (constantI S_ 32 0#32 : (Proc.devRef .tc main_while0b_call11_c_3 : DevRef τ sig).ty.Contents (Elt F)) = Cert.Reference5Ideal.Step.b4 j s := by
  unfold Cert.Reference5Ideal.Step.b4
  rfl
set_option maxRecDepth 8192 in
theorem al_5 (h : Holds V0 s j) : (Host.dynamicSlice S1x2x2x8x128x256 (V0 (Proc.devRef .tc main_v103_0)) (fun k => (((![V0 (Proc.devRef .tc main_v103_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S66x2x2x8x128x256_S1x2x2x8x128x256 : (Proc.devRef .tc main_while0b_call11_v0 : DevRef τ sig).ty.Contents (Elt F)) = Cert.Reference5Ideal.Step.b5 j s := by
  unfold Cert.Reference5Ideal.Step.b5
  rw [← al_0 h, ← al_1 h, ← al_2 h, ← al_3 h, ← al_4 h, h.f_0, h.n_6]
  try rfl
set_option maxRecDepth 8192 in
theorem al_6 (h : Holds V0 s j) : (res_main_while0b_v128 V0 : (Proc.devRef .tc main_while0b_v128 : DevRef τ sig).ty.Contents (Elt F)) = Cert.Reference5Ideal.Step.b6 j s := by
  unfold res_main_while0b_v128 Cert.Reference5Ideal.Step.b6
  rw [← al_5 h]
  try rfl
set_option maxRecDepth 8192 in
theorem al_7 (h : Holds V0 s j) : (constantI S_ 32 0#32 : (Proc.devRef .tc main_while0b_call12_c : DevRef τ sig).ty.Contents (Elt F)) = Cert.Reference5Ideal.Step.b7 j s := by
  unfold Cert.Reference5Ideal.Step.b7
  rfl
set_option maxRecDepth 8192 in
theorem al_8 (h : Holds V0 s j) : (constantI S_ 32 0#32 : (Proc.devRef .tc main_while0b_call12_c_0 : DevRef τ sig).ty.Contents (Elt F)) = Cert.Reference5Ideal.Step.b8 j s := by
  unfold Cert.Reference5Ideal.Step.b8
  rfl
set_option maxRecDepth 8192 in
theorem al_9 (h : Holds V0 s j) : (constantI S_ 32 0#32 : (Proc.devRef .tc main_while0b_call12_c_1 : DevRef τ sig).ty.Contents (Elt F)) = Cert.Reference5Ideal.Step.b9 j s := by
  unfold Cert.Reference5Ideal.Step.b9
  rfl
set_option maxRecDepth 8192 in
theorem al_10 (h : Holds V0 s j) : (constantI S_ 32 0#32 : (Proc.devRef .tc main_while0b_call12_c_2 : DevRef τ sig).ty.Contents (Elt F)) = Cert.Reference5Ideal.Step.b10 j s := by
  unfold Cert.Reference5Ideal.Step.b10
  rfl
set_option maxRecDepth 8192 in
theorem al_11 (h : Holds V0 s j) : (constantI S_ 32 0#32 : (Proc.devRef .tc main_while0b_call12_c_3 : DevRef τ sig).ty.Contents (Elt F)) = Cert.Reference5Ideal.Step.b11 j s := by
  unfold Cert.Reference5Ideal.Step.b11
  rfl
set_option maxRecDepth 8192 in
theorem al_12 (h : Holds V0 s j) : (Host.dynamicSlice S1x2x2x8x128x256 (V0 (Proc.devRef .tc main_v103_1)) (fun k => (((![V0 (Proc.devRef .tc main_v103_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S66x2x2x8x128x256_S1x2x2x8x128x256 : (Proc.devRef .tc main_while0b_call12_v0 : DevRef τ sig).ty.Contents (Elt F)) = Cert.Reference5Ideal.Step.b12 j s := by
  unfold Cert.Reference5Ideal.Step.b12
  rw [← al_7 h, ← al_8 h, ← al_9 h, ← al_10 h, ← al_11 h, h.f_1, h.n_6]
  try rfl
set_option maxRecDepth 8192 in
theorem al_13 (h : Holds V0 s j) : (res_main_while0b_v129 V0 : (Proc.devRef .tc main_while0b_v129 : DevRef τ sig).ty.Contents (Elt F)) = Cert.Reference5Ideal.Step.b13 j s := by
  unfold res_main_while0b_v129 Cert.Reference5Ideal.Step.b13
  rw [← al_12 h]
  try rfl
set_option maxRecDepth 8192 in
theorem al_14 (h : Holds V0 s j) : (constantI S_ 32 0#32 : (Proc.devRef .tc main_while0b_call13_c : DevRef τ sig).ty.Contents (Elt F)) = Cert.Reference5Ideal.Step.b14 j s := by
  unfold Cert.Reference5Ideal.Step.b14
  rfl
set_option maxRecDepth 8192 in
theorem al_15 (h : Holds V0 s j) : (constantI S_ 32 0#32 : (Proc.devRef .tc main_while0b_call13_c_0 : DevRef τ sig).ty.Contents (Elt F)) = Cert.Reference5Ideal.Step.b15 j s := by
  unfold Cert.Reference5Ideal.Step.b15
  rfl
set_option maxRecDepth 8192 in
theorem al_16 (h : Holds V0 s j) : (constantI S_ 32 0#32 : (Proc.devRef .tc main_while0b_call13_c_1 : DevRef τ sig).ty.Contents (Elt F)) = Cert.Reference5Ideal.Step.b16 j s := by
  unfold Cert.Reference5Ideal.Step.b16
  rfl
set_option maxRecDepth 8192 in
theorem al_17 (h : Holds V0 s j) : (constantI S_ 32 0#32 : (Proc.devRef .tc main_while0b_call13_c_2 : DevRef τ sig).ty.Contents (Elt F)) = Cert.Reference5Ideal.Step.b17 j s := by
  unfold Cert.Reference5Ideal.Step.b17
  rfl
set_option maxRecDepth 8192 in
theorem al_18 (h : Holds V0 s j) : (constantI S_ 32 0#32 : (Proc.devRef .tc main_while0b_call13_c_3 : DevRef τ sig).ty.Contents (Elt F)) = Cert.Reference5Ideal.Step.b18 j s := by
  unfold Cert.Reference5Ideal.Step.b18
  rfl
set_option maxRecDepth 8192 in
theorem al_19 (h : Holds V0 s j) : (Host.dynamicSlice S1x2x2x8x128x512 (V0 (Proc.devRef .tc main_v103_2)) (fun k => (((![V0 (Proc.devRef .tc main_v103_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S66x2x2x8x128x512_S1x2x2x8x128x512 : (Proc.devRef .tc main_while0b_call13_v0 : DevRef τ sig).ty.Contents (Elt F)) = Cert.Reference5Ideal.Step.b19 j s := by
  unfold Cert.Reference5Ideal.Step.b19
  rw [← al_14 h, ← al_15 h, ← al_16 h, ← al_17 h, ← al_18 h, h.f_2, h.n_6]
  try rfl
set_option maxRecDepth 8192 in
theorem al_20 (h : Holds V0 s j) : (res_main_while0b_v130 V0 : (Proc.devRef .tc main_while0b_v130 : DevRef τ sig).ty.Contents (Elt F)) = Cert.Reference5Ideal.Step.b20 j s := by
  unfold res_main_while0b_v130 Cert.Reference5Ideal.Step.b20
  rw [← al_19 h]
  try rfl
set_option maxRecDepth 8192 in
theorem al_21 (h : Holds V0 s j) : (constantI S_ 32 0#32 : (Proc.devRef .tc main_while0b_call14_c : DevRef τ sig).ty.Contents (Elt F)) = Cert.Reference5Ideal.Step.b21 j s := by
  unfold Cert.Reference5Ideal.Step.b21
  rfl
set_option maxRecDepth 8192 in
theorem al_22 (h : Holds V0 s j) : (constantI S_ 32 0#32 : (Proc.devRef .tc main_while0b_call14_c_0 : DevRef τ sig).ty.Contents (Elt F)) = Cert.Reference5Ideal.Step.b22 j s := by
  unfold Cert.Reference5Ideal.Step.b22
  rfl
set_option maxRecDepth 8192 in
theorem al_23 (h : Holds V0 s j) : (constantI S_ 32 0#32 : (Proc.devRef .tc main_while0b_call14_c_1 : DevRef τ sig).ty.Contents (Elt F)) = Cert.Reference5Ideal.Step.b23 j s := by
  unfold Cert.Reference5Ideal.Step.b23
  rfl
set_option maxRecDepth 8192 in
theorem al_24 (h : Holds V0 s j) : (constantI S_ 32 0#32 : (Proc.devRef .tc main_while0b_call14_c_2 : DevRef τ sig).ty.Contents (Elt F)) = Cert.Reference5Ideal.Step.b24 j s := by
  unfold Cert.Reference5Ideal.Step.b24
  rfl
set_option maxRecDepth 8192 in
theorem al_25 (h : Holds V0 s j) : (Host.dynamicSlice S1x2x2x8x128 (V0 (Proc.devRef .tc main_v103_3)) (fun k => (((![V0 (Proc.devRef .tc main_v103_6), constantI S_ 32 0#32, constantI S_ 32 0#32, constantI S_ 32 0#32, constantI S_ 32 0#32] : Fin 5 → (⟨S_, .i32⟩ : BufTy).Contents (Elt F))) k (Shape.Idx.first h_S_)).toInt) sliceFits_S66x2x2x8x128_S1x2x2x8x128 : (Proc.devRef .tc main_while0b_call14_v0 : DevRef τ sig).ty.Contents (Elt F)) = Cert.Reference5Ideal.Step.b25 j s := by
  unfold Cert.Reference5Ideal.Step.b25
  rw [← al_21 h, ← al_22 h, ← al_23 h, ← al_24 h, h.f_3, h.n_6]
  try rfl
set_option maxRecDepth 8192 in
theorem al_26 (h : Holds V0 s j) : (res_main_while0b_v131 V0 : (Proc.devRef .tc main_while0b_v131 : DevRef τ sig).ty.Contents (Elt F)) = Cert.Reference5Ideal.Step.b26 j s := by
  unfold res_main_while0b_v131 Cert.Reference5Ideal.Step.b26
  rw [← al_25 h]
  try rfl
set_option maxRecDepth 8192 in
theorem al_27 (h : Holds V0 s j) : (constantI S_ 32 0#32 : (Proc.devRef .tc main_while0b_call15_c : DevRef τ sig).ty.Contents (Elt F)) = Cert.Reference5Ideal.Step.b27 j s := by
  unfold Cert.Reference5Ideal.Step.b27
  rfl
set_option maxRecDepth 8192 in
theorem al_28 (h : Holds V0 s j) : (constantI S_ 32 0#32 : (Proc.devRef .tc main_while0b_call15_c_0 : DevRef τ sig).ty.Contents (Elt F)) = Cert.Reference5Ideal.Step.b28 j s := by
  unfold Cert.Reference5Ideal.Step.b28
  rfl
set_option maxRecDepth 8192 in
theorem al_29 (h : Holds V0 s j) : (constantI S_ 32 0#32 : (Proc.devRef .tc main_while0b_call15_c_1 : DevRef τ sig).ty.Contents (Elt F)) = Cert.Reference5Ideal.Step.b29 j s := by
  unfold Cert.Reference5Ideal.Step.b29
  rfl
set_option maxRecDepth 8192 in
theorem al_30 (h : Holds V0 s j) : (constantI S_ 32 0#32 : (Proc.devRef .tc main_while0b_call15_c_2 : DevRef τ sig).ty.Contents (Elt F)) = Cert.Reference5Ideal.Step.b30 j s := by
  unfold Cert.Reference5Ideal.Step.b30
  rfl
set_option maxRecDepth 8192 in
theorem al_31 (h : Holds V0 s j) : (Host.dynamicSlice S1x2x2x8x128 (V0 (Proc.devRef .tc main_v103_4)) (fun k => (((![V0 (Proc.devRef .tc main_v103_6), constantI S_ 32 0#32, constantI S_ 32 0#32, constantI S_ 32 0#32, constantI S_ 32 0#32] : Fin 5 → (⟨S_, .i32⟩ : BufTy).Contents (Elt F))) k (Shape.Idx.first h_S_)).toInt) sliceFits_S66x2x2x8x128_S1x2x2x8x128 : (Proc.devRef .tc main_while0b_call15_v0 : DevRef τ sig).ty.Contents (Elt F)) = Cert.Reference5Ideal.Step.b31 j s := by
  unfold Cert.Reference5Ideal.Step.b31
  rw [← al_27 h, ← al_28 h, ← al_29 h, ← al_30 h, h.f_4, h.n_6]
  try rfl
set_option maxRecDepth 8192 in
theorem al_32 (h : Holds V0 s j) : (res_main_while0b_v132 V0 : (Proc.devRef .tc main_while0b_v132 : DevRef τ sig).ty.Contents (Elt F)) = Cert.Reference5Ideal.Step.b32 j s := by
  unfold res_main_while0b_v132 Cert.Reference5Ideal.Step.b32
  rw [← al_31 h]
  try rfl
set_option maxRecDepth 8192 in
theorem al_33 (h : Holds V0 s j) : (broadcastInDim S2x2x8x128x1 ![0, 1, 2, 3] bcast_S2x2x8x128_S2x2x8x128x1_0_1_2_3 (res_main_while0b_v132 V0) : (Proc.devRef .tc main_while0b_v133 : DevRef τ sig).ty.Contents (Elt F)) = Cert.Reference5Ideal.Step.b33 j s := by
  unfold Cert.Reference5Ideal.Step.b33
  rw [← al_32 h]
  try rfl
set_option maxRecDepth 8192 in
theorem al_34 (h : Holds V0 s j) : (broadcastInDim S2x2x8x1x128 ![0, 1, 2, 4] bcast_S2x2x8x128_S2x2x8x1x128_0_1_2_4 (res_main_while0b_v132 V0) : (Proc.devRef .tc main_while0b_v134 : DevRef τ sig).ty.Contents (Elt F)) = Cert.Reference5Ideal.Step.b34 j s := by
  unfold Cert.Reference5Ideal.Step.b34
  rw [← al_32 h]
  try rfl
set_option maxRecDepth 8192 in
theorem al_35 (h : Holds V0 s j) : (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v132 V0)) : (Proc.devRef .tc main_while0b_v135 : DevRef τ sig).ty.Contents (Elt F)) = Cert.Reference5Ideal.Step.b35 j s := by
  unfold Cert.Reference5Ideal.Step.b35
  rw [← al_33 h]
  try rfl
set_option maxRecDepth 8192 in
theorem al_36 (h : Holds V0 s j) : (broadcastInDim S2x2x8x128x128 ![0, 1, 2, 3, 4] bcast_S2x2x8x1x128_S2x2x8x128x128_0_1_2_3_4 (broadcastInDim S2x2x8x1x128 ![0, 1, 2, 4] bcast_S2x2x8x128_S2x2x8x1x128_0_1_2_4 (res_main_while0b_v132 V0)) : (Proc.devRef .tc main_while0b_v136 : DevRef τ sig).ty.Contents (Elt F)) = Cert.Reference5Ideal.Step.b36 j s := by
  unfold Cert.Reference5Ideal.Step.b36
  rw [← al_34 h]
  try rfl
set_option maxRecDepth 8192 in
theorem al_37 (h : Holds V0 s j) : (subf (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v132 V0))) (broadcastInDim S2x2x8x128x128 ![0, 1, 2, 3, 4] bcast_S2x2x8x1x128_S2x2x8x128x128_0_1_2_3_4 (broadcastInDim S2x2x8x1x128 ![0, 1, 2, 4] bcast_S2x2x8x128_S2x2x8x1x128_0_1_2_4 (res_main_while0b_v132 V0))) : (Proc.devRef .tc main_while0b_v137 : DevRef τ sig).ty.Contents (Elt F)) = Cert.Reference5Ideal.Step.b37 j s := by
  unfold Cert.Reference5Ideal.Step.b37
  rw [← al_35 h, ← al_36 h]
  try rfl
set_option maxRecDepth 8192 in
theorem al_38 (h : Holds V0 s j) : (broadcastInDim S2x2x8x1x128 ![0, 1, 2, 4] bcast_S2x2x8x128_S2x2x8x1x128_0_1_2_4 (res_main_while0b_v131 V0) : (Proc.devRef .tc main_while0b_v138 : DevRef τ sig).ty.Contents (Elt F)) = Cert.Reference5Ideal.Step.b38 j s := by
  unfold Cert.Reference5Ideal.Step.b38
  rw [← al_26 h]
  try rfl
set_option maxRecDepth 8192 in
theorem al_39 (h : Holds V0 s j) : (broadcastInDim S2x2x8x128x128 ![0, 1, 2, 3, 4] bcast_S2x2x8x1x128_S2x2x8x128x128_0_1_2_3_4 (broadcastInDim S2x2x8x1x128 ![0, 1, 2, 4] bcast_S2x2x8x128_S2x2x8x1x128_0_1_2_4 (res_main_while0b_v131 V0)) : (Proc.devRef .tc main_while0b_v139 : DevRef τ sig).ty.Contents (Elt F)) = Cert.Reference5Ideal.Step.b39 j s := by
  unfold Cert.Reference5Ideal.Step.b39
  rw [← al_38 h]
  try rfl
set_option maxRecDepth 8192 in
theorem al_40 (h : Holds V0 s j) : (addf (subf (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v132 V0))) (broadcastInDim S2x2x8x128x128 ![0, 1, 2, 3, 4] bcast_S2x2x8x1x128_S2x2x8x128x128_0_1_2_3_4 (broadcastInDim S2x2x8x1x128 ![0, 1, 2, 4] bcast_S2x2x8x128_S2x2x8x1x128_0_1_2_4 (res_main_while0b_v132 V0)))) (broadcastInDim S2x2x8x128x128 ![0, 1, 2, 3, 4] bcast_S2x2x8x1x128_S2x2x8x128x128_0_1_2_3_4 (broadcastInDim S2x2x8x1x128 ![0, 1, 2, 4] bcast_S2x2x8x128_S2x2x8x1x128_0_1_2_4 (res_main_while0b_v131 V0))) : (Proc.devRef .tc main_while0b_v140 : DevRef τ sig).ty.Contents (Elt F)) = Cert.Reference5Ideal.Step.b40 j s := by
  unfold Cert.Reference5Ideal.Step.b40
  rw [← al_37 h, ← al_39 h]
  try rfl
set_option maxRecDepth 8192 in
theorem al_41 (h : Holds V0 s j) : (constant S_ .f32 0xFF800000#32 : (Proc.devRef .tc main_while0b_cst_14 : DevRef τ sig).ty.Contents (Elt F)) = Cert.Reference5Ideal.Step.b41 j s := by
  unfold Cert.Reference5Ideal.Step.b41
  rfl
set_option maxRecDepth 8192 in
theorem al_42 (h : Holds V0 s j) : (id (constant S_ .f32 0xFF800000#32) : (Proc.devRef .tc main_while0b_call16_v0 : DevRef τ sig).ty.Contents (Elt F)) = Cert.Reference5Ideal.Step.b42 j s := by
  unfold Cert.Reference5Ideal.Step.b42
  rw [← al_41 h]
  try rfl
set_option maxRecDepth 8192 in
theorem al_43 (h : Holds V0 s j) : (broadcastInDim S2x2x8x128x128 ![3, 4] bcast_S128x128_S2x2x8x128x128_3_4 (V0 (Proc.devRef .tc main_v103_5)) : (Proc.devRef .tc main_while0b_call16_v1 : DevRef τ sig).ty.Contents (Elt F)) = Cert.Reference5Ideal.Step.b43 j s := by
  unfold Cert.Reference5Ideal.Step.b43
  rw [h.k_5]
  try rfl
set_option maxRecDepth 8192 in
theorem al_44 (h : Holds V0 s j) : (broadcastInDim S2x2x8x128x128 ![] bcast_S_S2x2x8x128x128 (id (constant S_ .f32 0xFF800000#32)) : (Proc.devRef .tc main_while0b_call16_v2 : DevRef τ sig).ty.Contents (Elt F)) = Cert.Reference5Ideal.Step.b44 j s := by
  unfold Cert.Reference5Ideal.Step.b44
  rw [← al_42 h]
  try rfl
set_option maxRecDepth 8192 in
theorem al_45 (h : Holds V0 s j) : (res_main_while0b_v141 V0 : (Proc.devRef .tc main_while0b_v141 : DevRef τ sig).ty.Contents (Elt F)) = Cert.Reference5Ideal.Step.b45 j s := by
  unfold res_main_while0b_v141 Cert.Reference5Ideal.Step.b45
  rw [← al_43 h, ← al_40 h, ← al_44 h]
  try rfl
set_option maxRecDepth 8192 in
theorem al_46 (h : Holds V0 s j) : (broadcastInDim S2x2x8x1 ![0, 1, 2] bcast_S2x2x8_S2x2x8x1_0_1_2 (V0 (Proc.devRef .tc main_v103_9)) : (Proc.devRef .tc main_while0b_v142 : DevRef τ sig).ty.Contents (Elt F)) = Cert.Reference5Ideal.Step.b46 j s := by
  unfold Cert.Reference5Ideal.Step.b46
  rw [h.f_9]
  try rfl
set_option maxRecDepth 8192 in
theorem al_47 (h : Holds V0 s j) : (broadcastInDim S2x2x8x128 ![0, 1, 2, 3] bcast_S2x2x8x1_S2x2x8x128_0_1_2_3 (broadcastInDim S2x2x8x1 ![0, 1, 2] bcast_S2x2x8_S2x2x8x1_0_1_2 (V0 (Proc.devRef .tc main_v103_9))) : (Proc.devRef .tc main_while0b_v143 : DevRef τ sig).ty.Contents (Elt F)) = Cert.Reference5Ideal.Step.b47 j s := by
  unfold Cert.Reference5Ideal.Step.b47
  rw [← al_46 h]
  try rfl
set_option maxRecDepth 8192 in
theorem al_48 (h : Holds V0 s j) : (res_main_while0b_v144 V0 : (Proc.devRef .tc main_while0b_v144 : DevRef τ sig).ty.Contents (Elt F)) = Cert.Reference5Ideal.Step.b48 j s := by
  unfold res_main_while0b_v144 Cert.Reference5Ideal.Step.b48
  rw [← al_32 h, ← al_47 h]
  try rfl
set_option maxRecDepth 8192 in
theorem al_49 (h : Holds V0 s j) : (constant S_ .f32 0xFF800000#32 : (Proc.devRef .tc main_while0b_cst_15 : DevRef τ sig).ty.Contents (Elt F)) = Cert.Reference5Ideal.Step.b49 j s := by
  unfold Cert.Reference5Ideal.Step.b49
  rfl
set_option maxRecDepth 8192 in
theorem al_50 (h : Holds V0 s j) : (Host.reduce FloatOps.maximumf (res_main_while0b_v141 V0) (constant S_ .f32 0xFF800000#32) reducesTo_S2x2x8x128x128_S2x2x8x128_d4 h_S_ : (Proc.devRef .tc main_while0b_v145 : DevRef τ sig).ty.Contents (Elt F)) = Cert.Reference5Ideal.Step.b50 j s := by
  unfold Cert.Reference5Ideal.Step.b50
  rw [← al_45 h, ← al_49 h]
  try rfl
set_option maxRecDepth 8192 in
theorem al_51 (h : Holds V0 s j) : (res_main_while0b_v146 V0 : (Proc.devRef .tc main_while0b_v146 : DevRef τ sig).ty.Contents (Elt F)) = Cert.Reference5Ideal.Step.b51 j s := by
  unfold res_main_while0b_v146 Cert.Reference5Ideal.Step.b51
  rw [← al_50 h, ← al_48 h]
  try rfl
set_option maxRecDepth 8192 in
theorem al_52 (h : Holds V0 s j) : (broadcastInDim S2x2x8x128x1 ![0, 1, 2, 3] bcast_S2x2x8x128_S2x2x8x128x1_0_1_2_3 (res_main_while0b_v146 V0) : (Proc.devRef .tc main_while0b_v147 : DevRef τ sig).ty.Contents (Elt F)) = Cert.Reference5Ideal.Step.b52 j s := by
  unfold Cert.Reference5Ideal.Step.b52
  rw [← al_51 h]
  try rfl
set_option maxRecDepth 8192 in
theorem al_53 (h : Holds V0 s j) : (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v146 V0)) : (Proc.devRef .tc main_while0b_v148 : DevRef τ sig).ty.Contents (Elt F)) = Cert.Reference5Ideal.Step.b53 j s := by
  unfold Cert.Reference5Ideal.Step.b53
  rw [← al_52 h]
  try rfl
set_option maxRecDepth 8192 in
theorem al_54 (h : Holds V0 s j) : (subf (res_main_while0b_v141 V0) (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v146 V0))) : (Proc.devRef .tc main_while0b_v149 : DevRef τ sig).ty.Contents (Elt F)) = Cert.Reference5Ideal.Step.b54 j s := by
  unfold Cert.Reference5Ideal.Step.b54
  rw [← al_45 h, ← al_53 h]
  try rfl
set_option maxRecDepth 8192 in
theorem al_55 (h : Holds V0 s j) : (Host.exp (subf (res_main_while0b_v141 V0) (broadcastInDim S2x2x8x128x128 ![0, 1, 2, 3, 4] bcast_S2x2x8x128x1_S2x2x8x128x128_0_1_2_3_4 (broadcastInDim S2x2x8x128x1 ![0, 1, 2, 3] bcast_S2x2x8x128_S2x2x8x128x1_0_1_2_3 (res_main_while0b_v146 V0)))) : (Proc.devRef .tc main_while0b_v150 : DevRef τ sig).ty.Contents (Elt F)) = Cert.Reference5Ideal.Step.b55 j s := by
  unfold Cert.Reference5Ideal.Step.b55
  rw [← al_54 h]
  try rfl
set_option maxRecDepth 8192 in
theorem al_56 (h : Holds V0 s j) : (subf (res_main_while0b_v144 V0) (res_main_while0b_v146 V0) : (Proc.devRef .tc main_while0b_v151 : DevRef τ sig).ty.Contents (Elt F)) = Cert.Reference5Ideal.Step.b56 j s := by
  unfold Cert.Reference5Ideal.Step.b56
  rw [← al_48 h, ← al_51 h]
  try rfl
set_option maxRecDepth 8192 in
theorem al_57 (h : Holds V0 s j) : (res_main_while0b_v152 V0 : (Proc.devRef .tc main_while0b_v152 : DevRef τ sig).ty.Contents (Elt F)) = Cert.Reference5Ideal.Step.b57 j s := by
  unfold res_main_while0b_v152 Cert.Reference5Ideal.Step.b57
  rw [← al_56 h]
  try rfl
set_option maxRecDepth 8192 in
theorem al_58 (h : Holds V0 s j) : (Host.dotGeneral dot_S2x2x8x128x256_S2x2x8x128x256_S2x2x8x128x128_4_4_3_3_012_012 none (res_main_while0b_v128 V0) (res_main_while0b_v129 V0) : (Proc.devRef .tc main_while0b_v153 : DevRef τ sig).ty.Contents (Elt F)) = Cert.Reference5Ideal.Step.b58 j s := by
  unfold Cert.Reference5Ideal.Step.b58
  rw [← al_6 h, ← al_13 h]
  try rfl
set_option maxRecDepth 8192 in
theorem al_59 (h : Holds V0 s j) : (res_main_while0b_v154 V0 : (Proc.devRef .tc main_while0b_v154 : DevRef τ sig).ty.Contents (Elt F)) = Cert.Reference5Ideal.Step.b59 j s := by
  unfold res_main_while0b_v154 Cert.Reference5Ideal.Step.b59
  rw [← al_58 h, ← al_55 h]
  try rfl
set_option maxRecDepth 8192 in
theorem al_60 (h : Holds V0 s j) : (Host.dotGeneral dot_S2x2x8x128x128_S2x2x8x128x512_S2x2x8x128x512_4_3_3_4_012_012 none (res_main_while0b_v154 V0) (res_main_while0b_v130 V0) : (Proc.devRef .tc main_while0b_v155 : DevRef τ sig).ty.Contents (Elt F)) = Cert.Reference5Ideal.Step.b60 j s := by
  unfold Cert.Reference5Ideal.Step.b60
  rw [← al_59 h, ← al_20 h]
  try rfl
set_option maxRecDepth 8192 in
theorem al_61 (h : Holds V0 s j) : (broadcastInDim S2x2x8x128x1 ![0, 1, 2, 3] bcast_S2x2x8x128_S2x2x8x128x1_0_1_2_3 (res_main_while0b_v152 V0) : (Proc.devRef .tc main_while0b_v156 : DevRef τ sig).ty.Contents (Elt F)) = Cert.Reference5Ideal.Step.b61 j s := by
  unfold Cert.Reference5Ideal.Step.b61
  rw [← al_57 h]
  try rfl
set_option maxRecDepth 8192 in
theorem al_62 (h : Holds V0 s j) : (Host.dotGeneral dot_S2x2x8x128x256_S2x2x8x256x512_S2x2x8x128x512_4_3_3_4_012_012 none (res_main_while0b_v128 V0) (V0 (Proc.devRef .tc main_v103_7)) : (Proc.devRef .tc main_while0b_v157 : DevRef τ sig).ty.Contents (Elt F)) = Cert.Reference5Ideal.Step.b62 j s := by
  unfold Cert.Reference5Ideal.Step.b62
  rw [← al_6 h, h.f_7]
  try rfl
set_option maxRecDepth 8192 in
theorem al_63 (h : Holds V0 s j) : (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0)) : (Proc.devRef .tc main_while0b_v158 : DevRef τ sig).ty.Contents (Elt F)) = Cert.Reference5Ideal.Step.b63 j s := by
  unfold Cert.Reference5Ideal.Step.b63
  rw [← al_61 h]
  try rfl
set_option maxRecDepth 8192 in
theorem al_64 (h : Holds V0 s j) : (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7))) : (Proc.devRef .tc main_while0b_v159 : DevRef τ sig).ty.Contents (Elt F)) = Cert.Reference5Ideal.Step.b64 j s := by
  unfold Cert.Reference5Ideal.Step.b64
  rw [← al_63 h, ← al_62 h]
  try rfl
set_option maxRecDepth 8192 in
theorem al_65 (h : Holds V0 s j) : (addf (Host.dotGeneral dot_S2x2x8x128x128_S2x2x8x128x512_S2x2x8x128x512_4_3_3_4_012_012 none (res_main_while0b_v154 V0) (res_main_while0b_v130 V0)) (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7)))) : (Proc.devRef .tc main_while0b_v160 : DevRef τ sig).ty.Contents (Elt F)) = Cert.Reference5Ideal.Step.b65 j s := by
  unfold Cert.Reference5Ideal.Step.b65
  rw [← al_60 h, ← al_64 h]
  try rfl
set_option maxRecDepth 8192 in
theorem al_66 (h : Holds V0 s j) : (constant S_ .f32 0x00000000#32 : (Proc.devRef .tc main_while0b_cst_16 : DevRef τ sig).ty.Contents (Elt F)) = Cert.Reference5Ideal.Step.b66 j s := by
  unfold Cert.Reference5Ideal.Step.b66
  rfl
set_option maxRecDepth 8192 in
theorem al_67 (h : Holds V0 s j) : (Host.reduceAdd (res_main_while0b_v154 V0) (constant S_ .f32 0x00000000#32) reducesTo_S2x2x8x128x128_S2x2x8x128_d4 h_S_ : (Proc.devRef .tc main_while0b_v161 : DevRef τ sig).ty.Contents (Elt F)) = Cert.Reference5Ideal.Step.b67 j s := by
  unfold Cert.Reference5Ideal.Step.b67
  rw [← al_59 h, ← al_66 h]
  try rfl
set_option maxRecDepth 8192 in
theorem al_68 (h : Holds V0 s j) : (Host.dotGeneral dot_S2x2x8x128x256_S2x2x8x256_S2x2x8x128_4_3_3_n_012_012 none (res_main_while0b_v128 V0) (V0 (Proc.devRef .tc main_v103_8)) : (Proc.devRef .tc main_while0b_v162 : DevRef τ sig).ty.Contents (Elt F)) = Cert.Reference5Ideal.Step.b68 j s := by
  unfold Cert.Reference5Ideal.Step.b68
  rw [← al_6 h, h.f_8]
  try rfl
set_option maxRecDepth 8192 in
theorem al_69 (h : Holds V0 s j) : (mulf (res_main_while0b_v152 V0) (Host.dotGeneral dot_S2x2x8x128x256_S2x2x8x256_S2x2x8x128_4_3_3_n_012_012 none (res_main_while0b_v128 V0) (V0 (Proc.devRef .tc main_v103_8))) : (Proc.devRef .tc main_while0b_v163 : DevRef τ sig).ty.Contents (Elt F)) = Cert.Reference5Ideal.Step.b69 j s := by
  unfold Cert.Reference5Ideal.Step.b69
  rw [← al_57 h, ← al_68 h]
  try rfl
set_option maxRecDepth 8192 in
theorem al_70 (h : Holds V0 s j) : (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))) : (Proc.devRef .tc main_while0b_v164 : DevRef τ sig).ty.Contents (Elt F)) = Cert.Reference5Ideal.Step.b70 j s := by
  unfold Cert.Reference5Ideal.Step.b70
  rw [← al_67 h, ← al_69 h]
  try rfl
set_option maxRecDepth 8192 in
theorem al_71 (h : Holds V0 s j) : (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8))))) : (Proc.devRef .tc main_while0b_v165 : DevRef τ sig).ty.Contents (Elt F)) = Cert.Reference5Ideal.Step.b71 j s := by
  unfold Cert.Reference5Ideal.Step.b71
  rw [← al_70 h]
  try rfl
set_option maxRecDepth 8192 in
theorem al_72 (h : Holds V0 s j) : (Host.negf (res_main_while0b_v146 V0) : (Proc.devRef .tc main_while0b_v166 : DevRef τ sig).ty.Contents (Elt F)) = Cert.Reference5Ideal.Step.b72 j s := by
  unfold Cert.Reference5Ideal.Step.b72
  rw [← al_51 h]
  try rfl
set_option maxRecDepth 8192 in
theorem al_73 (h : Holds V0 s j) : (Host.exp (Host.negf (res_main_while0b_v146 V0)) : (Proc.devRef .tc main_while0b_v167 : DevRef τ sig).ty.Contents (Elt F)) = Cert.Reference5Ideal.Step.b73 j s := by
  unfold Cert.Reference5Ideal.Step.b73
  rw [← al_72 h]
  try rfl
set_option maxRecDepth 8192 in
theorem al_74 (h : Holds V0 s j) : (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0))) : (Proc.devRef .tc main_while0b_v168 : DevRef τ sig).ty.Contents (Elt F)) = Cert.Reference5Ideal.Step.b74 j s := by
  unfold Cert.Reference5Ideal.Step.b74
  rw [← al_71 h, ← al_73 h]
  try rfl
set_option maxRecDepth 8192 in
theorem al_75 (h : Holds V0 s j) : (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0)))) : (Proc.devRef .tc main_while0b_v169 : DevRef τ sig).ty.Contents (Elt F)) = Cert.Reference5Ideal.Step.b75 j s := by
  unfold Cert.Reference5Ideal.Step.b75
  rw [← al_74 h]
  try rfl
set_option maxRecDepth 8192 in
theorem al_76 (h : Holds V0 s j) : (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0))))) : (Proc.devRef .tc main_while0b_v170 : DevRef τ sig).ty.Contents (Elt F)) = Cert.Reference5Ideal.Step.b76 j s := by
  unfold Cert.Reference5Ideal.Step.b76
  rw [← al_75 h]
  try rfl
set_option maxRecDepth 8192 in
theorem al_77 (h : Holds V0 s j) : (Host.divf (addf (Host.dotGeneral dot_S2x2x8x128x128_S2x2x8x128x512_S2x2x8x128x512_4_3_3_4_012_012 none (res_main_while0b_v154 V0) (res_main_while0b_v130 V0)) (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7))))) (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0)))))) : (Proc.devRef .tc main_while0b_v171 : DevRef τ sig).ty.Contents (Elt F)) = Cert.Reference5Ideal.Step.b77 j s := by
  unfold Cert.Reference5Ideal.Step.b77
  rw [← al_65 h, ← al_76 h]
  try rfl
set_option maxRecDepth 8192 in
theorem al_78 (h : Holds V0 s j) : (extractStridedSlice S2x2x8x1 ![0, 0, 0, 127] (res_main_while0b_v132 V0) slices_S2x2x8x128_S2x2x8x1_0_0_0_127 : (Proc.devRef .tc main_while0b_v172 : DevRef τ sig).ty.Contents (Elt F)) = Cert.Reference5Ideal.Step.b78 j s := by
  unfold Cert.Reference5Ideal.Step.b78
  rw [← al_32 h]
  try rfl
set_option maxRecDepth 8192 in
theorem al_79 (h : Holds V0 s j) : (res_main_while0b_v173 V0 : (Proc.devRef .tc main_while0b_v173 : DevRef τ sig).ty.Contents (Elt F)) = Cert.Reference5Ideal.Step.b79 j s := by
  unfold res_main_while0b_v173 Cert.Reference5Ideal.Step.b79
  rw [← al_78 h]
  try rfl
set_option maxRecDepth 8192 in
theorem al_80 (h : Holds V0 s j) : (broadcastInDim S2x2x8x1 ![0, 1, 2] bcast_S2x2x8_S2x2x8x1_0_1_2 (res_main_while0b_v173 V0) : (Proc.devRef .tc main_while0b_v174 : DevRef τ sig).ty.Contents (Elt F)) = Cert.Reference5Ideal.Step.b80 j s := by
  unfold Cert.Reference5Ideal.Step.b80
  rw [← al_79 h]
  try rfl
set_option maxRecDepth 8192 in
theorem al_81 (h : Holds V0 s j) : (broadcastInDim S2x2x8x128 ![0, 1, 2, 3] bcast_S2x2x8x1_S2x2x8x128_0_1_2_3 (broadcastInDim S2x2x8x1 ![0, 1, 2] bcast_S2x2x8_S2x2x8x1_0_1_2 (res_main_while0b_v173 V0)) : (Proc.devRef .tc main_while0b_v175 : DevRef τ sig).ty.Contents (Elt F)) = Cert.Reference5Ideal.Step.b81 j s := by
  unfold Cert.Reference5Ideal.Step.b81
  rw [← al_80 h]
  try rfl
set_option maxRecDepth 8192 in
theorem al_82 (h : Holds V0 s j) : (subf (broadcastInDim S2x2x8x128 ![0, 1, 2, 3] bcast_S2x2x8x1_S2x2x8x128_0_1_2_3 (broadcastInDim S2x2x8x1 ![0, 1, 2] bcast_S2x2x8_S2x2x8x1_0_1_2 (res_main_while0b_v173 V0))) (res_main_while0b_v132 V0) : (Proc.devRef .tc main_while0b_v176 : DevRef τ sig).ty.Contents (Elt F)) = Cert.Reference5Ideal.Step.b82 j s := by
  unfold Cert.Reference5Ideal.Step.b82
  rw [← al_81 h, ← al_32 h]
  try rfl
set_option maxRecDepth 8192 in
theorem al_83 (h : Holds V0 s j) : (res_main_while0b_v177 V0 : (Proc.devRef .tc main_while0b_v177 : DevRef τ sig).ty.Contents (Elt F)) = Cert.Reference5Ideal.Step.b83 j s := by
  unfold res_main_while0b_v177 Cert.Reference5Ideal.Step.b83
  rw [← al_82 h, ← al_26 h]
  try rfl
set_option maxRecDepth 8192 in
theorem al_84 (h : Holds V0 s j) : (addf (res_main_while0b_v173 V0) (V0 (Proc.devRef .tc main_v103_9)) : (Proc.devRef .tc main_while0b_v178 : DevRef τ sig).ty.Contents (Elt F)) = Cert.Reference5Ideal.Step.b84 j s := by
  unfold Cert.Reference5Ideal.Step.b84
  rw [← al_79 h, h.f_9]
  try rfl
set_option maxRecDepth 8192 in
theorem al_85 (h : Holds V0 s j) : (constant S_ .f32 0xFF800000#32 : (Proc.devRef .tc main_while0b_cst_17 : DevRef τ sig).ty.Contents (Elt F)) = Cert.Reference5Ideal.Step.b85 j s := by
  unfold Cert.Reference5Ideal.Step.b85
  rfl
set_option maxRecDepth 8192 in
theorem al_86 (h : Holds V0 s j) : (Host.reduce FloatOps.maximumf (res_main_while0b_v177 V0) (constant S_ .f32 0xFF800000#32) reducesTo_S2x2x8x128_S2x2x8_d3 h_S_ : (Proc.devRef .tc main_while0b_v179 : DevRef τ sig).ty.Contents (Elt F)) = Cert.Reference5Ideal.Step.b86 j s := by
  unfold Cert.Reference5Ideal.Step.b86
  rw [← al_83 h, ← al_85 h]
  try rfl
set_option maxRecDepth 8192 in
theorem al_87 (h : Holds V0 s j) : (res_main_while0b_v180 V0 : (Proc.devRef .tc main_while0b_v180 : DevRef τ sig).ty.Contents (Elt F)) = Cert.Reference5Ideal.Step.b87 j s := by
  unfold res_main_while0b_v180 Cert.Reference5Ideal.Step.b87
  rw [← al_84 h, ← al_86 h]
  try rfl
set_option maxRecDepth 8192 in
theorem al_88 (h : Holds V0 s j) : (addf (res_main_while0b_v173 V0) (V0 (Proc.devRef .tc main_v103_9)) : (Proc.devRef .tc main_while0b_v181 : DevRef τ sig).ty.Contents (Elt F)) = Cert.Reference5Ideal.Step.b88 j s := by
  unfold Cert.Reference5Ideal.Step.b88
  rw [← al_79 h, h.f_9]
  try rfl
set_option maxRecDepth 8192 in
theorem al_89 (h : Holds V0 s j) : (subf (addf (res_main_while0b_v173 V0) (V0 (Proc.devRef .tc main_v103_9))) (res_main_while0b_v180 V0) : (Proc.devRef .tc main_while0b_v182 : DevRef τ sig).ty.Contents (Elt F)) = Cert.Reference5Ideal.Step.b89 j s := by
  unfold Cert.Reference5Ideal.Step.b89
  rw [← al_88 h, ← al_87 h]
  try rfl
set_option maxRecDepth 8192 in
theorem al_90 (h : Holds V0 s j) : (res_main_while0b_v183 V0 : (Proc.devRef .tc main_while0b_v183 : DevRef τ sig).ty.Contents (Elt F)) = Cert.Reference5Ideal.Step.b90 j s := by
  unfold res_main_while0b_v183 Cert.Reference5Ideal.Step.b90
  rw [← al_89 h]
  try rfl
set_option maxRecDepth 8192 in
theorem al_91 (h : Holds V0 s j) : (broadcastInDim S2x2x8x1 ![0, 1, 2] bcast_S2x2x8_S2x2x8x1_0_1_2 (res_main_while0b_v180 V0) : (Proc.devRef .tc main_while0b_v184 : DevRef τ sig).ty.Contents (Elt F)) = Cert.Reference5Ideal.Step.b91 j s := by
  unfold Cert.Reference5Ideal.Step.b91
  rw [← al_87 h]
  try rfl
set_option maxRecDepth 8192 in
theorem al_92 (h : Holds V0 s j) : (broadcastInDim S2x2x8x128 ![0, 1, 2, 3] bcast_S2x2x8x1_S2x2x8x128_0_1_2_3 (broadcastInDim S2x2x8x1 ![0, 1, 2] bcast_S2x2x8_S2x2x8x1_0_1_2 (res_main_while0b_v180 V0)) : (Proc.devRef .tc main_while0b_v185 : DevRef τ sig).ty.Contents (Elt F)) = Cert.Reference5Ideal.Step.b92 j s := by
  unfold Cert.Reference5Ideal.Step.b92
  rw [← al_91 h]
  try rfl
set_option maxRecDepth 8192 in
theorem al_93 (h : Holds V0 s j) : (subf (res_main_while0b_v177 V0) (broadcastInDim S2x2x8x128 ![0, 1, 2, 3] bcast_S2x2x8x1_S2x2x8x128_0_1_2_3 (broadcastInDim S2x2x8x1 ![0, 1, 2] bcast_S2x2x8_S2x2x8x1_0_1_2 (res_main_while0b_v180 V0))) : (Proc.devRef .tc main_while0b_v186 : DevRef τ sig).ty.Contents (Elt F)) = Cert.Reference5Ideal.Step.b93 j s := by
  unfold Cert.Reference5Ideal.Step.b93
  rw [← al_83 h, ← al_92 h]
  try rfl
set_option maxRecDepth 8192 in
theorem al_94 (h : Holds V0 s j) : (Host.exp (subf (res_main_while0b_v177 V0) (broadcastInDim S2x2x8x128 ![0, 1, 2, 3] bcast_S2x2x8x1_S2x2x8x128_0_1_2_3 (broadcastInDim S2x2x8x1 ![0, 1, 2] bcast_S2x2x8_S2x2x8x1_0_1_2 (res_main_while0b_v180 V0)))) : (Proc.devRef .tc main_while0b_v187 : DevRef τ sig).ty.Contents (Elt F)) = Cert.Reference5Ideal.Step.b94 j s := by
  unfold Cert.Reference5Ideal.Step.b94
  rw [← al_93 h]
  try rfl
set_option maxRecDepth 8192 in
theorem al_95 (h : Holds V0 s j) : (broadcastInDim S2x2x8x128x1 ![0, 1, 2, 3] bcast_S2x2x8x128_S2x2x8x128x1_0_1_2_3 (Host.exp (subf (res_main_while0b_v177 V0) (broadcastInDim S2x2x8x128 ![0, 1, 2, 3] bcast_S2x2x8x1_S2x2x8x128_0_1_2_3 (broadcastInDim S2x2x8x1 ![0, 1, 2] bcast_S2x2x8_S2x2x8x1_0_1_2 (res_main_while0b_v180 V0))))) : (Proc.devRef .tc main_while0b_v188 : DevRef τ sig).ty.Contents (Elt F)) = Cert.Reference5Ideal.Step.b95 j s := by
  unfold Cert.Reference5Ideal.Step.b95
  rw [← al_94 h]
  try rfl
set_option maxRecDepth 8192 in
theorem al_96 (h : Holds V0 s j) : (broadcastInDim S2x2x8x128x256 ![0, 1, 2, 3, 4] bcast_S2x2x8x128x1_S2x2x8x128x256_0_1_2_3_4 (broadcastInDim S2x2x8x128x1 ![0, 1, 2, 3] bcast_S2x2x8x128_S2x2x8x128x1_0_1_2_3 (Host.exp (subf (res_main_while0b_v177 V0) (broadcastInDim S2x2x8x128 ![0, 1, 2, 3] bcast_S2x2x8x1_S2x2x8x128_0_1_2_3 (broadcastInDim S2x2x8x1 ![0, 1, 2] bcast_S2x2x8_S2x2x8x1_0_1_2 (res_main_while0b_v180 V0)))))) : (Proc.devRef .tc main_while0b_v189 : DevRef τ sig).ty.Contents (Elt F)) = Cert.Reference5Ideal.Step.b96 j s := by
  unfold Cert.Reference5Ideal.Step.b96
  rw [← al_95 h]
  try rfl
set_option maxRecDepth 8192 in
theorem al_97 (h : Holds V0 s j) : (res_main_while0b_v190 V0 : (Proc.devRef .tc main_while0b_v190 : DevRef τ sig).ty.Contents (Elt F)) = Cert.Reference5Ideal.Step.b97 j s := by
  unfold res_main_while0b_v190 Cert.Reference5Ideal.Step.b97
  rw [← al_96 h, ← al_13 h]
  try rfl
set_option maxRecDepth 8192 in
theorem al_98 (h : Holds V0 s j) : (broadcastInDim S2x2x8x1x1 ![0, 1, 2] bcast_S2x2x8_S2x2x8x1x1_0_1_2 (res_main_while0b_v183 V0) : (Proc.devRef .tc main_while0b_v191 : DevRef τ sig).ty.Contents (Elt F)) = Cert.Reference5Ideal.Step.b98 j s := by
  unfold Cert.Reference5Ideal.Step.b98
  rw [← al_90 h]
  try rfl
set_option maxRecDepth 8192 in
theorem al_99 (h : Holds V0 s j) : (broadcastInDim S2x2x8x256x512 ![0, 1, 2, 3, 4] bcast_S2x2x8x1x1_S2x2x8x256x512_0_1_2_3_4 (broadcastInDim S2x2x8x1x1 ![0, 1, 2] bcast_S2x2x8_S2x2x8x1x1_0_1_2 (res_main_while0b_v183 V0)) : (Proc.devRef .tc main_while0b_v192 : DevRef τ sig).ty.Contents (Elt F)) = Cert.Reference5Ideal.Step.b99 j s := by
  unfold Cert.Reference5Ideal.Step.b99
  rw [← al_98 h]
  try rfl
set_option maxRecDepth 8192 in
theorem al_100 (h : Holds V0 s j) : (mulf (broadcastInDim S2x2x8x256x512 ![0, 1, 2, 3, 4] bcast_S2x2x8x1x1_S2x2x8x256x512_0_1_2_3_4 (broadcastInDim S2x2x8x1x1 ![0, 1, 2] bcast_S2x2x8_S2x2x8x1x1_0_1_2 (res_main_while0b_v183 V0))) (V0 (Proc.devRef .tc main_v103_7)) : (Proc.devRef .tc main_while0b_v193 : DevRef τ sig).ty.Contents (Elt F)) = Cert.Reference5Ideal.Step.b100 j s := by
  unfold Cert.Reference5Ideal.Step.b100
  rw [← al_99 h, h.f_7]
  try rfl
set_option maxRecDepth 8192 in
theorem al_101 (h : Holds V0 s j) : (Host.dotGeneral dot_S2x2x8x128x256_S2x2x8x128x512_S2x2x8x256x512_3_3_4_4_012_012 none (res_main_while0b_v190 V0) (res_main_while0b_v130 V0) : (Proc.devRef .tc main_while0b_v194 : DevRef τ sig).ty.Contents (Elt F)) = Cert.Reference5Ideal.Step.b101 j s := by
  unfold Cert.Reference5Ideal.Step.b101
  rw [← al_97 h, ← al_20 h]
  try rfl
set_option maxRecDepth 8192 in
theorem al_102 (h : Holds V0 s j) : (addf (mulf (broadcastInDim S2x2x8x256x512 ![0, 1, 2, 3, 4] bcast_S2x2x8x1x1_S2x2x8x256x512_0_1_2_3_4 (broadcastInDim S2x2x8x1x1 ![0, 1, 2] bcast_S2x2x8_S2x2x8x1x1_0_1_2 (res_main_while0b_v183 V0))) (V0 (Proc.devRef .tc main_v103_7))) (Host.dotGeneral dot_S2x2x8x128x256_S2x2x8x128x512_S2x2x8x256x512_3_3_4_4_012_012 none (res_main_while0b_v190 V0) (res_main_while0b_v130 V0)) : (Proc.devRef .tc main_while0b_v195 : DevRef τ sig).ty.Contents (Elt F)) = Cert.Reference5Ideal.Step.b102 j s := by
  unfold Cert.Reference5Ideal.Step.b102
  rw [← al_100 h, ← al_101 h]
  try rfl
set_option maxRecDepth 8192 in
theorem al_103 (h : Holds V0 s j) : (broadcastInDim S2x2x8x1 ![0, 1, 2] bcast_S2x2x8_S2x2x8x1_0_1_2 (res_main_while0b_v183 V0) : (Proc.devRef .tc main_while0b_v196 : DevRef τ sig).ty.Contents (Elt F)) = Cert.Reference5Ideal.Step.b103 j s := by
  unfold Cert.Reference5Ideal.Step.b103
  rw [← al_90 h]
  try rfl
set_option maxRecDepth 8192 in
theorem al_104 (h : Holds V0 s j) : (broadcastInDim S2x2x8x256 ![0, 1, 2, 3] bcast_S2x2x8x1_S2x2x8x256_0_1_2_3 (broadcastInDim S2x2x8x1 ![0, 1, 2] bcast_S2x2x8_S2x2x8x1_0_1_2 (res_main_while0b_v183 V0)) : (Proc.devRef .tc main_while0b_v197 : DevRef τ sig).ty.Contents (Elt F)) = Cert.Reference5Ideal.Step.b104 j s := by
  unfold Cert.Reference5Ideal.Step.b104
  rw [← al_103 h]
  try rfl
set_option maxRecDepth 8192 in
theorem al_105 (h : Holds V0 s j) : (mulf (broadcastInDim S2x2x8x256 ![0, 1, 2, 3] bcast_S2x2x8x1_S2x2x8x256_0_1_2_3 (broadcastInDim S2x2x8x1 ![0, 1, 2] bcast_S2x2x8_S2x2x8x1_0_1_2 (res_main_while0b_v183 V0))) (V0 (Proc.devRef .tc main_v103_8)) : (Proc.devRef .tc main_while0b_v198 : DevRef τ sig).ty.Contents (Elt F)) = Cert.Reference5Ideal.Step.b105 j s := by
  unfold Cert.Reference5Ideal.Step.b105
  rw [← al_104 h, h.f_8]
  try rfl
set_option maxRecDepth 8192 in
theorem al_106 (h : Holds V0 s j) : (constant S_ .f32 0x00000000#32 : (Proc.devRef .tc main_while0b_cst_18 : DevRef τ sig).ty.Contents (Elt F)) = Cert.Reference5Ideal.Step.b106 j s := by
  unfold Cert.Reference5Ideal.Step.b106
  rfl
set_option maxRecDepth 8192 in
theorem al_107 (h : Holds V0 s j) : (Host.reduceAdd (res_main_while0b_v190 V0) (constant S_ .f32 0x00000000#32) reducesTo_S2x2x8x128x256_S2x2x8x256_d3 h_S_ : (Proc.devRef .tc main_while0b_v199 : DevRef τ sig).ty.Contents (Elt F)) = Cert.Reference5Ideal.Step.b107 j s := by
  unfold Cert.Reference5Ideal.Step.b107
  rw [← al_97 h, ← al_106 h]
  try rfl
set_option maxRecDepth 8192 in
theorem al_108 (h : Holds V0 s j) : (addf (mulf (broadcastInDim S2x2x8x256 ![0, 1, 2, 3] bcast_S2x2x8x1_S2x2x8x256_0_1_2_3 (broadcastInDim S2x2x8x1 ![0, 1, 2] bcast_S2x2x8_S2x2x8x1_0_1_2 (res_main_while0b_v183 V0))) (V0 (Proc.devRef .tc main_v103_8))) (Host.reduceAdd (res_main_while0b_v190 V0) (constant S_ .f32 0x00000000#32) reducesTo_S2x2x8x128x256_S2x2x8x256_d3 h_S_) : (Proc.devRef .tc main_while0b_v200 : DevRef τ sig).ty.Contents (Elt F)) = Cert.Reference5Ideal.Step.b108 j s := by
  unfold Cert.Reference5Ideal.Step.b108
  rw [← al_105 h, ← al_107 h]
  try rfl
set_option maxRecDepth 8192 in
theorem al_109 (h : Holds V0 s j) : (broadcastInDim S1x2x2x8x128x512 ![1, 2, 3, 4, 5] bcast_S2x2x8x128x512_S1x2x2x8x128x512_1_2_3_4_5 (Host.divf (addf (Host.dotGeneral dot_S2x2x8x128x128_S2x2x8x128x512_S2x2x8x128x512_4_3_3_4_012_012 none (res_main_while0b_v154 V0) (res_main_while0b_v130 V0)) (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7))))) (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0))))))) : (Proc.devRef .tc main_while0b_call17_v0 : DevRef τ sig).ty.Contents (Elt F)) = Cert.Reference5Ideal.Step.b109 j s := by
  unfold Cert.Reference5Ideal.Step.b109
  rw [← al_77 h]
  try rfl
set_option maxRecDepth 8192 in
theorem al_110 (h : Holds V0 s j) : (constantI S_ 32 0#32 : (Proc.devRef .tc main_while0b_call17_c : DevRef τ sig).ty.Contents (Elt F)) = Cert.Reference5Ideal.Step.b110 j s := by
  unfold Cert.Reference5Ideal.Step.b110
  rfl
set_option maxRecDepth 8192 in
theorem al_111 (h : Holds V0 s j) : (constantI S_ 32 0#32 : (Proc.devRef .tc main_while0b_call17_c_0 : DevRef τ sig).ty.Contents (Elt F)) = Cert.Reference5Ideal.Step.b111 j s := by
  unfold Cert.Reference5Ideal.Step.b111
  rfl
set_option maxRecDepth 8192 in
theorem al_112 (h : Holds V0 s j) : (constantI S_ 32 0#32 : (Proc.devRef .tc main_while0b_call17_c_1 : DevRef τ sig).ty.Contents (Elt F)) = Cert.Reference5Ideal.Step.b112 j s := by
  unfold Cert.Reference5Ideal.Step.b112
  rfl
set_option maxRecDepth 8192 in
theorem al_113 (h : Holds V0 s j) : (constantI S_ 32 0#32 : (Proc.devRef .tc main_while0b_call17_c_2 : DevRef τ sig).ty.Contents (Elt F)) = Cert.Reference5Ideal.Step.b113 j s := by
  unfold Cert.Reference5Ideal.Step.b113
  rfl
set_option maxRecDepth 8192 in
theorem al_114 (h : Holds V0 s j) : (constantI S_ 32 0#32 : (Proc.devRef .tc main_while0b_call17_c_3 : DevRef τ sig).ty.Contents (Elt F)) = Cert.Reference5Ideal.Step.b114 j s := by
  unfold Cert.Reference5Ideal.Step.b114
  rfl
set_option maxRecDepth 8192 in
theorem al_115 (h : Holds V0 s j) : (Host.dynamicUpdateSlice (V0 (Proc.devRef .tc main_v103_10)) (broadcastInDim S1x2x2x8x128x512 ![1, 2, 3, 4, 5] bcast_S2x2x8x128x512_S1x2x2x8x128x512_1_2_3_4_5 (Host.divf (addf (Host.dotGeneral dot_S2x2x8x128x128_S2x2x8x128x512_S2x2x8x128x512_4_3_3_4_012_012 none (res_main_while0b_v154 V0) (res_main_while0b_v130 V0)) (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7))))) (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0)))))))) (fun k => (((![V0 (Proc.devRef .tc main_v103_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S66x2x2x8x128x512_S1x2x2x8x128x512 : (Proc.devRef .tc main_while0b_v201 : DevRef τ sig).ty.Contents (Elt F)) = Cert.Reference5Ideal.Step.b115 j s := by
  unfold Cert.Reference5Ideal.Step.b115
  rw [← al_109 h, ← al_110 h, ← al_111 h, ← al_112 h, ← al_113 h, ← al_114 h, h.f_10, h.n_6]
  try rfl

/-! One trip's step of the carried values is `step`, field by field; a counter steps to the next number. -/

theorem step_7 (h : Holds V0 s j) : step_main_v103_7 V0 = (step j s).main_v103_7 := by
  unfold step_main_v103_7 Cert.Reference5Ideal.Step.step
  show id (addf (mulf (broadcastInDim S2x2x8x256x512 ![0, 1, 2, 3, 4] bcast_S2x2x8x1x1_S2x2x8x256x512_0_1_2_3_4 (broadcastInDim S2x2x8x1x1 ![0, 1, 2] bcast_S2x2x8_S2x2x8x1x1_0_1_2 (res_main_while0b_v183 V0))) (V0 (Proc.devRef .tc main_v103_7))) (Host.dotGeneral dot_S2x2x8x128x256_S2x2x8x128x512_S2x2x8x256x512_3_3_4_4_012_012 none (res_main_while0b_v190 V0) (res_main_while0b_v130 V0))) = _
  rw [al_102 h]
  try rfl
theorem step_8 (h : Holds V0 s j) : step_main_v103_8 V0 = (step j s).main_v103_8 := by
  unfold step_main_v103_8 Cert.Reference5Ideal.Step.step
  show id (addf (mulf (broadcastInDim S2x2x8x256 ![0, 1, 2, 3] bcast_S2x2x8x1_S2x2x8x256_0_1_2_3 (broadcastInDim S2x2x8x1 ![0, 1, 2] bcast_S2x2x8_S2x2x8x1_0_1_2 (res_main_while0b_v183 V0))) (V0 (Proc.devRef .tc main_v103_8))) (Host.reduceAdd (res_main_while0b_v190 V0) (constant S_ .f32 0x00000000#32) reducesTo_S2x2x8x128x256_S2x2x8x256_d3 h_S_)) = _
  rw [al_108 h]
  try rfl
theorem step_9 (h : Holds V0 s j) : step_main_v103_9 V0 = (step j s).main_v103_9 := by
  unfold step_main_v103_9 Cert.Reference5Ideal.Step.step
  show id (res_main_while0b_v180 V0) = _
  rw [al_87 h]
  try rfl
theorem step_10 (h : Holds V0 s j) : step_main_v103_10 V0 = (step j s).main_v103_10 := by
  unfold step_main_v103_10 Cert.Reference5Ideal.Step.step
  show id (Host.dynamicUpdateSlice (V0 (Proc.devRef .tc main_v103_10)) (broadcastInDim S1x2x2x8x128x512 ![1, 2, 3, 4, 5] bcast_S2x2x8x128x512_S1x2x2x8x128x512_1_2_3_4_5 (Host.divf (addf (Host.dotGeneral dot_S2x2x8x128x128_S2x2x8x128x512_S2x2x8x128x512_4_3_3_4_012_012 none (res_main_while0b_v154 V0) (res_main_while0b_v130 V0)) (mulf (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (res_main_while0b_v152 V0))) (Host.dotGeneral dot_S2x2x8x128x256_S2x2x8x256x512_S2x2x8x128x512_4_3_3_4_012_012 none (res_main_while0b_v128 V0) (V0 (Proc.devRef .tc main_v103_7))))) (broadcastInDim S2x2x8x128x512 ![0, 1, 2, 3, 4] bcast_S2x2x8x128x1_S2x2x8x128x512_0_1_2_3_4 (broadcastInDim S2x2x8x128x1 ![0, 1, 2, 3] bcast_S2x2x8x128_S2x2x8x128x1_0_1_2_3 (maximumf (Host.absf (addf (Host.reduceAdd (res_main_while0b_v154 V0) (constant S_ .f32 0x00000000#32) reducesTo_S2x2x8x128x128_S2x2x8x128_d4 h_S_) (mulf (res_main_while0b_v152 V0) (Host.dotGeneral dot_S2x2x8x128x256_S2x2x8x256_S2x2x8x128_4_3_3_n_012_012 none (res_main_while0b_v128 V0) (V0 (Proc.devRef .tc main_v103_8)))))) (Host.exp (Host.negf (res_main_while0b_v146 V0)))))))) (fun k => (((![V0 (Proc.devRef .tc main_v103_6), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S66x2x2x8x128x512_S1x2x2x8x128x512) = _
  exact al_115 h
theorem step_6 (h : Holds V0 s j) : step_main_v103_6 V0 = constantI S_ 32 (BitVec.ofNat 32 (j + 1)) := by
  unfold step_main_v103_6
  rw [h.n_6]
  funext i
  show BitVec.ofNat 32 j + 1#32 = BitVec.ofNat 32 (j + 1)
  simp only [BitVec.ofNat_add]

set_option maxRecDepth 8192 in
theorem out_main_v127_holds (h : Holds V0 s j) : out_main_v127 V0 = Cert.Reference5Ideal.Step.R_main_v127 s := by
  unfold out_main_v127 Cert.Reference5Ideal.Step.R_main_v127
  rw [h.f_10]
  try rfl

/-- One trip keeps the valuation holding: `step` of the state, the same set-up values, the next number. -/
theorem holds_step (h : Holds V0 s j) : Holds (STEP V0) (step j s) (j + 1) where
  f_7 := (STEP_main_v103_7 V0).trans (step_7 h)
  f_8 := (STEP_main_v103_8 V0).trans (step_8 h)
  f_9 := (STEP_main_v103_9 V0).trans (step_9 h)
  f_10 := (STEP_main_v103_10 V0).trans (step_10 h)
  n_6 := (STEP_main_v103_6 V0).trans (step_6 h)
  k_5 := (STEP_main_v103_5 V0).trans h.k_5
  f_0 := (STEP_main_v103_0 V0).trans h.f_0
  f_1 := (STEP_main_v103_1 V0).trans h.f_1
  f_2 := (STEP_main_v103_2 V0).trans h.f_2
  f_3 := (STEP_main_v103_3 V0).trans h.f_3
  f_4 := (STEP_main_v103_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 20000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference5Ideal` terminates with each result at its field of state
    number 66 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v127) = Cert.Reference5Ideal.Step.R_main_v127 (it c 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 66
    ⟨(h c).1.trans (out_main_v127_holds hk), (h c).2.1, (h c).2.2.1, (h c).2.2.2.1, (h c).2.2.2.2⟩) (Value.run m ρ)

end Scan.Hold

end
-- ==== Proof.Scan.lean ====
module

public import proofs.«01_k».proof.Proof.ScanPoint
public import proofs.«01_k».proof.Proof.ScanIter
public import proofs.«01_k».proof.Proof.ScanRun
public import proofs.«01_k».proof.Defs

/-! # The gated recurrence: the kernel's result is the reference's -/

@[expose] public section

set_option maxRecDepth 16384
set_option backward.proofsInPublic true

noncomputable section

open Idealize.ShloMosaic Idealize.ShloMosaic.TcCoe Idealize.SL.Sem

namespace Scan

/-- The states of the reference's run on core `c`. -/
def iters (m : (ℓ : Loc Cert.Reference5Ideal.nD Cert.Reference5Ideal.τ Cert.Reference5Ideal.sig) → Buf (Elt Ideal) ℓ) (c : Dev Cert.Reference5Ideal.nD) : ℕ → Cert.Reference5Ideal.Step.State Ideal :=
  iter (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))
    (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))

/-- The gated recurrence: both programs return the recurrence's outputs. -/
theorem algebraic [Cert.Kernel5Ideal.Facts] [Cert.Reference5Ideal.Facts] : Cert.algebraic_Kernel5Ideal_Reference5Ideal := by
  pair_intro
  · run_from Cert.Kernel5Ideal.Gen.run_main m g
  · run_from Hold.run_iter m' g' (iters m') (fun _ => rfl) (fun _ _ => rfl)
    refine (ref_result _ _ _ _).trans (Eq.trans ?_ (final m c).symm)
    obtain ⟨h0, h1, h2, h3⟩ := hagree c
    rw [h0, h1, h2, h3]

end Scan

end
-- ==== Proof.HeadOut.lean ====
module

public import proofs.«01_k».proof.Proof.Gen.Kernel6Ideal.Value
public import proofs.«01_k».proof.Proof.Gen.Reference6Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.HeadOut

open Cert.Kernel6Ideal Cert.Kernel6Ideal.Gen

variable (m : (ℓ : Loc nD τ sig) → Buf (Elt Ideal) ℓ)

/-- The two directions' sum at head `h`, entry `k` of a row. -/
def both (x : FVec Ideal S2x16896x4096 .bf16) (r : Fin 16896) (h : Fin 8) (k : Fin 512) : EReal :=
  x (ix3 0 r ⟨h.val * 512 + k.val, by omega⟩) + x (ix3 1 r ⟨h.val * 512 + k.val, by omega⟩)

/-- What both programs state: the directions' sum, normed over its head, under the sigmoid of the output gate. -/
def headed (x : FVec Ideal S2x16896x4096 .bf16) (p : FVec Ideal S16896x32768 .bf16) (g : FVec Ideal S8x512 .f32) :
    FVec Ideal S16896x4096 .bf16 := fun i =>
  have hc : (i 1).val < 4096 := (i 1).isLt
  let h : Fin 8 := ⟨(i 1).val / 512, by omega⟩
  let e : Fin 512 := ⟨(i 1).val % 512, by omega⟩
  (x (ix3 0 (i 0) (i 1)) + x (ix3 1 (i 0) (i 1))) * Ideal.rsqrt (Ideal.div (∑ k, both x (i 0) h k * both x (i 0) h k) (Ideal.ofBits .f32 0x44000000#32)
      + Ideal.ofBits .f32 0x358637BD#32) * g (ix2 h e)
    * Ideal.div 1 (1 + Ideal.exp (0 - p (ix2 (i 0) ⟨20480 + (i 1).val, by omega⟩)))

theorem idx : ∀ t : Fin cfg0.N, win0_0.index t = ![0, (grid0.coords t 0).val, (grid0.coords t 1).val]
    ∧ win0_1.index t = ![(grid0.coords t 0).val, 40 + (grid0.coords t 1).val]
    ∧ win0_2.index t = ![(grid0.coords t 1).val, 0, 0]
    ∧ win0_3.index t = ![(grid0.coords t 0).val, (grid0.coords t 1).val] :=
  (by decide +kernel : ∀ t : Fin grid0.N, _)

/-- Where the block's element `y` stands in the result. -/
abbrev at_ (t : Fin cfg0.N) (y : S256x512.Idx) : S16896x4096.Idx := ((cfg0.win 3).blk t).view.emb y

theorem col (t : Fin cfg0.N) (y : S256x512.Idx) : (at_ t y 1).val = (grid0.coords t 1).val * 512 + (y 1).val := by
  show (((cfg0.win 3).blk t).view.emb y 1).val = _
  blk_simp [idx t]

theorem row (t : Fin cfg0.N) (y : S256x512.Idx) : (at_ t y 0).val = (grid0.coords t 0).val * 256 + (y 0).val := by
  show (((cfg0.win 3).blk t).view.emb y 0).val = _
  blk_simp [idx t]

theorem blk0 (c : Dev nD) (t : Fin cfg0.N) (y : S256x512.Idx) (a : Fin 2) (x : Fin 512) (j : Fin 4096)
    (hj : j.val = (grid0.coords t 1).val * 512 + x.val) :
    (iblk m c 0 t : FVec Ideal S2x256x512 .bf16) (ix3 a (y 0) x) = (m ((c : Thread nD τ).loc main_arg0) : FVec Ideal S2x16896x4096 .bf16) (ix3 a (at_ t y 0) j) := by
  blk_point [iblk, V, idx t]
  exact (row t y).symm

theorem blk1 (c : Dev nD) (t : Fin cfg0.N) (y : S256x512.Idx) (j : Fin 32768) (hj : j.val = 20480 + (at_ t y 1).val) :
    (iblk m c 1 t : FVec Ideal S256x512 .bf16) y = (m ((c : Thread nD τ).loc main_arg1) : FVec Ideal S16896x32768 .bf16) (ix2 (at_ t y 0) j) := by
  rw [col] at hj
  blk_point [iblk, V, idx t]
  exact (row t y).symm

theorem blk2 (c : Dev nD) (t : Fin cfg0.N) (y : S256x512.Idx) (h : Fin 8) (e : Fin 512) (hh : h.val = (at_ t y 1).val / 512)
    (he : e.val = (at_ t y 1).val % 512) :
    (iblk m c 2 t : FVec Ideal S1x1x512 .f32) (ix3 0 0 (y 1)) = (m ((c : Thread nD τ).loc main_arg2) : FVec Ideal S8x512 .f32) (ix2 h e) := by
  have h5 : (y 1).val < 512 := (y 1).isLt
  rw [col] at hh he
  have hh' : h.val = (grid0.coords t 1).val := by omega
  have he' : e.val = (y 1).val := by omega
  blk_point [iblk, V, idx t]

theorem point (c : Dev nD) (t : Fin cfg0.N) (y : S256x512.Idx) :
    k0_pay1 (View.ld (iblk m c 0 t) r0_0) (View.ld (iblk m c 0 t) r0_1) (iblk m c 2 t) (iblk m c 1 t) y
    = headed (m ((c : Thread nD τ).loc main_arg0)) (m ((c : Thread nD τ).loc main_arg1)) (m ((c : Thread nD τ).loc main_arg2))
        (at_ t y) := by
  have h5 : (y 1).val < 512 := (y 1).isLt
  have hc := col t y
  pointwise [k0_pay1]
  unfold headed both
  refine congrArg₂ (· * ·) (congrArg₂ (· * ·) (congrArg₂ (· * ·) (congrArg₂ (· + ·) (blk0 m c t y 0 (y 1) _ hc) (blk0 m c t y 1 (y 1) _ hc)) ?_)
    (blk2 m c t y _ _ rfl rfl)) (congrArg (fun z : EReal => Ideal.div 1 (1 + Ideal.exp (0 - z))) (blk1 m c t y _ rfl))
  refine congrArg (fun z : EReal => Ideal.rsqrt (Ideal.div z _ + _)) (Finset.sum_congr rfl fun x _ => ?_)
  have hx : (at_ t y 1).val / 512 * 512 + x.val = (grid0.coords t 1).val * 512 + x.val := by omega
  exact congrArg₂ (· * ·) (congrArg₂ (· + ·) (blk0 m c t y 0 x _ hx) (blk0 m c t y 1 x _ hx))
    (congrArg₂ (· + ·) (blk0 m c t y 0 x _ hx) (blk0 m c t y 1 x _ hx))

theorem final (c : Dev nD) : (dats m 0 c).arrAt 3 (cfgs 0).N
    = headed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.HeadOut

namespace Cert.Proof.HeadOut

open Cert.Reference6Ideal Cert.Reference6Ideal.Gen Cert.Reference6Ideal.Read

theorem ref (x : FVec Ideal S2x16896x4096 .bf16) (p : FVec Ideal S16896x32768 .bf16) (g : FVec Ideal S8x512 .f32) :
    val_main_v32 (F := Ideal) x p g = headed x p g := by
  funext i
  idx_vars i
  pointwise [val_main_v32, val_main_v31, val_main_v30, val_main_v29, val_main_v28, val_main_cst_3, val_main_v27, val_main_v26, val_main_cst_2, val_main_v25, val_main_v24, val_main_v23, val_main_v22, val_main_v21, val_main_v20, val_main_v19, val_main_v18, val_main_v17, val_main_v16, val_main_v15, val_main_cst_1, val_main_v14, val_main_v13, val_main_cst_0, val_main_v12, val_main_v11, val_main_cst, val_main_v10, val_main_v9, val_main_v8, val_main_v7, val_main_v6, val_main_v5, val_main_v4, val_main_v3, val_main_v2, val_main_v1, val_main_v0, both, headed]
  rw [zero_sub]

/-- The heads' norm under the output gate. -/
theorem algebraic [Cert.Kernel6Ideal.Facts] [Cert.Reference6Ideal.Facts] : Cert.algebraic_Kernel6Ideal_Reference6Ideal := by
  pair_intro
  · run_from Cert.Kernel6Ideal.Gen.run_main m g
  · run_from Cert.Reference6Ideal.Value.run m' g'
    rw [Cert.Reference6Ideal.Read.val_main_v32_eq]
    exact (ref _ _ _).trans (final m c).symm

end Cert.Proof.HeadOut

end
-- ==== Proof.Ada.lean ====
module

public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Ada

open Cert.Kernel7Ideal Cert.Kernel7Ideal.Gen

variable (m : (ℓ : Loc nD τ sig) → Buf (Elt Ideal) ℓ)

/-- What both programs state: each layer's product of the activated conditioning rows, and its bias. -/
def modulated (x : FVec Ideal S8x4096 .f32) (w : FVec Ideal S2x4096x24576 .f32) (b : FVec Ideal S2x24576 .f32) :
    FVec Ideal S2x8x24576 .f32 := fun i =>
  (∑ k : Fin 4096, x (ix2 (i 1) k) * Ideal.div 1 (1 + Ideal.exp (0 - x (ix2 (i 1) k))) * w (ix3 (i 0) k (i 2))) + b (ix2 (i 0) (i 2))

theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

theorem point (c : Dev nD) (t : Fin cfg0.N) (y) :
    k0_pay1 (iblk m c 0 t) (iblk m c 1 t) (iblk m c 2 t) y
    = modulated (m ((c : Thread nD τ).loc main_arg0)) (m ((c : Thread nD τ).loc main_arg1)) (m ((c : Thread nD τ).loc main_arg2)) (((cfg0.win 3).blk t).view.emb y) := by
  pointwise [k0_pay1, modulated]
  blk_point [iblk, V, idx t]

theorem final (c : Dev nD) : (dats m 0 c).arrAt 3 (cfgs 0).N
    = modulated (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.Ada

namespace Cert.Proof.Ada

open Cert.Reference7Ideal Cert.Reference7Ideal.Gen Cert.Reference7Ideal.Read

theorem ref (x : FVec Ideal S8x4096 .f32) (w : FVec Ideal S2x4096x24576 .f32) (b : FVec Ideal S2x24576 .f32) :
    val_main_v20 (F := Ideal) x w b = modulated x w b := by
  funext i
  idx_vars i
  pointwise [val_main_v20, val_main_v19, val_main_v18, val_main_v17, val_main_v16, val_main_v15, val_main_v14, val_main_v13, val_main_v12, val_main_v11, val_main_v10, val_main_v9, val_main_call1_v5, val_main_call1_v4, val_main_call1_cst_0, val_main_call1_v3, val_main_call1_v2, val_main_call1_cst, val_main_call1_v1, val_main_call1_v0, val_main_v8, val_main_v7, val_main_v6, val_main_v5, val_main_v4, val_main_v3, val_main_v2, val_main_v1, val_main_v0, val_main_call0_v5, val_main_call0_v4, val_main_call0_cst_0, val_main_call0_v3, val_main_call0_v2, val_main_call0_cst, val_main_call0_v1, val_main_call0_v0, modulated]
  simp only [zero_sub]
  rcases (show i0 = 0 ∨ i0 = 1 by omega) with rfl | rfl
  · exact dif_pos Nat.one_pos
  · exact dif_neg (lt_irrefl 1)

/-- The modulations. -/
theorem algebraic [Cert.Kernel7Ideal.Facts] [Cert.Reference7Ideal.Facts] : Cert.algebraic_Kernel7Ideal_Reference7Ideal := by
  pair_intro
  · run_from Cert.Kernel7Ideal.Gen.run_main m g
  · run_from Cert.Reference7Ideal.Value.run m' g'
    rw [Cert.Reference7Ideal.Read.val_main_v20_eq]
    rw [(hagree c).2.2]
    exact (ref _ _ _).trans (final m c).symm

end Cert.Proof.Ada

end
-- ==== Proof.Norm.lean ====
module

public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Norm

open Cert.Kernel8Ideal Cert.Kernel8Ideal.Gen

variable (m : (ℓ : Loc nD τ sig) → Buf (Elt Ideal) ℓ)

/-- Modulation row `k` of row `r`'s segment (a batch, or the context). -/
def seg (r : Fin 16896) (k : Fin 6) : Fin 96 := if r.val < 16384 then ⟨r.val / 8192 * 6 + k.val, by omega⟩ else ⟨12 + k.val, by omega⟩

/-- What both programs state: the root-mean-square norm of a row, scaled and shifted by its segment's modulations. -/
def normed (h : FVec Ideal S16896x4096 .f32) (g : FVec Ideal S4096 .f32) (mo : FVec Ideal S96x1x4096 .f32) :
    FVec Ideal S16896x4096 .bf16 := fun i =>
  h (ix2 (i 0) (i 1)) * Ideal.rsqrt (Ideal.div (∑ k : Fin 4096, h (ix2 (i 0) k) * h (ix2 (i 0) k)) (Ideal.ofBits .f32 0x45800000#32)
      + Ideal.ofBits .f32 0x358637BD#32) * g (ix1 (i 1)) * (1 + mo (ix3 (seg (i 0) 1) 0 (i 1))) + mo (ix3 (seg (i 0) 0) 0 (i 1))

theorem seg_val (r : Fin 16896) (k : Fin 6) (q a : ℕ) (ha : a < 256) (h : r.val = q * 256 + a) :
    (seg r k).val = (if q < 64 then q / 32 * 6 else 12) + k.val := by
  unfold seg
  by_cases hq : q < 64
  · rw [if_pos hq, if_pos (by omega)]
    show r.val / 8192 * 6 + k.val = _
    omega
  · rw [if_neg hq, if_neg (by omega)]

theorem idx : ∀ t : Fin cfg0.N, win0_0.index t = ![(grid0.coords t 0).val, 0] ∧ win0_1.index t = ![0, 0]
    ∧ win0_2.index t = ![(if (grid0.coords t 0).val < 64 then (grid0.coords t 0).val / 32 * 6 else 12) + 0, 0, 0]
    ∧ win0_3.index t = ![(if (grid0.coords t 0).val < 64 then (grid0.coords t 0).val / 32 * 6 else 12) + 1, 0, 0]
    ∧ win0_4.index t = ![(grid0.coords t 0).val, 0] :=
  (by decide +kernel : ∀ t : Fin grid0.N, _)

theorem point (c : Dev nD) (t : Fin cfg0.N) (y) :
    k0_pay1 (iblk m c 0 t) (iblk m c 1 t) (iblk m c 3 t) (iblk m c 2 t) y
    = normed (m ((c : Thread nD τ).loc main_arg0)) (m ((c : Thread nD τ).loc main_arg1)) (m ((c : Thread nD τ).loc main_arg2)) (((cfg0.win 4).blk t).view.emb y) := by
  pointwise [k0_pay1, normed]
  blk_point [iblk, V, idx t]
  · refine Eq.symm (seg_val _ 1 _ (y 0).val (by omega) ?_)
    blk_simp [idx t]
  · refine Eq.symm (seg_val _ 0 _ (y 0).val (by omega) ?_)
    blk_simp [idx t]

theorem final (c : Dev nD) : (dats m 0 c).arrAt 4 (cfgs 0).N
    = normed (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.Proof.Norm

namespace Cert.Proof.Norm

open Cert.Reference8Ideal Cert.Reference8Ideal.Gen Cert.Reference8Ideal.Read

theorem ref (h : FVec Ideal S16896x4096 .f32) (g : FVec Ideal S4096 .f32) (mo : FVec Ideal S96x1x4096 .f32) :
    val_main_v58 (F := Ideal) h g mo = normed h g mo := by
  funext i
  idx_vars i
  pointwise [val_main_v58, val_main_v57, val_main_v56, val_main_v55, val_main_v54, val_main_v53, val_main_v52, val_main_v51, val_main_v50, val_main_v49, val_main_v48, val_main_v47, val_main_v46, val_main_cst_6, val_main_v45, val_main_v44, val_main_v43, val_main_v42, val_main_v41, val_main_v40, val_main_v39, val_main_v38, val_main_v37, val_main_v36, val_main_cst_5, val_main_v35, val_main_v34, val_main_cst_4, val_main_v33, val_main_v32, val_main_cst_3, val_main_v31, val_main_v30, val_main_v29, val_main_v28, val_main_v27, val_main_v26, val_main_v25, val_main_v24, val_main_v23, val_main_v22, val_main_v21, val_main_cst_2, val_main_v20, val_main_v19, val_main_v18, val_main_v17, val_main_v16, val_main_v15, val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0, normed]
  unfold seg
  by_cases hi : i0.val < 16384
  · have e : ∀ h', (⟨i0.val / 8192 * 8192 + i0.val % 8192, h'⟩ : Fin 16896) = i0 := fun h' => Fin.ext (by show i0.val / 8192 * 8192 + i0.val % 8192 = i0.val; omega)
    simp only [dif_pos hi, if_pos hi, e]
    rfl
  · have e' : ∀ h', (⟨16384 + (i0.val - 16384), h'⟩ : Fin 16896) = i0 := fun h' => Fin.ext (by show 16384 + (i0.val - 16384) = i0.val; omega)
    simp only [dif_neg hi, if_neg hi, e']
    rfl

/-- The first norm. -/
theorem algebraic [Cert.Kernel8Ideal.Facts] [Cert.Reference8Ideal.Facts] : Cert.algebraic_Kernel8Ideal_Reference8Ideal := by
  pair_intro
  · run_from Cert.Kernel8Ideal.Gen.run_main m g
  · run_from Cert.Reference8Ideal.Value.run m' g'
    rw [Cert.Reference8Ideal.Read.val_main_v58_eq]
    rw [(hagree c).1, (hagree c).2.1, (hagree c).2.2]
    exact (ref _ _ _).trans (final m c).symm

end Cert.Proof.Norm

end
-- ==== Proof.Resid.lean ====
module

public import proofs.«01_k».proof.Proof.Gen.Kernel9Ideal.Value
public import proofs.«01_k».proof.Proof.Gen.Reference9Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Resid

open Cert.Kernel9Ideal Cert.Kernel9Ideal.Gen

variable (m : (ℓ : Loc nD τ sig) → Buf (Elt Ideal) ℓ)

/-- What both programs state: the latent rows with the gated branch added, the context's rows as they are. -/
def added (h : FVec Ideal S16896x4096 .f32) (f : FVec Ideal S16384x4096 .f32) (mo : FVec Ideal S96x1x4096 .f32) :
    FVec Ideal S16896x4096 .f32 := fun i =>
  if hr : (i 0).val < 16384 then
    h (ix2 (i 0) (i 1)) + mo (ix3 ⟨(8 + (i 0).val / 8192) * 6 + 5, by omega⟩ 0 (i 1)) * f (ix2 ⟨(i 0).val, hr⟩ (i 1))
  else h (ix2 (i 0) (i 1))

theorem idx : ∀ t : Fin cfg0.N, win0_0.index t = ![(grid0.coords t 0).val, 0] ∧ win0_1.index t = ![(grid0.coords t 0).val, 0]
    ∧ win0_2.index t = ![(8 + (grid0.coords t 0).val / 32) * 6 + 5, 0, 0]
    ∧ win0_3.index t = ![(grid0.coords t 0).val, 0] :=
  (by decide +kernel : ∀ t : Fin grid0.N, _)

theorem final (c : Dev nD) : (dats m 0 c).arrAt 3 (cfgs 0).N
    = added (m ((c : Thread nD τ).loc main_arg0)) (m ((c : Thread nD τ).loc main_arg1)) (m ((c : Thread nD τ).loc main_arg2)) := by
  refine (dats m 0 c).arrAt_eq_of_coversWhere_of_agree 3 _ (fun β => β 0 < 64) (by decide +kernel) (fun t _ y => ?_) (fun j hj => ?_)
  · blk_simp
    rw [after0_3]; frame_out
    pointwise [k0_pay1, added]
    blk_point [iblk, V, idx t]
    rename_i hn _
    refine absurd ?_ hn
    have h0 : (grid0.coords t 0).val < 64 := (grid0.coords t 0).isLt
    blk_simp [idx t]
    omega
  · blk_simp [Pipeline.Window.cell_apply] at hj
    rw [added, dif_neg (by blk_simp; omega)]
    rw [A_eq]
    have e : V m c main_v0 = m ((c : Thread nD τ).loc main_arg0) := by
      unfold V hostOps0
      after_results
      rfl
    show V m c main_v0 _ = _
    rw [e]
    refine congrArg _ (funext fun a => Fin.ext ?_)
    match a with
    | 0 => rfl
    | 1 => rfl

end Cert.Proof.Resid

namespace Cert.Proof.Resid

open Cert.Reference9Ideal Cert.Reference9Ideal.Gen Cert.Reference9Ideal.Read

theorem ref (h : FVec Ideal S16896x4096 .f32) (f : FVec Ideal S16384x4096 .f32) (mo : FVec Ideal S96x1x4096 .f32) :
    val_main_v12 (F := Ideal) h f mo = added h f mo := by
  funext i
  idx_vars i
  pointwise [val_main_v12, val_main_v11, val_main_v10, val_main_v9, val_main_v8, val_main_v7, val_main_v6, val_main_v5, val_main_v4, val_main_v3, val_main_v2, val_main_v1, val_main_v0, added]
  by_cases hi : i0.val < 16384
  · have e : ∀ h', (⟨i0.val / 8192 * 8192 + i0.val % 8192, h'⟩ : Fin 16896) = i0 := fun h' => Fin.ext (by show i0.val / 8192 * 8192 + i0.val % 8192 = i0.val; omega)
    have e1 : ∀ h', (⟨i0.val / 8192 * 8192 + i0.val % 8192, h'⟩ : Fin 16384) = ⟨i0.val, hi⟩ := fun h' => Fin.ext (by show i0.val / 8192 * 8192 + i0.val % 8192 = i0.val; omega)
    have e2 : ∀ h' h'', (⟨48 + i0.val / 8192 * 6 + 5, h'⟩ : Fin 96) = ⟨(8 + i0.val / 8192) * 6 + 5, h''⟩ := fun h' h'' => Fin.ext (by show 48 + i0.val / 8192 * 6 + 5 = (8 + i0.val / 8192) * 6 + 5; omega)
    rw [dif_pos hi, dif_pos hi, e, e1, e2]
  · have e' : ∀ h', (⟨16384 + (i0.val - 16384), h'⟩ : Fin 16896) = i0 := fun h' => Fin.ext (by show 16384 + (i0.val - 16384) = i0.val; omega)
    rw [dif_neg hi, dif_neg hi, e']

/-- The last residual. -/
theorem algebraic [Cert.Kernel9Ideal.Facts] [Cert.Reference9Ideal.Facts] : Cert.algebraic_Kernel9Ideal_Reference9Ideal := by
  pair_intro
  · run_from Cert.Kernel9Ideal.Gen.run_main m g
  · run_from Cert.Reference9Ideal.Value.run m' g'
    rw [Cert.Reference9Ideal.Read.val_main_v12_eq]
    rw [(hagree c).2.2]
    exact (ref _ _ _).trans (final m c).symm

end Cert.Proof.Resid

end
-- ==== Proof.ResidNorm.lean ====
module

public import proofs.«01_k».proof.Proof.Gen.Kernel10Ideal.Value
public import proofs.«01_k».proof.Proof.Gen.Reference10Ideal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.ResidNorm

open Cert.Kernel10Ideal Cert.Kernel10Ideal.Gen

variable (m : (ℓ : Loc nD τ sig) → Buf (Elt Ideal) ℓ)

/-- Modulation row `k` of row `r`'s segment (a batch, or the context) in the first layer. -/
def seg (r : Fin 16896) (k : Fin 6) : Fin 96 := if r.val < 16384 then ⟨r.val / 8192 * 6 + k.val, by omega⟩ else ⟨12 + k.val, by omega⟩

/-- The same in the second layer. -/
def seg' (r : Fin 16896) (k : Fin 6) : Fin 96 := if r.val < 16384 then ⟨48 + r.val / 8192 * 6 + k.val, by omega⟩ else ⟨60 + k.val, by omega⟩

/-- The rows with the gated branch of the first layer added. -/
def added (h f : FVec Ideal S16896x4096 .f32) (mo : FVec Ideal S96x1x4096 .f32) : FVec Ideal S16896x4096 .f32 := fun i =>
  h (ix2 (i 0) (i 1)) + mo (ix3 (seg (i 0) 5) 0 (i 1)) * f (ix2 (i 0) (i 1))

/-- The root-mean-square norm of those rows, scaled and shifted by their segment's modulations in the second layer. -/
def normed (h f : FVec Ideal S16896x4096 .f32) (g : FVec Ideal S4096 .f32) (mo : FVec Ideal S96x1x4096 .f32) :
    FVec Ideal S16896x4096 .bf16 := fun i =>
  added h f mo (ix2 (i 0) (i 1)) * Ideal.rsqrt (Ideal.div (∑ k : Fin 4096, added h f mo (ix2 (i 0) k) * added h f mo (ix2 (i 0) k)) (Ideal.ofBits .f32 0x45800000#32)
      + Ideal.ofBits .f32 0x358637BD#32) * g (ix1 (i 1)) * (1 + mo (ix3 (seg' (i 0) 1) 0 (i 1))) + mo (ix3 (seg' (i 0) 0) 0 (i 1))

theorem seg_val (r : Fin 16896) (k : Fin 6) (q a : ℕ) (ha : a < 256) (h : r.val = q * 256 + a) :
    (seg r k).val = (if q < 64 then q / 32 * 6 else 12) + k.val := by
  unfold seg
  by_cases hq : q < 64
  · rw [if_pos hq, if_pos (by omega)]
    show r.val / 8192 * 6 + k.val = _
    omega
  · rw [if_neg hq, if_neg (by omega)]

theorem seg'_val (r : Fin 16896) (k : Fin 6) (q a : ℕ) (ha : a < 256) (h : r.val = q * 256 + a) :
    (seg' r k).val = (if q < 64 then 48 + q / 32 * 6 else 60) + k.val := by
  unfold seg'
  by_cases hq : q < 64
  · rw [if_pos hq, if_pos (by omega)]
    show 48 + r.val / 8192 * 6 + k.val = _
    omega
  · rw [if_neg hq, if_neg (by omega)]

theorem idx : ∀ t : Fin cfg0.N, win0_0.index t = ![(grid0.coords t 0).val, 0] ∧ win0_1.index t = ![(grid0.coords t 0).val, 0]
    ∧ win0_2.index t = ![(if (grid0.coords t 0).val < 64 then (grid0.coords t 0).val / 32 * 6 else 12) + 5, 0, 0]
    ∧ win0_3.index t = ![0, 0]
    ∧ win0_4.index t = ![(if (grid0.coords t 0).val < 64 then 48 + (grid0.coords t 0).val / 32 * 6 else 60) + 0, 0, 0]
    ∧ win0_5.index t = ![(if (grid0.coords t 0).val < 64 then 48 + (grid0.coords t 0).val / 32 * 6 else 60) + 1, 0, 0]
    ∧ win0_6.index t = ![(grid0.coords t 0).val, 0] ∧ win0_7.index t = ![(grid0.coords t 0).val, 0] :=
  (by decide +kernel : ∀ t : Fin grid0.N, _)

/-- The residual's block at one point. -/
theorem point6 (c : Dev nD) (t : Fin cfg0.N) (y) :
    k0_pay1 (iblk m c 0 t) (iblk m c 2 t) (iblk m c 1 t) y
    = added (m ((c : Thread nD τ).loc main_arg0)) (m ((c : Thread nD τ).loc main_arg1)) (m ((c : Thread nD τ).loc main_arg3)) (((cfg0.win 6).blk t).view.emb y) := by
  pointwise [k0_pay1, added]
  blk_point [iblk, V, idx t]
  refine Eq.symm (seg_val _ 5 _ (y 0).val (by omega) ?_)
  blk_simp [idx t]

/-- The norm's block at one point, from the residual's. -/
theorem pay2 (h : FVec Ideal S256x4096 .f32) (ga : FVec Ideal S1x1x4096 .f32) (f : FVec Ideal S256x4096 .f32) (g : FVec Ideal S1x4096 .f32) (sc sh : FVec Ideal S1x1x4096 .f32) (y : S256x4096.Idx) :
    k0_pay2 (F := Ideal) h ga f g sc sh y
    = k0_pay1 (F := Ideal) h ga f (ix2 (y 0) (y 1)) * Ideal.rsqrt (Ideal.div (∑ k : Fin 4096, k0_pay1 (F := Ideal) h ga f (ix2 (y 0) k) * k0_pay1 (F := Ideal) h ga f (ix2 (y 0) k)) (Ideal.ofBits .f32 0x45800000#32)
      + Ideal.ofBits .f32 0x358637BD#32) * g (ix2 0 (y 1)) * (1 + sc (ix3 0 0 (y 1))) + sh (ix3 0 0 (y 1)) := by
  idx_vars y
  pointwise [k0_pay1, k0_pay2]

theorem point7 (c : Dev nD) (t : Fin cfg0.N) (y) :
    k0_pay2 (iblk m c 0 t) (iblk m c 2 t) (iblk m c 1 t) (iblk m c 3 t) (iblk m c 5 t) (iblk m c 4 t) y
    = normed (m ((c : Thread nD τ).loc main_arg0)) (m ((c : Thread nD τ).loc main_arg1)) (m ((c : Thread nD τ).loc main_arg2)) (m ((c : Thread nD τ).loc main_arg3)) (((cfg0.win 7).blk t).view.emb y) := by
  rw [pay2]
  simp only [point6]
  unfold normed
  have e1 : iblk m c 3 t (ix2 0 (y 1)) = (m ((c : Thread nD τ).loc main_arg2) : FVec Ideal S4096 .f32) (ix1 ((((cfg0.win 7).blk t).view.emb y) 1)) := by
    blk_point [iblk, V, idx t]
  have e2 : iblk m c 5 t (ix3 0 0 (y 1)) = (m ((c : Thread nD τ).loc main_arg3) : FVec Ideal S96x1x4096 .f32) (ix3 (seg' ((((cfg0.win 7).blk t).view.emb y) 0) 1) 0 ((((cfg0.win 7).blk t).view.emb y) 1)) := by
    blk_point [iblk, V, idx t]
    refine Eq.symm (seg'_val _ 1 _ (y 0).val (by omega) ?_)
    blk_simp [idx t]
  have e3 : iblk m c 4 t (ix3 0 0 (y 1)) = (m ((c : Thread nD τ).loc main_arg3) : FVec Ideal S96x1x4096 .f32) (ix3 (seg' ((((cfg0.win 7).blk t).view.emb y) 0) 0) 0 ((((cfg0.win 7).blk t).view.emb y) 1)) := by
    blk_point [iblk, V, idx t]
    refine Eq.symm (seg'_val _ 0 _ (y 0).val (by omega) ?_)
    blk_simp [idx t]
  have e4 : ∀ k : Fin 4096, (((cfg0.win 6).blk t).view.emb (ix2 (y 0) k) : S16896x4096.Idx) = ix2 ((((cfg0.win 7).blk t).view.emb y) 0) k := fun k => by
    blk_ext [idx t]
  have e5 : (((cfg0.win 6).blk t).view.emb (ix2 (y 0) (y 1)) : S16896x4096.Idx) = ix2 ((((cfg0.win 7).blk t).view.emb y) 0) ((((cfg0.win 7).blk t).view.emb y) 1) := by
    blk_ext [idx t]
  rw [e1, e2, e3]
  simp only [e4]
  exact congrArg (fun a : EReal => a * _ * _ * _ + _) (congrArg (added _ _ _) e5)

theorem final6 (c : Dev nD) : (dats m 0 c).arrAt 6 (cfgs 0).N
    = added (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

theorem final7 (c : Dev nD) : (dats m 0 c).arrAt 7 (cfgs 0).N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]; frame_out
  exact point7 m c t y

end Cert.Proof.ResidNorm

namespace Cert.Proof.ResidNorm

open Cert.Reference10Ideal Cert.Reference10Ideal.Gen Cert.Reference10Ideal.Read

theorem ref6 (h f : FVec Ideal S16896x4096 .f32) (mo : FVec Ideal S96x1x4096 .f32) :
    val_main_v70 (F := Ideal) h f mo = added h f mo := by
  funext i
  idx_vars i
  pointwise [val_main_v70, val_main_v69, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, added]
  unfold seg
  by_cases hi : i0.val < 16384
  · have e : ∀ h', (⟨i0.val / 8192 * 8192 + i0.val % 8192, h'⟩ : Fin 16896) = i0 := fun h' => Fin.ext (by show i0.val / 8192 * 8192 + i0.val % 8192 = i0.val; omega)
    simp only [dif_pos hi, if_pos hi, e]
    rfl
  · have e' : ∀ h', (⟨16384 + (i0.val - 16384), h'⟩ : Fin 16896) = i0 := fun h' => Fin.ext (by show 16384 + (i0.val - 16384) = i0.val; omega)
    simp only [dif_neg hi, if_neg hi, e']
    rfl

theorem ref7 (h f : FVec Ideal S16896x4096 .f32) (g : FVec Ideal S4096 .f32) (mo : FVec Ideal S96x1x4096 .f32) :
    val_main_v73 (F := Ideal) h f g mo = normed h f g mo := by
  funext i
  idx_vars i
  pointwise [val_main_v73, val_main_v72, val_main_v71, val_main_v68, val_main_v67, val_main_v66, val_main_v65, val_main_v64, val_main_v63, val_main_v62, val_main_v61, val_main_v60, val_main_v59, val_main_cst_6, val_main_v58, val_main_v57, val_main_v56, val_main_v55, val_main_v54, val_main_v53, val_main_v52, val_main_v51, val_main_v50, val_main_v49, val_main_cst_5, val_main_v48, val_main_v47, val_main_cst_4, val_main_v46, val_main_v45, val_main_cst_3, val_main_v44, val_main_v43, val_main_v42, val_main_v41, val_main_v40, val_main_v39, val_main_v38, val_main_v37, val_main_v36, val_main_v35, val_main_cst_2, val_main_v34, val_main_v33, val_main_v32, val_main_v31, val_main_v30, val_main_v29, val_main_v28, val_main_v27, val_main_v26, val_main_v25, val_main_v24, val_main_cst_1, val_main_v23, val_main_v22, val_main_cst_0, val_main_v21, val_main_v20, val_main_cst, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, normed, added]
  unfold seg seg'
  by_cases hi : i0.val < 16384
  · have e : ∀ h', (⟨i0.val / 8192 * 8192 + i0.val % 8192, h'⟩ : Fin 16896) = i0 := fun h' => Fin.ext (by show i0.val / 8192 * 8192 + i0.val % 8192 = i0.val; omega)
    simp only [dif_pos hi, if_pos hi, e]
    rfl
  · have e' : ∀ h', (⟨16384 + (i0.val - 16384), h'⟩ : Fin 16896) = i0 := fun h' => Fin.ext (by show 16384 + (i0.val - 16384) = i0.val; omega)
    simp only [dif_neg hi, if_neg hi, e']
    rfl

/-- The residual and the norm between the layers. -/
theorem algebraic [Cert.Kernel10Ideal.Facts] [Cert.Reference10Ideal.Facts] : Cert.algebraic_Kernel10Ideal_Reference10Ideal := by
  pair_intro
  · run_from Cert.Kernel10Ideal.Gen.run_main m g
  · run_from Cert.Reference10Ideal.Value.run m' g'
    · rw [Cert.Reference10Ideal.Read.val_main_v70_eq]
      rw [(hagree c).2.2.2]
      exact (ref6 _ _ _).trans (final6 m c).symm
    · rw [Cert.Reference10Ideal.Read.val_main_v73_eq]
      rw [(hagree c).1, (hagree c).2.1, (hagree c).2.2.1, (hagree c).2.2.2]
      exact (ref7 _ _ _ _).trans (final7 m c).symm

end Cert.Proof.ResidNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Pre_finite_inputs
public import proofs.«01_k».proof.Proof.Ref
public import proofs.«01_k».proof.Proof.InProj
public import proofs.«01_k».proof.Proof.Merge
public import proofs.«01_k».proof.Proof.OutProj
public import proofs.«01_k».proof.Proof.Scan
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.HeadOut
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Ada
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Norm
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Resid
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.ResidNorm
public import Idealize.ShloMosaic.Adequacy
public import Idealize.ShloMosaic.Init

@[expose] public section

noncomputable section

namespace Cert.Proof

open Idealize.ShloMosaic Idealize.SL.Sem Cert.Kernel

/-- The reference `ReferenceIdeal` runs and leaves its arguments; it has no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The reference `Reference2Ideal` runs and leaves its arguments; it has no semaphore. -/
theorem frame_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The reference `Reference3Ideal` runs and leaves its arguments; it has no semaphore. -/
theorem frame_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- The reference `Reference4Ideal` runs and leaves its arguments; it has no semaphore. -/
theorem frame_Reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- The reference `Reference5Ideal` runs and leaves its arguments; it has no semaphore. -/
theorem frame_Reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- The reference `Reference6Ideal` runs and leaves its arguments; it has no semaphore. -/
theorem frame_Reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- The reference `Reference7Ideal` runs and leaves its arguments; it has no semaphore. -/
theorem frame_Reference7Ideal : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

/-- The reference `Reference8Ideal` runs and leaves its arguments; it has no semaphore. -/
theorem frame_Reference8Ideal : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- The reference `Reference9Ideal` runs and leaves its arguments; it has no semaphore. -/
theorem frame_Reference9Ideal : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- The reference `Reference10Ideal` runs and leaves its arguments; it has no semaphore. -/
theorem frame_Reference10Ideal : Cert.quiescent_Reference10Ideal (hReference10Ideal := Cert.Reference10Ideal.Gen.facts) := fun m ρ _ =>
  (θ_run Cert.Reference10Ideal.defs _ _).mono (fun r h => ⟨fun c => (h c).2.2, sem_eq_zero_of_no_sems (by decide) r.2⟩)
    (Cert.Reference10Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  fun m ρ _ => Cert.Kernel6.Gen.frame m ρ,
  fun m ρ _ => Cert.Kernel6Ideal.Gen.frame m ρ,
  frame_Reference6Ideal,
  fun m ρ _ => Cert.Kernel7.Gen.frame m ρ,
  fun m ρ _ => Cert.Kernel7Ideal.Gen.frame m ρ,
  frame_Reference7Ideal,
  fun m ρ _ => Cert.Kernel8.Gen.frame m ρ,
  fun m ρ _ => Cert.Kernel8Ideal.Gen.frame m ρ,
  frame_Reference8Ideal,
  fun m ρ _ => Cert.Kernel9.Gen.frame m ρ,
  fun m ρ _ => Cert.Kernel9Ideal.Gen.frame m ρ,
  frame_Reference9Ideal,
  fun m ρ _ => Cert.Kernel10.Gen.frame m ρ,
  fun m ρ _ => Cert.Kernel10Ideal.Gen.frame m ρ,
  frame_Reference10Ideal,
  trivial,
  Cert.Proof.Attn.algebraic,
  trivial,
  Cert.Proof.InProj.algebraic,
  trivial,
  Cert.Proof.Merge.algebraic,
  trivial,
  Cert.Proof.OutProj.algebraic,
  IdealRules.named_const.statement Cert.Kernel5Ideal.κ "mask" .f32 0xF149F2CA#32 ⊥ rfl,
  Scan.algebraic,
  trivial,
  HeadOut.algebraic,
  trivial,
  Ada.algebraic,
  trivial,
  Norm.algebraic,
  trivial,
  Resid.algebraic,
  trivial,
  ResidNorm.algebraic⟩

end Cert.Proof

end
